-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v48)) (v2 : (c : Dev Cert.KernelIdeal.nD) → Buf (Elt Ideal) ((c.tc : Thread Cert.KernelIdeal.nD Cert.KernelIdeal.τ).loc Cert.KernelIdeal.main_v49)) (v3 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_v49) = v2 c
          ∧ r.2.mem ((c.tc : Thread Cert.KernelIdeal.nD Cert.KernelIdeal.τ).loc Cert.KernelIdeal.main_v51) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x50x128 : Shape := ⟨3, ![1024, 50, 128]⟩
abbrev S128x32 : Shape := ⟨2, ![128, 32]⟩
abbrev S32 : Shape := ⟨1, ![32]⟩
abbrev S32x16 : Shape := ⟨2, ![32, 16]⟩
abbrev S16 : Shape := ⟨1, ![16]⟩
abbrev S160x128 : Shape := ⟨2, ![160, 128]⟩
abbrev S128 : Shape := ⟨1, ![128]⟩
abbrev S48x32 : Shape := ⟨2, ![48, 32]⟩
abbrev S16x1 : Shape := ⟨2, ![16, 1]⟩
abbrev S1 : Shape := ⟨1, ![1]⟩
abbrev S_ : Shape := ⟨0, ![]⟩
abbrev S2 : Shape := ⟨1, ![2]⟩
abbrev S50 : Shape := ⟨1, ![50]⟩
abbrev S50x1 : Shape := ⟨2, ![50, 1]⟩
abbrev S50x2 : Shape := ⟨2, ![50, 2]⟩
abbrev S1x1 : Shape := ⟨2, ![1, 1]⟩
abbrev S1024x50 : Shape := ⟨2, ![1024, 50]⟩
abbrev S1x1024x50 : Shape := ⟨3, ![1, 1024, 50]⟩
abbrev S50x1x1 : Shape := ⟨3, ![50, 1, 1]⟩
abbrev S50x1024x50 : Shape := ⟨3, ![50, 1024, 50]⟩
abbrev S1x1x1 : Shape := ⟨3, ![1, 1, 1]⟩
abbrev S50x50x1024 : Shape := ⟨3, ![50, 50, 1024]⟩
abbrev S50x1024x128 : Shape := ⟨3, ![50, 1024, 128]⟩
abbrev S128x128 : Shape := ⟨2, ![128, 128]⟩
abbrev S32x128 : Shape := ⟨2, ![32, 128]⟩
abbrev S16x32 : Shape := ⟨2, ![16, 32]⟩
abbrev S32x32 : Shape := ⟨2, ![32, 32]⟩
abbrev S1x32x1x32 : Shape := ⟨4, ![1, 32, 1, 32]⟩
abbrev S1x32x8x32 : Shape := ⟨4, ![1, 32, 8, 32]⟩
abbrev S32x256 : Shape := ⟨2, ![32, 256]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S8x8 : Shape := ⟨2, ![8, 8]⟩
abbrev S8x1x8x1 : Shape := ⟨4, ![8, 1, 8, 1]⟩
abbrev S1x32x1x16 : Shape := ⟨4, ![1, 32, 1, 16]⟩
abbrev S8x32x8x16 : Shape := ⟨4, ![8, 32, 8, 16]⟩
abbrev S256x128 : Shape := ⟨2, ![256, 128]⟩
abbrev S1x16 : Shape := ⟨2, ![1, 16]⟩
abbrev S8x16 : Shape := ⟨2, ![8, 16]⟩
abbrev S1x128 : Shape := ⟨2, ![1, 128]⟩
abbrev S1x16x1x1 : Shape := ⟨4, ![1, 16, 1, 1]⟩
abbrev S8x16x8x1 : Shape := ⟨4, ![8, 16, 8, 1]⟩
abbrev S128x8 : Shape := ⟨2, ![128, 8]⟩
abbrev S50x1024 : Shape := ⟨2, ![50, 1024]⟩
abbrev S50x256x128 : Shape := ⟨3, ![50, 256, 128]⟩
abbrev S50x50x256 : Shape := ⟨3, ![50, 50, 256]⟩
abbrev S50x256 : Shape := ⟨2, ![50, 256]⟩
abbrev S12800x128 : Shape := ⟨2, ![12800, 128]⟩
abbrev S12800x32 : Shape := ⟨2, ![12800, 32]⟩
abbrev S12800x16 : Shape := ⟨2, ![12800, 16]⟩
abbrev S50x256x16 : Shape := ⟨3, ![50, 256, 16]⟩
abbrev S6x256x16 : Shape := ⟨3, ![6, 256, 16]⟩
abbrev S56x256x16 : Shape := ⟨3, ![56, 256, 16]⟩
abbrev S7x8x256x16 : Shape := ⟨4, ![7, 8, 256, 16]⟩
abbrev S7x1x256x16 : Shape := ⟨4, ![7, 1, 256, 16]⟩
abbrev S7x256x16 : Shape := ⟨3, ![7, 256, 16]⟩
abbrev S1792x16 : Shape := ⟨2, ![1792, 16]⟩
abbrev S1792x32 : Shape := ⟨2, ![1792, 32]⟩
abbrev S1792x256 : Shape := ⟨2, ![1792, 256]⟩
abbrev S7x256x256 : Shape := ⟨3, ![7, 256, 256]⟩
abbrev S50x256x1 : Shape := ⟨3, ![50, 256, 1]⟩
abbrev S256x32 : Shape := ⟨2, ![256, 32]⟩
abbrev S256x256 : Shape := ⟨2, ![256, 256]⟩
abbrev S1x256x256 : Shape := ⟨3, ![1, 256, 256]⟩
abbrev S1792x128 : Shape := ⟨2, ![1792, 128]⟩
abbrev S1792x8 : Shape := ⟨2, ![1792, 8]⟩
abbrev S7x256x8 : Shape := ⟨3, ![7, 256, 8]⟩
abbrev S7x8x256 : Shape := ⟨3, ![7, 8, 256]⟩
abbrev S56x256 : Shape := ⟨2, ![56, 256]⟩
abbrev S1x50x256 : Shape := ⟨3, ![1, 50, 256]⟩
abbrev S256x1 : Shape := ⟨2, ![256, 1]⟩
abbrev S1x256x1 : Shape := ⟨3, ![1, 256, 1]⟩
abbrev S1024x50x50 : Shape := ⟨3, ![1024, 50, 50]⟩
abbrev S51200x1 : Shape := ⟨2, ![51200, 1]⟩

abbrev nBuf : Space → Nat
  | .hbm => 596
  | .vmem => 26
  | .smem => 0
  | _ => 0

abbrev hbmTy0_0 (i : Nat) : BufTy := match i % 128 with
  | 0 => ⟨S1024x50x128, .f32⟩
  | 1 => ⟨S128x32, .f32⟩
  | 2 => ⟨S32, .f32⟩
  | 3 => ⟨S32x16, .f32⟩
  | 4 => ⟨S16, .f32⟩
  | 5 => ⟨S160x128, .f32⟩
  | 6 => ⟨S128, .f32⟩
  | 7 => ⟨S48x32, .f32⟩
  | 8 => ⟨S32, .f32⟩
  | 9 => ⟨S32x16, .f32⟩
  | 10 => ⟨S16, .f32⟩
  | 11 => ⟨S16x1, .f32⟩
  | 12 => ⟨S1, .f32⟩
  | 13 => ⟨S_, .i32⟩
  | 14 => ⟨S_, .i32⟩
  | 15 => ⟨S_, .i32⟩
  | 16 => ⟨S_, .i32⟩
  | 17 => ⟨S1, .i32⟩
  | 18 => ⟨S_, .i32⟩
  | 19 => ⟨S_, .i32⟩
  | 20 => ⟨S_, .i32⟩
  | 21 => ⟨S1, .i32⟩
  | 22 => ⟨S2, .i32⟩
  | 23 => ⟨S50, .i32⟩
  | 24 => ⟨S50, .i32⟩
  | 25 => ⟨S_, .i32⟩
  | 26 => ⟨S50, .i32⟩
  | 27 => ⟨S50, .i32⟩
  | 28 => ⟨S50x1, .i32⟩
  | 29 => ⟨S_, .i32⟩
  | 30 => ⟨S50, .i32⟩
  | 31 => ⟨S50, .i32⟩
  | 32 => ⟨S50x1, .i32⟩
  | 33 => ⟨S50x2, .i32⟩
  | 34 => ⟨S1, .i32⟩
  | 35 => ⟨S_, .i32⟩
  | 36 => ⟨S1, .i32⟩
  | 37 => ⟨S_, .i32⟩
  | 38 => ⟨S50x1, .i32⟩
  | 39 => ⟨S50x1, .i32⟩
  | 40 => ⟨S_, .i32⟩
  | 41 => ⟨S_, .i32⟩
  | 42 => ⟨S_, .i32⟩
  | 43 => ⟨S50x1, .i32⟩
  | 44 => ⟨S50x1, .i32⟩
  | 45 => ⟨S50x1, .i32⟩
  | 46 => ⟨S50x1, .i32⟩
  | 47 => ⟨S50x1, .i32⟩
  | 48 => ⟨S_, .i32⟩
  | 49 => ⟨S50x1, .i32⟩
  | 50 => ⟨S50x1, .i32⟩
  | 51 => ⟨S_, .i32⟩
  | 52 => ⟨S50x1, .i32⟩
  | 53 => ⟨S50x1, .i32⟩
  | 54 => ⟨S50x1, .i32⟩
  | 55 => ⟨S50x1, .i32⟩
  | 56 => ⟨S50x1, .i32⟩
  | 57 => ⟨S_, .i32⟩
  | 58 => ⟨S50x1, .i32⟩
  | 59 => ⟨S50x1, .i32⟩
  | 60 => ⟨S_, .i32⟩
  | 61 => ⟨S50x1, .i32⟩
  | 62 => ⟨S50x1, .i32⟩
  | 63 => ⟨S50x1, .i32⟩
  | 64 => ⟨S50x1, .i32⟩
  | 65 => ⟨S50x1, .i32⟩
  | 66 => ⟨S_, .i32⟩
  | 67 => ⟨S50x1, .i32⟩
  | 68 => ⟨S50x1, .i32⟩
  | 69 => ⟨S_, .i32⟩
  | 70 => ⟨S50x1, .i32⟩
  | 71 => ⟨S50x1, .i32⟩
  | 72 => ⟨S50x1, .i32⟩
  | 73 => ⟨S50x1, .i32⟩
  | 74 => ⟨S50x1, .i32⟩
  | 75 => ⟨S_, .i32⟩
  | 76 => ⟨S50x1, .i32⟩
  | 77 => ⟨S50x1, .i32⟩
  | 78 => ⟨S_, .i32⟩
  | 79 => ⟨S50x1, .i32⟩
  | 80 => ⟨S50x1, .i32⟩
  | 81 => ⟨S50x1, .i32⟩
  | 82 => ⟨S50x1, .i32⟩
  | 83 => ⟨S50x1, .i32⟩
  | 84 => ⟨S50x1, .i32⟩
  | 85 => ⟨S50x1, .i32⟩
  | 86 => ⟨S50x1, .i32⟩
  | 87 => ⟨S_, .i32⟩
  | 88 => ⟨S50x1, .i32⟩
  | 89 => ⟨S50x1, .i32⟩
  | 90 => ⟨S50x1, .i32⟩
  | 91 => ⟨S_, .i32⟩
  | 92 => ⟨S50x1, .i32⟩
  | 93 => ⟨S50x1, .i32⟩
  | 94 => ⟨S_, .i32⟩
  | 95 => ⟨S50x1, .i32⟩
  | 96 => ⟨S50x1, .i32⟩
  | 97 => ⟨S50x1, .i32⟩
  | 98 => ⟨S50x1, .i32⟩
  | 99 => ⟨S50x1, .i32⟩
  | 100 => ⟨S_, .i32⟩
  | 101 => ⟨S50x1, .i32⟩
  | 102 => ⟨S50x1, .i32⟩
  | 103 => ⟨S_, .i32⟩
  | 104 => ⟨S50x1, .i32⟩
  | 105 => ⟨S50x1, .i32⟩
  | 106 => ⟨S50x1, .i32⟩
  | 107 => ⟨S50x1, .i32⟩
  | 108 => ⟨S50x1, .i32⟩
  | 109 => ⟨S_, .i32⟩
  | 110 => ⟨S50x1, .i32⟩
  | 111 => ⟨S50x1, .i32⟩
  | 112 => ⟨S_, .i32⟩
  | 113 => ⟨S50x1, .i32⟩
  | 114 => ⟨S50x1, .i32⟩
  | 115 => ⟨S50x1, .i32⟩
  | 116 => ⟨S50x1, .i32⟩
  | 117 => ⟨S50x1, .i32⟩
  | 118 => ⟨S_, .i32⟩
  | 119 => ⟨S50x1, .i32⟩
  | 120 => ⟨S50x1, .i32⟩
  | 121 => ⟨S_, .i32⟩
  | 122 => ⟨S50x1, .i32⟩
  | 123 => ⟨S50x1, .i32⟩
  | 124 => ⟨S50x1, .i32⟩
  | 125 => ⟨S50x1, .i32⟩
  | 126 => ⟨S50x1, .i32⟩
  | 127 => ⟨S50x1, .i32⟩
  | _ => ⟨S1024x50x128, .f32⟩

abbrev hbmTy0_1 (i : Nat) : BufTy := match i % 128 with
  | 0 => ⟨S50x1, .i32⟩
  | 1 => ⟨S50x1, .i32⟩
  | 2 => ⟨S_, .i32⟩
  | 3 => ⟨S50x1, .i32⟩
  | 4 => ⟨S50x1, .i32⟩
  | 5 => ⟨S50x1, .i32⟩
  | 6 => ⟨S_, .i32⟩
  | 7 => ⟨S50x1, .i32⟩
  | 8 => ⟨S50x1, .i32⟩
  | 9 => ⟨S_, .i32⟩
  | 10 => ⟨S50x1, .i32⟩
  | 11 => ⟨S50x1, .i32⟩
  | 12 => ⟨S50x1, .i32⟩
  | 13 => ⟨S50x1, .i32⟩
  | 14 => ⟨S50x1, .i32⟩
  | 15 => ⟨S_, .i32⟩
  | 16 => ⟨S50x1, .i32⟩
  | 17 => ⟨S50x1, .i32⟩
  | 18 => ⟨S_, .i32⟩
  | 19 => ⟨S50x1, .i32⟩
  | 20 => ⟨S50x1, .i32⟩
  | 21 => ⟨S50x1, .i32⟩
  | 22 => ⟨S50x1, .i32⟩
  | 23 => ⟨S50x1, .i32⟩
  | 24 => ⟨S_, .i32⟩
  | 25 => ⟨S50x1, .i32⟩
  | 26 => ⟨S50x1, .i32⟩
  | 27 => ⟨S_, .i32⟩
  | 28 => ⟨S50x1, .i32⟩
  | 29 => ⟨S50x1, .i32⟩
  | 30 => ⟨S50x1, .i32⟩
  | 31 => ⟨S50x1, .i32⟩
  | 32 => ⟨S50x1, .i32⟩
  | 33 => ⟨S_, .i32⟩
  | 34 => ⟨S50x1, .i32⟩
  | 35 => ⟨S50x1, .i32⟩
  | 36 => ⟨S_, .i32⟩
  | 37 => ⟨S50x1, .i32⟩
  | 38 => ⟨S50x1, .i32⟩
  | 39 => ⟨S50x1, .i32⟩
  | 40 => ⟨S50x1, .i32⟩
  | 41 => ⟨S50x1, .i32⟩
  | 42 => ⟨S50x1, .i32⟩
  | 43 => ⟨S50x1, .i32⟩
  | 44 => ⟨S50x1, .i32⟩
  | 45 => ⟨S_, .i32⟩
  | 46 => ⟨S50x1, .i32⟩
  | 47 => ⟨S50x1, .i32⟩
  | 48 => ⟨S50x1, .i32⟩
  | 49 => ⟨S_, .i32⟩
  | 50 => ⟨S50x1, .i32⟩
  | 51 => ⟨S50x1, .i32⟩
  | 52 => ⟨S_, .i32⟩
  | 53 => ⟨S50x1, .i32⟩
  | 54 => ⟨S50x1, .i32⟩
  | 55 => ⟨S50x1, .i32⟩
  | 56 => ⟨S50x1, .i32⟩
  | 57 => ⟨S50x1, .i32⟩
  | 58 => ⟨S_, .i32⟩
  | 59 => ⟨S50x1, .i32⟩
  | 60 => ⟨S50x1, .i32⟩
  | 61 => ⟨S_, .i32⟩
  | 62 => ⟨S50x1, .i32⟩
  | 63 => ⟨S50x1, .i32⟩
  | 64 => ⟨S50x1, .i32⟩
  | 65 => ⟨S50x1, .i32⟩
  | 66 => ⟨S50x1, .i32⟩
  | 67 => ⟨S_, .i32⟩
  | 68 => ⟨S50x1, .i32⟩
  | 69 => ⟨S50x1, .i32⟩
  | 70 => ⟨S_, .i32⟩
  | 71 => ⟨S50x1, .i32⟩
  | 72 => ⟨S50x1, .i32⟩
  | 73 => ⟨S50x1, .i32⟩
  | 74 => ⟨S50x1, .i32⟩
  | 75 => ⟨S50x1, .i32⟩
  | 76 => ⟨S_, .i32⟩
  | 77 => ⟨S50x1, .i32⟩
  | 78 => ⟨S50x1, .i32⟩
  | 79 => ⟨S_, .i32⟩
  | 80 => ⟨S50x1, .i32⟩
  | 81 => ⟨S50x1, .i32⟩
  | 82 => ⟨S50x1, .i32⟩
  | 83 => ⟨S50x1, .i32⟩
  | 84 => ⟨S50x1, .i32⟩
  | 85 => ⟨S50x1, .i32⟩
  | 86 => ⟨S50x1, .i32⟩
  | 87 => ⟨S50x1, .i32⟩
  | 88 => ⟨S_, .i32⟩
  | 89 => ⟨S50x1, .i32⟩
  | 90 => ⟨S50x1, .i32⟩
  | 91 => ⟨S50x1, .i32⟩
  | 92 => ⟨S_, .i32⟩
  | 93 => ⟨S50x1, .i32⟩
  | 94 => ⟨S50x1, .i32⟩
  | 95 => ⟨S_, .i32⟩
  | 96 => ⟨S50x1, .i32⟩
  | 97 => ⟨S50x1, .i32⟩
  | 98 => ⟨S50x1, .i32⟩
  | 99 => ⟨S50x1, .i32⟩
  | 100 => ⟨S50x1, .i32⟩
  | 101 => ⟨S_, .i32⟩
  | 102 => ⟨S50x1, .i32⟩
  | 103 => ⟨S50x1, .i32⟩
  | 104 => ⟨S_, .i32⟩
  | 105 => ⟨S50x1, .i32⟩
  | 106 => ⟨S50x1, .i32⟩
  | 107 => ⟨S50x1, .i32⟩
  | 108 => ⟨S50x1, .i32⟩
  | 109 => ⟨S50x1, .i32⟩
  | 110 => ⟨S_, .i32⟩
  | 111 => ⟨S50x1, .i32⟩
  | 112 => ⟨S50x1, .i32⟩
  | 113 => ⟨S_, .i32⟩
  | 114 => ⟨S50x1, .i32⟩
  | 115 => ⟨S50x1, .i32⟩
  | 116 => ⟨S50x1, .i32⟩
  | 117 => ⟨S50x1, .i32⟩
  | 118 => ⟨S50x1, .i32⟩
  | 119 => ⟨S_, .i32⟩
  | 120 => ⟨S50x1, .i32⟩
  | 121 => ⟨S50x1, .i32⟩
  | 122 => ⟨S_, .i32⟩
  | 123 => ⟨S50x1, .i32⟩
  | 124 => ⟨S50x1, .i32⟩
  | 125 => ⟨S50x1, .i32⟩
  | 126 => ⟨S50x1, .i32⟩
  | 127 => ⟨S50x1, .i32⟩
  | _ => ⟨S1024x50x128, .f32⟩

abbrev hbmTy0_2 (i : Nat) : BufTy := match i % 128 with
  | 0 => ⟨S50x1, .i32⟩
  | 1 => ⟨S50x1, .i32⟩
  | 2 => ⟨S50x1, .i32⟩
  | 3 => ⟨S_, .i32⟩
  | 4 => ⟨S50x1, .i32⟩
  | 5 => ⟨S50x1, .i32⟩
  | 6 => ⟨S50x2, .i32⟩
  | 7 => ⟨S_, .f32⟩
  | 8 => ⟨S_, .f32⟩
  | 9 => ⟨S_, .f32⟩
  | 10 => ⟨S1x1, .f32⟩
  | 11 => ⟨S1x1, .f32⟩
  | 12 => ⟨S50x1, .i32⟩
  | 13 => ⟨S50, .i32⟩
  | 14 => ⟨S50x1, .i32⟩
  | 15 => ⟨S50, .i32⟩
  | 16 => ⟨S1024x50, .i64⟩
  | 17 => ⟨S1024x50, .i64⟩
  | 18 => ⟨S_, .i64⟩
  | 19 => ⟨S1024x50, .i64⟩
  | 20 => ⟨S1024x50, .i64⟩
  | 21 => ⟨S_, .i64⟩
  | 22 => ⟨S1024x50, .i64⟩
  | 23 => ⟨S1024x50, .i64⟩
  | 24 => ⟨S1024x50, .i64⟩
  | 25 => ⟨S_, .i64⟩
  | 26 => ⟨S1024x50, .i64⟩
  | 27 => ⟨S1024x50, .i64⟩
  | 28 => ⟨S1024x50, .i32⟩
  | 29 => ⟨S1024x50, .i32⟩
  | 30 => ⟨S1x1024x50, .i32⟩
  | 31 => ⟨S1x1024x50, .i32⟩
  | 32 => ⟨S50x1x1, .i32⟩
  | 33 => ⟨S50x1x1, .i32⟩
  | 34 => ⟨S50x1x1, .i32⟩
  | 35 => ⟨S_, .i32⟩
  | 36 => ⟨S50x1x1, .i32⟩
  | 37 => ⟨S50x1x1, .i32⟩
  | 38 => ⟨S50x1024x50, .i32⟩
  | 39 => ⟨S50x1024x50, .i32⟩
  | 40 => ⟨S50x1024x50, .i32⟩
  | 41 => ⟨S50x1024x50, .i32⟩
  | 42 => ⟨S50x1024x50, .i32⟩
  | 43 => ⟨S50x1024x50, .i32⟩
  | 44 => ⟨S50x1024x50, .i32⟩
  | 45 => ⟨S_, .i32⟩
  | 46 => ⟨S50x1024x50, .i32⟩
  | 47 => ⟨S50x1024x50, .i32⟩
  | 48 => ⟨S_, .i32⟩
  | 49 => ⟨S50x1024x50, .i32⟩
  | 50 => ⟨S50x1024x50, .i32⟩
  | 51 => ⟨S50x1024x50, .i32⟩
  | 52 => ⟨S50x1024x50, .i32⟩
  | 53 => ⟨S50x1024x50, .i32⟩
  | 54 => ⟨S_, .i32⟩
  | 55 => ⟨S50x1024x50, .i32⟩
  | 56 => ⟨S50x1024x50, .i32⟩
  | 57 => ⟨S_, .i32⟩
  | 58 => ⟨S50x1024x50, .i32⟩
  | 59 => ⟨S50x1024x50, .i32⟩
  | 60 => ⟨S50x1024x50, .i32⟩
  | 61 => ⟨S50x1024x50, .i32⟩
  | 62 => ⟨S50x1024x50, .i32⟩
  | 63 => ⟨S_, .i32⟩
  | 64 => ⟨S50x1024x50, .i32⟩
  | 65 => ⟨S50x1024x50, .i32⟩
  | 66 => ⟨S_, .i32⟩
  | 67 => ⟨S50x1024x50, .i32⟩
  | 68 => ⟨S50x1024x50, .i32⟩
  | 69 => ⟨S50x1024x50, .i32⟩
  | 70 => ⟨S50x1024x50, .i32⟩
  | 71 => ⟨S50x1024x50, .i32⟩
  | 72 => ⟨S_, .i32⟩
  | 73 => ⟨S50x1024x50, .i32⟩
  | 74 => ⟨S50x1024x50, .i32⟩
  | 75 => ⟨S_, .i32⟩
  | 76 => ⟨S50x1024x50, .i32⟩
  | 77 => ⟨S50x1024x50, .i32⟩
  | 78 => ⟨S50x1024x50, .i32⟩
  | 79 => ⟨S50x1024x50, .i32⟩
  | 80 => ⟨S50x1024x50, .i32⟩
  | 81 => ⟨S50x1024x50, .i32⟩
  | 82 => ⟨S50x1024x50, .i32⟩
  | 83 => ⟨S50x1024x50, .i32⟩
  | 84 => ⟨S_, .i32⟩
  | 85 => ⟨S50x1024x50, .i32⟩
  | 86 => ⟨S50x1024x50, .i32⟩
  | 87 => ⟨S50x1024x50, .i32⟩
  | 88 => ⟨S_, .i32⟩
  | 89 => ⟨S50x1024x50, .i32⟩
  | 90 => ⟨S50x1024x50, .i32⟩
  | 91 => ⟨S_, .i32⟩
  | 92 => ⟨S50x1024x50, .i32⟩
  | 93 => ⟨S50x1024x50, .i32⟩
  | 94 => ⟨S50x1024x50, .i32⟩
  | 95 => ⟨S50x1024x50, .i32⟩
  | 96 => ⟨S50x1024x50, .i32⟩
  | 97 => ⟨S_, .i32⟩
  | 98 => ⟨S50x1024x50, .i32⟩
  | 99 => ⟨S50x1024x50, .i32⟩
  | 100 => ⟨S_, .i32⟩
  | 101 => ⟨S50x1024x50, .i32⟩
  | 102 => ⟨S50x1024x50, .i32⟩
  | 103 => ⟨S50x1024x50, .i32⟩
  | 104 => ⟨S50x1024x50, .i32⟩
  | 105 => ⟨S50x1024x50, .i32⟩
  | 106 => ⟨S_, .i32⟩
  | 107 => ⟨S50x1024x50, .i32⟩
  | 108 => ⟨S50x1024x50, .i32⟩
  | 109 => ⟨S_, .i32⟩
  | 110 => ⟨S50x1024x50, .i32⟩
  | 111 => ⟨S50x1024x50, .i32⟩
  | 112 => ⟨S50x1024x50, .i32⟩
  | 113 => ⟨S50x1024x50, .i32⟩
  | 114 => ⟨S50x1024x50, .i32⟩
  | 115 => ⟨S_, .i32⟩
  | 116 => ⟨S50x1024x50, .i32⟩
  | 117 => ⟨S50x1024x50, .i32⟩
  | 118 => ⟨S_, .i32⟩
  | 119 => ⟨S50x1024x50, .i32⟩
  | 120 => ⟨S50x1024x50, .i32⟩
  | 121 => ⟨S50x1024x50, .i32⟩
  | 122 => ⟨S50x1024x50, .i32⟩
  | 123 => ⟨S50x1024x50, .i32⟩
  | 124 => ⟨S50x1024x50, .i32⟩
  | 125 => ⟨S50x1024x50, .i32⟩
  | 126 => ⟨S50x1024x50, .i32⟩
  | 127 => ⟨S_, .i32⟩
  | _ => ⟨S1024x50x128, .f32⟩

abbrev hbmTy0_3 (i : Nat) : BufTy := match i % 128 with
  | 0 => ⟨S50x1024x50, .i32⟩
  | 1 => ⟨S50x1024x50, .i32⟩
  | 2 => ⟨S50x1024x50, .i32⟩
  | 3 => ⟨S_, .i32⟩
  | 4 => ⟨S50x1024x50, .i32⟩
  | 5 => ⟨S50x1024x50, .i32⟩
  | 6 => ⟨S_, .i32⟩
  | 7 => ⟨S50x1024x50, .i32⟩
  | 8 => ⟨S50x1024x50, .i32⟩
  | 9 => ⟨S50x1024x50, .i32⟩
  | 10 => ⟨S50x1024x50, .i32⟩
  | 11 => ⟨S50x1024x50, .i32⟩
  | 12 => ⟨S_, .i32⟩
  | 13 => ⟨S50x1024x50, .i32⟩
  | 14 => ⟨S50x1024x50, .i32⟩
  | 15 => ⟨S_, .i32⟩
  | 16 => ⟨S50x1024x50, .i32⟩
  | 17 => ⟨S50x1024x50, .i32⟩
  | 18 => ⟨S50x1024x50, .i32⟩
  | 19 => ⟨S50x1024x50, .i32⟩
  | 20 => ⟨S50x1024x50, .i32⟩
  | 21 => ⟨S_, .i32⟩
  | 22 => ⟨S50x1024x50, .i32⟩
  | 23 => ⟨S50x1024x50, .i32⟩
  | 24 => ⟨S_, .i32⟩
  | 25 => ⟨S50x1024x50, .i32⟩
  | 26 => ⟨S50x1024x50, .i32⟩
  | 27 => ⟨S50x1024x50, .i32⟩
  | 28 => ⟨S50x1024x50, .i32⟩
  | 29 => ⟨S50x1024x50, .i32⟩
  | 30 => ⟨S_, .i32⟩
  | 31 => ⟨S50x1024x50, .i32⟩
  | 32 => ⟨S50x1024x50, .i32⟩
  | 33 => ⟨S_, .i32⟩
  | 34 => ⟨S50x1024x50, .i32⟩
  | 35 => ⟨S50x1024x50, .i32⟩
  | 36 => ⟨S50x1024x50, .i32⟩
  | 37 => ⟨S50x1024x50, .i32⟩
  | 38 => ⟨S50x1024x50, .i32⟩
  | 39 => ⟨S50x1024x50, .i32⟩
  | 40 => ⟨S50x1024x50, .i32⟩
  | 41 => ⟨S50x1024x50, .i32⟩
  | 42 => ⟨S_, .i32⟩
  | 43 => ⟨S50x1024x50, .i32⟩
  | 44 => ⟨S50x1024x50, .i32⟩
  | 45 => ⟨S50x1024x50, .i32⟩
  | 46 => ⟨S_, .i32⟩
  | 47 => ⟨S50x1024x50, .i32⟩
  | 48 => ⟨S50x1024x50, .i32⟩
  | 49 => ⟨S_, .i32⟩
  | 50 => ⟨S50x1024x50, .i32⟩
  | 51 => ⟨S50x1024x50, .i32⟩
  | 52 => ⟨S50x1024x50, .i32⟩
  | 53 => ⟨S50x1024x50, .i32⟩
  | 54 => ⟨S50x1024x50, .i32⟩
  | 55 => ⟨S_, .i32⟩
  | 56 => ⟨S50x1024x50, .i32⟩
  | 57 => ⟨S50x1024x50, .i32⟩
  | 58 => ⟨S_, .i32⟩
  | 59 => ⟨S50x1024x50, .i32⟩
  | 60 => ⟨S50x1024x50, .i32⟩
  | 61 => ⟨S50x1024x50, .i32⟩
  | 62 => ⟨S50x1024x50, .i32⟩
  | 63 => ⟨S50x1024x50, .i32⟩
  | 64 => ⟨S_, .i32⟩
  | 65 => ⟨S50x1024x50, .i32⟩
  | 66 => ⟨S50x1024x50, .i32⟩
  | 67 => ⟨S_, .i32⟩
  | 68 => ⟨S50x1024x50, .i32⟩
  | 69 => ⟨S50x1024x50, .i32⟩
  | 70 => ⟨S50x1024x50, .i32⟩
  | 71 => ⟨S50x1024x50, .i32⟩
  | 72 => ⟨S50x1024x50, .i32⟩
  | 73 => ⟨S_, .i32⟩
  | 74 => ⟨S50x1024x50, .i32⟩
  | 75 => ⟨S50x1024x50, .i32⟩
  | 76 => ⟨S_, .i32⟩
  | 77 => ⟨S50x1024x50, .i32⟩
  | 78 => ⟨S50x1024x50, .i32⟩
  | 79 => ⟨S50x1024x50, .i32⟩
  | 80 => ⟨S50x1024x50, .i32⟩
  | 81 => ⟨S50x1024x50, .i32⟩
  | 82 => ⟨S50x1024x50, .i32⟩
  | 83 => ⟨S50x1024x50, .i32⟩
  | 84 => ⟨S50x1024x50, .i32⟩
  | 85 => ⟨S_, .i32⟩
  | 86 => ⟨S50x1024x50, .i32⟩
  | 87 => ⟨S50x1024x50, .i32⟩
  | 88 => ⟨S50x1024x50, .i32⟩
  | 89 => ⟨S_, .i32⟩
  | 90 => ⟨S50x1024x50, .i32⟩
  | 91 => ⟨S50x1024x50, .i32⟩
  | 92 => ⟨S_, .i32⟩
  | 93 => ⟨S50x1024x50, .i32⟩
  | 94 => ⟨S50x1024x50, .i32⟩
  | 95 => ⟨S50x1024x50, .i32⟩
  | 96 => ⟨S50x1024x50, .i32⟩
  | 97 => ⟨S50x1024x50, .i32⟩
  | 98 => ⟨S_, .i32⟩
  | 99 => ⟨S50x1024x50, .i32⟩
  | 100 => ⟨S50x1024x50, .i32⟩
  | 101 => ⟨S_, .i32⟩
  | 102 => ⟨S50x1024x50, .i32⟩
  | 103 => ⟨S50x1024x50, .i32⟩
  | 104 => ⟨S50x1024x50, .i32⟩
  | 105 => ⟨S50x1024x50, .i32⟩
  | 106 => ⟨S50x1024x50, .i32⟩
  | 107 => ⟨S_, .i32⟩
  | 108 => ⟨S50x1024x50, .i32⟩
  | 109 => ⟨S50x1024x50, .i32⟩
  | 110 => ⟨S_, .i32⟩
  | 111 => ⟨S50x1024x50, .i32⟩
  | 112 => ⟨S50x1024x50, .i32⟩
  | 113 => ⟨S50x1024x50, .i32⟩
  | 114 => ⟨S50x1024x50, .i32⟩
  | 115 => ⟨S50x1024x50, .i32⟩
  | 116 => ⟨S_, .i32⟩
  | 117 => ⟨S50x1024x50, .i32⟩
  | 118 => ⟨S50x1024x50, .i32⟩
  | 119 => ⟨S_, .i32⟩
  | 120 => ⟨S50x1024x50, .i32⟩
  | 121 => ⟨S50x1024x50, .i32⟩
  | 122 => ⟨S50x1024x50, .i32⟩
  | 123 => ⟨S50x1024x50, .i32⟩
  | 124 => ⟨S50x1024x50, .i32⟩
  | 125 => ⟨S50x1024x50, .i32⟩
  | 126 => ⟨S50x1024x50, .i32⟩
  | 127 => ⟨S50x1024x50, .i32⟩
  | _ => ⟨S1024x50x128, .f32⟩

abbrev hbmTy0_4 (i : Nat) : BufTy := match i % 128 with
  | 0 => ⟨S_, .i32⟩
  | 1 => ⟨S50x1024x50, .i32⟩
  | 2 => ⟨S50x1024x50, .i32⟩
  | 3 => ⟨S50x1024x50, .i32⟩
  | 4 => ⟨S_, .i32⟩
  | 5 => ⟨S50x1024x50, .i32⟩
  | 6 => ⟨S50x1024x50, .i32⟩
  | 7 => ⟨S_, .i32⟩
  | 8 => ⟨S50x1024x50, .i32⟩
  | 9 => ⟨S50x1024x50, .i32⟩
  | 10 => ⟨S50x1024x50, .f32⟩
  | 11 => ⟨S_, .f32⟩
  | 12 => ⟨S50x1024x50, .f32⟩
  | 13 => ⟨S50x1024x50, .f32⟩
  | 14 => ⟨S1x1, .f32⟩
  | 15 => ⟨S1x1x1, .f32⟩
  | 16 => ⟨S50x1024x50, .f32⟩
  | 17 => ⟨S50x1024x50, .f32⟩
  | 18 => ⟨S1x1x1, .f32⟩
  | 19 => ⟨S50x1024x50, .f32⟩
  | 20 => ⟨S50x1024x50, .f32⟩
  | 21 => ⟨S1x1x1, .f32⟩
  | 22 => ⟨S50x1024x50, .f32⟩
  | 23 => ⟨S50x1024x50, .f32⟩
  | 24 => ⟨S50x1024x50, .f32⟩
  | 25 => ⟨S50x1024x50, .f32⟩
  | 26 => ⟨S50x1024x50, .f32⟩
  | 27 => ⟨S50x1024x50, .f32⟩
  | 28 => ⟨S50x50x1024, .f32⟩
  | 29 => ⟨S50x1024x128, .f32⟩
  | 30 => ⟨S128x128, .f32⟩
  | 31 => ⟨S32x128, .f32⟩
  | 32 => ⟨S16x32, .f32⟩
  | 33 => ⟨S32x32, .f32⟩
  | 34 => ⟨S1x32x1x32, .f32⟩
  | 35 => ⟨S1x32x8x32, .f32⟩
  | 36 => ⟨S32x256, .f32⟩
  | 37 => ⟨S1x32, .f32⟩
  | 38 => ⟨S8x32, .f32⟩
  | 39 => ⟨S256, .f32⟩
  | 40 => ⟨S1x256, .f32⟩
  | 41 => ⟨S8x8, .i32⟩
  | 42 => ⟨S8x8, .i32⟩
  | 43 => ⟨S_, .i32⟩
  | 44 => ⟨S8x8, .i32⟩
  | 45 => ⟨S8x8, .i32⟩
  | 46 => ⟨S8x8, .i1⟩
  | 47 => ⟨S8x8, .f32⟩
  | 48 => ⟨S8x1x8x1, .f32⟩
  | 49 => ⟨S1x32x1x16, .f32⟩
  | 50 => ⟨S8x32x8x16, .f32⟩
  | 51 => ⟨S8x32x8x16, .f32⟩
  | 52 => ⟨S8x32x8x16, .f32⟩
  | 53 => ⟨S256x128, .f32⟩
  | 54 => ⟨S1x16, .f32⟩
  | 55 => ⟨S8x16, .f32⟩
  | 56 => ⟨S128, .f32⟩
  | 57 => ⟨S1x128, .f32⟩
  | 58 => ⟨S8x8, .i32⟩
  | 59 => ⟨S8x8, .i32⟩
  | 60 => ⟨S_, .i32⟩
  | 61 => ⟨S8x8, .i32⟩
  | 62 => ⟨S8x8, .i32⟩
  | 63 => ⟨S8x8, .i1⟩
  | 64 => ⟨S8x8, .f32⟩
  | 65 => ⟨S8x1x8x1, .f32⟩
  | 66 => ⟨S1x16x1x1, .f32⟩
  | 67 => ⟨S8x16x8x1, .f32⟩
  | 68 => ⟨S8x16x8x1, .f32⟩
  | 69 => ⟨S8x16x8x1, .f32⟩
  | 70 => ⟨S128x8, .f32⟩
  | 71 => ⟨S1x32, .f32⟩
  | 72 => ⟨S1x16, .f32⟩
  | 73 => ⟨S1x128, .f32⟩
  | 74 => ⟨S1x1, .f32⟩
  | 75 => ⟨S50x50x1024, .f32⟩
  | 76 => ⟨S50x1024, .f32⟩
  | 77 => ⟨S50x1024, .i32⟩
  | 78 => ⟨S50x1024, .f32⟩
  | 79 => ⟨S1024x50x50, .f32⟩
  | 80 => ⟨S1024x50, .f32⟩
  | 81 => ⟨S1024x50, .i32⟩
  | 82 => ⟨S1024x50, .f32⟩
  | 83 => ⟨S51200x1, .f32⟩
  | _ => ⟨S1024x50x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024x50x128, .f32⟩

abbrev bufTy : (tb : Table) → Fin (tcTables nBuf tb) → BufTy
  | .hbm, ⟨i, _⟩ => hbmTy i
  | .local _ .vmem, ⟨0, _⟩ => ⟨S50x256x128, .f32⟩
  | .local _ .vmem, ⟨1, _⟩ => ⟨S50x256x128, .f32⟩
  | .local _ .vmem, ⟨2, _⟩ => ⟨S50x50x256, .f32⟩
  | .local _ .vmem, ⟨3, _⟩ => ⟨S50x50x256, .f32⟩
  | .local _ .vmem, ⟨4, _⟩ => ⟨S128x32, .f32⟩
  | .local _ .vmem, ⟨5, _⟩ => ⟨S1x32, .f32⟩
  | .local _ .vmem, ⟨6, _⟩ => ⟨S32x16, .f32⟩
  | .local _ .vmem, ⟨7, _⟩ => ⟨S1x16, .f32⟩
  | .local _ .vmem, ⟨8, _⟩ => ⟨S128x128, .f32⟩
  | .local _ .vmem, ⟨9, _⟩ => ⟨S32x128, .f32⟩
  | .local _ .vmem, ⟨10, _⟩ => ⟨S1x128, .f32⟩
  | .local _ .vmem, ⟨11, _⟩ => ⟨S16x32, .f32⟩
  | .local _ .vmem, ⟨12, _⟩ => ⟨S32x256, .f32⟩
  | .local _ .vmem, ⟨13, _⟩ => ⟨S1x256, .f32⟩
  | .local _ .vmem, ⟨14, _⟩ => ⟨S256x128, .f32⟩
  | .local _ .vmem, ⟨15, _⟩ => ⟨S1x128, .f32⟩
  | .local _ .vmem, ⟨16, _⟩ => ⟨S128x8, .f32⟩
  | .local _ .vmem, ⟨17, _⟩ => ⟨S1x1, .f32⟩
  | .local _ .vmem, ⟨18, _⟩ => ⟨S50x50x256, .f32⟩
  | .local _ .vmem, ⟨19, _⟩ => ⟨S50x50x256, .f32⟩
  | .local _ .vmem, ⟨20, _⟩ => ⟨S50x256, .f32⟩
  | .local _ .vmem, ⟨21, _⟩ => ⟨S50x256, .f32⟩
  | .local _ .vmem, ⟨22, _⟩ => ⟨S50x256, .i32⟩
  | .local _ .vmem, ⟨23, _⟩ => ⟨S50x256, .i32⟩
  | .local _ .vmem, ⟨24, _⟩ => ⟨S50x256, .f32⟩
  | .local _ .vmem, ⟨25, _⟩ => ⟨S50x256, .f32⟩
  | _, _ => ⟨S1024x50x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_c_0 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v13_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v13_1 : Ref sig .tc := ⟨.hbm, 261, rfl⟩
abbrev main_v9 : Ref sig .tc := ⟨.hbm, 262, rfl⟩
abbrev main_call1_cst : Ref sig .tc := ⟨.hbm, 263, rfl⟩
abbrev main_call1_cst_0 : Ref sig .tc := ⟨.hbm, 264, rfl⟩
abbrev main_call1_call0_v0 : Ref sig .tc := ⟨.hbm, 265, rfl⟩
abbrev main_call1_call0_v1 : Ref sig .tc := ⟨.hbm, 266, rfl⟩
abbrev main_call1_call0_v2 : Ref sig .tc := ⟨.hbm, 267, rfl⟩
abbrev main_call1_call0_v3 : Ref sig .tc := ⟨.hbm, 268, rfl⟩
abbrev main_call1_call0_v4 : Ref sig .tc := ⟨.hbm, 269, rfl⟩
abbrev main_call1_call0_v5 : Ref sig .tc := ⟨.hbm, 270, rfl⟩
abbrev main_call1_call0_v6 : Ref sig .tc := ⟨.hbm, 271, rfl⟩
abbrev main_call1_call0_v7 : Ref sig .tc := ⟨.hbm, 272, rfl⟩
abbrev main_call1_call0_v8 : Ref sig .tc := ⟨.hbm, 273, rfl⟩
abbrev main_call1_call0_c : Ref sig .tc := ⟨.hbm, 274, rfl⟩
abbrev main_call1_call0_v9 : Ref sig .tc := ⟨.hbm, 275, rfl⟩
abbrev main_call1_call0_v10 : Ref sig .tc := ⟨.hbm, 276, rfl⟩
abbrev main_call1_call0_c_0 : Ref sig .tc := ⟨.hbm, 277, rfl⟩
abbrev main_call1_call0_v11 : Ref sig .tc := ⟨.hbm, 278, rfl⟩
abbrev main_call1_call0_v12 : Ref sig .tc := ⟨.hbm, 279, rfl⟩
abbrev main_call1_call0_v13 : Ref sig .tc := ⟨.hbm, 280, rfl⟩
abbrev main_call1_call0_c_1 : Ref sig .tc := ⟨.hbm, 281, rfl⟩
abbrev main_call1_call0_v14 : Ref sig .tc := ⟨.hbm, 282, rfl⟩
abbrev main_call1_call0_v15 : Ref sig .tc := ⟨.hbm, 283, rfl⟩
abbrev main_call1_call0_v16 : Ref sig .tc := ⟨.hbm, 284, rfl⟩
abbrev main_call1_call0_v17 : Ref sig .tc := ⟨.hbm, 285, rfl⟩
abbrev main_call1_call0_v18 : Ref sig .tc := ⟨.hbm, 286, rfl⟩
abbrev main_call1_call0_v19 : Ref sig .tc := ⟨.hbm, 287, rfl⟩
abbrev main_call1_call0_v20 : Ref sig .tc := ⟨.hbm, 288, rfl⟩
abbrev main_call1_call0_v21 : Ref sig .tc := ⟨.hbm, 289, rfl⟩
abbrev main_call1_call0_call0_v0 : Ref sig .tc := ⟨.hbm, 290, rfl⟩
abbrev main_call1_call0_call0_c : Ref sig .tc := ⟨.hbm, 291, rfl⟩
abbrev main_call1_call0_call0_v1 : Ref sig .tc := ⟨.hbm, 292, rfl⟩
abbrev main_call1_call0_call0_v2 : Ref sig .tc := ⟨.hbm, 293, rfl⟩
abbrev main_call1_call0_call0_v3 : Ref sig .tc := ⟨.hbm, 294, rfl⟩
abbrev main_call1_call0_call0_v4 : Ref sig .tc := ⟨.hbm, 295, rfl⟩
abbrev main_call1_call0_call0_v5 : Ref sig .tc := ⟨.hbm, 296, rfl⟩
abbrev main_call1_call0_call0_v6 : Ref sig .tc := ⟨.hbm, 297, rfl⟩
abbrev main_call1_call0_call0_v7 : Ref sig .tc := ⟨.hbm, 298, rfl⟩
abbrev main_call1_call0_call0_v8 : Ref sig .tc := ⟨.hbm, 299, rfl⟩
abbrev main_call1_call0_call0_v9 : Ref sig .tc := ⟨.hbm, 300, rfl⟩
abbrev main_call1_call0_call0_c_0 : Ref sig .tc := ⟨.hbm, 301, rfl⟩
abbrev main_call1_call0_call0_v10 : Ref sig .tc := ⟨.hbm, 302, rfl⟩
abbrev main_call1_call0_call0_v11 : Ref sig .tc := ⟨.hbm, 303, rfl⟩
abbrev main_call1_call0_call0_c_1 : Ref sig .tc := ⟨.hbm, 304, rfl⟩
abbrev main_call1_call0_call0_v12 : Ref sig .tc := ⟨.hbm, 305, rfl⟩
abbrev main_call1_call0_call0_v13 : Ref sig .tc := ⟨.hbm, 306, rfl⟩
abbrev main_call1_call0_call0_v14 : Ref sig .tc := ⟨.hbm, 307, rfl⟩
abbrev main_call1_call0_call0_v15 : Ref sig .tc := ⟨.hbm, 308, rfl⟩
abbrev main_call1_call0_call0_v16 : Ref sig .tc := ⟨.hbm, 309, rfl⟩
abbrev main_call1_call0_call0_c_2 : Ref sig .tc := ⟨.hbm, 310, rfl⟩
abbrev main_call1_call0_call0_v17 : Ref sig .tc := ⟨.hbm, 311, rfl⟩
abbrev main_call1_call0_call0_v18 : Ref sig .tc := ⟨.hbm, 312, rfl⟩
abbrev main_call1_call0_call0_c_3 : Ref sig .tc := ⟨.hbm, 313, rfl⟩
abbrev main_call1_call0_call0_v19 : Ref sig .tc := ⟨.hbm, 314, rfl⟩
abbrev main_call1_call0_call0_v20 : Ref sig .tc := ⟨.hbm, 315, rfl⟩
abbrev main_call1_call0_call0_v21 : Ref sig .tc := ⟨.hbm, 316, rfl⟩
abbrev main_call1_call0_call0_v22 : Ref sig .tc := ⟨.hbm, 317, rfl⟩
abbrev main_call1_call0_call0_v23 : Ref sig .tc := ⟨.hbm, 318, rfl⟩
abbrev main_call1_call0_call0_c_4 : Ref sig .tc := ⟨.hbm, 319, rfl⟩
abbrev main_call1_call0_call0_v24 : Ref sig .tc := ⟨.hbm, 320, rfl⟩
abbrev main_call1_call0_call0_v25 : Ref sig .tc := ⟨.hbm, 321, rfl⟩
abbrev main_call1_call0_call0_c_5 : Ref sig .tc := ⟨.hbm, 322, rfl⟩
abbrev main_call1_call0_call0_v26 : Ref sig .tc := ⟨.hbm, 323, rfl⟩
abbrev main_call1_call0_call0_v27 : Ref sig .tc := ⟨.hbm, 324, rfl⟩
abbrev main_call1_call0_call0_v28 : Ref sig .tc := ⟨.hbm, 325, rfl⟩
abbrev main_call1_call0_call0_v29 : Ref sig .tc := ⟨.hbm, 326, rfl⟩
abbrev main_call1_call0_call0_v30 : Ref sig .tc := ⟨.hbm, 327, rfl⟩
abbrev main_call1_call0_call0_c_6 : Ref sig .tc := ⟨.hbm, 328, rfl⟩
abbrev main_call1_call0_call0_v31 : Ref sig .tc := ⟨.hbm, 329, rfl⟩
abbrev main_call1_call0_call0_v32 : Ref sig .tc := ⟨.hbm, 330, rfl⟩
abbrev main_call1_call0_call0_c_7 : Ref sig .tc := ⟨.hbm, 331, rfl⟩
abbrev main_call1_call0_call0_v33 : Ref sig .tc := ⟨.hbm, 332, rfl⟩
abbrev main_call1_call0_call0_v34 : Ref sig .tc := ⟨.hbm, 333, rfl⟩
abbrev main_call1_call0_call0_v35 : Ref sig .tc := ⟨.hbm, 334, rfl⟩
abbrev main_call1_call0_call0_v36 : Ref sig .tc := ⟨.hbm, 335, rfl⟩
abbrev main_call1_call0_call0_v37 : Ref sig .tc := ⟨.hbm, 336, rfl⟩
abbrev main_call1_call0_call0_v38 : Ref sig .tc := ⟨.hbm, 337, rfl⟩
abbrev main_call1_call0_call0_v39 : Ref sig .tc := ⟨.hbm, 338, rfl⟩
abbrev main_call1_call0_call0_v40 : Ref sig .tc := ⟨.hbm, 339, rfl⟩
abbrev main_call1_call0_call0_c_8 : Ref sig .tc := ⟨.hbm, 340, rfl⟩
abbrev main_call1_call0_call0_v41 : Ref sig .tc := ⟨.hbm, 341, rfl⟩
abbrev main_call1_call0_call0_v42 : Ref sig .tc := ⟨.hbm, 342, rfl⟩
abbrev main_call1_call0_call0_v43 : Ref sig .tc := ⟨.hbm, 343, rfl⟩
abbrev main_call1_call0_call0_c_9 : Ref sig .tc := ⟨.hbm, 344, rfl⟩
abbrev main_call1_call0_call0_v44 : Ref sig .tc := ⟨.hbm, 345, rfl⟩
abbrev main_call1_call0_call0_v45 : Ref sig .tc := ⟨.hbm, 346, rfl⟩
abbrev main_call1_call0_call0_c_10 : Ref sig .tc := ⟨.hbm, 347, rfl⟩
abbrev main_call1_call0_call0_v46 : Ref sig .tc := ⟨.hbm, 348, rfl⟩
abbrev main_call1_call0_call0_v47 : Ref sig .tc := ⟨.hbm, 349, rfl⟩
abbrev main_call1_call0_call0_v48 : Ref sig .tc := ⟨.hbm, 350, rfl⟩
abbrev main_call1_call0_call0_v49 : Ref sig .tc := ⟨.hbm, 351, rfl⟩
abbrev main_call1_call0_call0_v50 : Ref sig .tc := ⟨.hbm, 352, rfl⟩
abbrev main_call1_call0_call0_c_11 : Ref sig .tc := ⟨.hbm, 353, rfl⟩
abbrev main_call1_call0_call0_v51 : Ref sig .tc := ⟨.hbm, 354, rfl⟩
abbrev main_call1_call0_call0_v52 : Ref sig .tc := ⟨.hbm, 355, rfl⟩
abbrev main_call1_call0_call0_c_12 : Ref sig .tc := ⟨.hbm, 356, rfl⟩
abbrev main_call1_call0_call0_v53 : Ref sig .tc := ⟨.hbm, 357, rfl⟩
abbrev main_call1_call0_call0_v54 : Ref sig .tc := ⟨.hbm, 358, rfl⟩
abbrev main_call1_call0_call0_v55 : Ref sig .tc := ⟨.hbm, 359, rfl⟩
abbrev main_call1_call0_call0_v56 : Ref sig .tc := ⟨.hbm, 360, rfl⟩
abbrev main_call1_call0_call0_v57 : Ref sig .tc := ⟨.hbm, 361, rfl⟩
abbrev main_call1_call0_call0_c_13 : Ref sig .tc := ⟨.hbm, 362, rfl⟩
abbrev main_call1_call0_call0_v58 : Ref sig .tc := ⟨.hbm, 363, rfl⟩
abbrev main_call1_call0_call0_v59 : Ref sig .tc := ⟨.hbm, 364, rfl⟩
abbrev main_call1_call0_call0_c_14 : Ref sig .tc := ⟨.hbm, 365, rfl⟩
abbrev main_call1_call0_call0_v60 : Ref sig .tc := ⟨.hbm, 366, rfl⟩
abbrev main_call1_call0_call0_v61 : Ref sig .tc := ⟨.hbm, 367, rfl⟩
abbrev main_call1_call0_call0_v62 : Ref sig .tc := ⟨.hbm, 368, rfl⟩
abbrev main_call1_call0_call0_v63 : Ref sig .tc := ⟨.hbm, 369, rfl⟩
abbrev main_call1_call0_call0_v64 : Ref sig .tc := ⟨.hbm, 370, rfl⟩
abbrev main_call1_call0_call0_c_15 : Ref sig .tc := ⟨.hbm, 371, rfl⟩
abbrev main_call1_call0_call0_v65 : Ref sig .tc := ⟨.hbm, 372, rfl⟩
abbrev main_call1_call0_call0_v66 : Ref sig .tc := ⟨.hbm, 373, rfl⟩
abbrev main_call1_call0_call0_c_16 : Ref sig .tc := ⟨.hbm, 374, rfl⟩
abbrev main_call1_call0_call0_v67 : Ref sig .tc := ⟨.hbm, 375, rfl⟩
abbrev main_call1_call0_call0_v68 : Ref sig .tc := ⟨.hbm, 376, rfl⟩
abbrev main_call1_call0_call0_v69 : Ref sig .tc := ⟨.hbm, 377, rfl⟩
abbrev main_call1_call0_call0_v70 : Ref sig .tc := ⟨.hbm, 378, rfl⟩
abbrev main_call1_call0_call0_v71 : Ref sig .tc := ⟨.hbm, 379, rfl⟩
abbrev main_call1_call0_call0_v72 : Ref sig .tc := ⟨.hbm, 380, rfl⟩
abbrev main_call1_call0_call0_v73 : Ref sig .tc := ⟨.hbm, 381, rfl⟩
abbrev main_call1_call0_call0_v74 : Ref sig .tc := ⟨.hbm, 382, rfl⟩
abbrev main_call1_call0_call0_c_17 : Ref sig .tc := ⟨.hbm, 383, rfl⟩
abbrev main_call1_call0_call0_v75 : Ref sig .tc := ⟨.hbm, 384, rfl⟩
abbrev main_call1_call0_call0_v76 : Ref sig .tc := ⟨.hbm, 385, rfl⟩
abbrev main_call1_call0_call0_v77 : Ref sig .tc := ⟨.hbm, 386, rfl⟩
abbrev main_call1_call0_call0_c_18 : Ref sig .tc := ⟨.hbm, 387, rfl⟩
abbrev main_call1_call0_call0_v78 : Ref sig .tc := ⟨.hbm, 388, rfl⟩
abbrev main_call1_call0_call0_v79 : Ref sig .tc := ⟨.hbm, 389, rfl⟩
abbrev main_call1_call0_call0_c_19 : Ref sig .tc := ⟨.hbm, 390, rfl⟩
abbrev main_call1_call0_call0_v80 : Ref sig .tc := ⟨.hbm, 391, rfl⟩
abbrev main_call1_call0_call0_v81 : Ref sig .tc := ⟨.hbm, 392, rfl⟩
abbrev main_call1_call0_call0_v82 : Ref sig .tc := ⟨.hbm, 393, rfl⟩
abbrev main_call1_call0_call0_v83 : Ref sig .tc := ⟨.hbm, 394, rfl⟩
abbrev main_call1_call0_call0_v84 : Ref sig .tc := ⟨.hbm, 395, rfl⟩
abbrev main_call1_call0_call0_c_20 : Ref sig .tc := ⟨.hbm, 396, rfl⟩
abbrev main_call1_call0_call0_v85 : Ref sig .tc := ⟨.hbm, 397, rfl⟩
abbrev main_call1_call0_call0_v86 : Ref sig .tc := ⟨.hbm, 398, rfl⟩
abbrev main_call1_call0_call0_c_21 : Ref sig .tc := ⟨.hbm, 399, rfl⟩
abbrev main_call1_call0_call0_v87 : Ref sig .tc := ⟨.hbm, 400, rfl⟩
abbrev main_call1_call0_call0_v88 : Ref sig .tc := ⟨.hbm, 401, rfl⟩
abbrev main_call1_call0_call0_v89 : Ref sig .tc := ⟨.hbm, 402, rfl⟩
abbrev main_call1_call0_call0_v90 : Ref sig .tc := ⟨.hbm, 403, rfl⟩
abbrev main_call1_call0_call0_v91 : Ref sig .tc := ⟨.hbm, 404, rfl⟩
abbrev main_call1_call0_call0_c_22 : Ref sig .tc := ⟨.hbm, 405, rfl⟩
abbrev main_call1_call0_call0_v92 : Ref sig .tc := ⟨.hbm, 406, rfl⟩
abbrev main_call1_call0_call0_v93 : Ref sig .tc := ⟨.hbm, 407, rfl⟩
abbrev main_call1_call0_call0_c_23 : Ref sig .tc := ⟨.hbm, 408, rfl⟩
abbrev main_call1_call0_call0_v94 : Ref sig .tc := ⟨.hbm, 409, rfl⟩
abbrev main_call1_call0_call0_v95 : Ref sig .tc := ⟨.hbm, 410, rfl⟩
abbrev main_call1_call0_call0_v96 : Ref sig .tc := ⟨.hbm, 411, rfl⟩
abbrev main_call1_call0_call0_v97 : Ref sig .tc := ⟨.hbm, 412, rfl⟩
abbrev main_call1_call0_call0_v98 : Ref sig .tc := ⟨.hbm, 413, rfl⟩
abbrev main_call1_call0_call0_c_24 : Ref sig .tc := ⟨.hbm, 414, rfl⟩
abbrev main_call1_call0_call0_v99 : Ref sig .tc := ⟨.hbm, 415, rfl⟩
abbrev main_call1_call0_call0_v100 : Ref sig .tc := ⟨.hbm, 416, rfl⟩
abbrev main_call1_call0_call0_c_25 : Ref sig .tc := ⟨.hbm, 417, rfl⟩
abbrev main_call1_call0_call0_v101 : Ref sig .tc := ⟨.hbm, 418, rfl⟩
abbrev main_call1_call0_call0_v102 : Ref sig .tc := ⟨.hbm, 419, rfl⟩
abbrev main_call1_call0_call0_v103 : Ref sig .tc := ⟨.hbm, 420, rfl⟩
abbrev main_call1_call0_call0_v104 : Ref sig .tc := ⟨.hbm, 421, rfl⟩
abbrev main_call1_call0_call0_v105 : Ref sig .tc := ⟨.hbm, 422, rfl⟩
abbrev main_call1_call0_call0_v106 : Ref sig .tc := ⟨.hbm, 423, rfl⟩
abbrev main_call1_call0_call0_v107 : Ref sig .tc := ⟨.hbm, 424, rfl⟩
abbrev main_call1_call0_call0_v108 : Ref sig .tc := ⟨.hbm, 425, rfl⟩
abbrev main_call1_call0_call0_c_26 : Ref sig .tc := ⟨.hbm, 426, rfl⟩
abbrev main_call1_call0_call0_v109 : Ref sig .tc := ⟨.hbm, 427, rfl⟩
abbrev main_call1_call0_call0_v110 : Ref sig .tc := ⟨.hbm, 428, rfl⟩
abbrev main_call1_call0_call0_v111 : Ref sig .tc := ⟨.hbm, 429, rfl⟩
abbrev main_call1_call0_call0_c_27 : Ref sig .tc := ⟨.hbm, 430, rfl⟩
abbrev main_call1_call0_call0_v112 : Ref sig .tc := ⟨.hbm, 431, rfl⟩
abbrev main_call1_call0_call0_v113 : Ref sig .tc := ⟨.hbm, 432, rfl⟩
abbrev main_call1_call0_call0_c_28 : Ref sig .tc := ⟨.hbm, 433, rfl⟩
abbrev main_call1_call0_call0_v114 : Ref sig .tc := ⟨.hbm, 434, rfl⟩
abbrev main_call1_call0_call0_v115 : Ref sig .tc := ⟨.hbm, 435, rfl⟩
abbrev main_call1_call0_call0_v116 : Ref sig .tc := ⟨.hbm, 436, rfl⟩
abbrev main_call1_call0_call0_v117 : Ref sig .tc := ⟨.hbm, 437, rfl⟩
abbrev main_call1_call0_call0_v118 : Ref sig .tc := ⟨.hbm, 438, rfl⟩
abbrev main_call1_call0_call0_c_29 : Ref sig .tc := ⟨.hbm, 439, rfl⟩
abbrev main_call1_call0_call0_v119 : Ref sig .tc := ⟨.hbm, 440, rfl⟩
abbrev main_call1_call0_call0_v120 : Ref sig .tc := ⟨.hbm, 441, rfl⟩
abbrev main_call1_call0_call0_c_30 : Ref sig .tc := ⟨.hbm, 442, rfl⟩
abbrev main_call1_call0_call0_v121 : Ref sig .tc := ⟨.hbm, 443, rfl⟩
abbrev main_call1_call0_call0_v122 : Ref sig .tc := ⟨.hbm, 444, rfl⟩
abbrev main_call1_call0_call0_v123 : Ref sig .tc := ⟨.hbm, 445, rfl⟩
abbrev main_call1_call0_call0_v124 : Ref sig .tc := ⟨.hbm, 446, rfl⟩
abbrev main_call1_call0_call0_v125 : Ref sig .tc := ⟨.hbm, 447, rfl⟩
abbrev main_call1_call0_call0_c_31 : Ref sig .tc := ⟨.hbm, 448, rfl⟩
abbrev main_call1_call0_call0_v126 : Ref sig .tc := ⟨.hbm, 449, rfl⟩
abbrev main_call1_call0_call0_v127 : Ref sig .tc := ⟨.hbm, 450, rfl⟩
abbrev main_call1_call0_call0_c_32 : Ref sig .tc := ⟨.hbm, 451, rfl⟩
abbrev main_call1_call0_call0_v128 : Ref sig .tc := ⟨.hbm, 452, rfl⟩
abbrev main_call1_call0_call0_v129 : Ref sig .tc := ⟨.hbm, 453, rfl⟩
abbrev main_call1_call0_call0_v130 : Ref sig .tc := ⟨.hbm, 454, rfl⟩
abbrev main_call1_call0_call0_v131 : Ref sig .tc := ⟨.hbm, 455, rfl⟩
abbrev main_call1_call0_call0_v132 : Ref sig .tc := ⟨.hbm, 456, rfl⟩
abbrev main_call1_call0_call0_c_33 : Ref sig .tc := ⟨.hbm, 457, rfl⟩
abbrev main_call1_call0_call0_v133 : Ref sig .tc := ⟨.hbm, 458, rfl⟩
abbrev main_call1_call0_call0_v134 : Ref sig .tc := ⟨.hbm, 459, rfl⟩
abbrev main_call1_call0_call0_c_34 : Ref sig .tc := ⟨.hbm, 460, rfl⟩
abbrev main_call1_call0_call0_v135 : Ref sig .tc := ⟨.hbm, 461, rfl⟩
abbrev main_call1_call0_call0_v136 : Ref sig .tc := ⟨.hbm, 462, rfl⟩
abbrev main_call1_call0_call0_v137 : Ref sig .tc := ⟨.hbm, 463, rfl⟩
abbrev main_call1_call0_call0_v138 : Ref sig .tc := ⟨.hbm, 464, rfl⟩
abbrev main_call1_call0_call0_v139 : Ref sig .tc := ⟨.hbm, 465, rfl⟩
abbrev main_call1_call0_call0_v140 : Ref sig .tc := ⟨.hbm, 466, rfl⟩
abbrev main_call1_call0_call0_v141 : Ref sig .tc := ⟨.hbm, 467, rfl⟩
abbrev main_call1_call0_call0_v142 : Ref sig .tc := ⟨.hbm, 468, rfl⟩
abbrev main_call1_call0_call0_c_35 : Ref sig .tc := ⟨.hbm, 469, rfl⟩
abbrev main_call1_call0_call0_v143 : Ref sig .tc := ⟨.hbm, 470, rfl⟩
abbrev main_call1_call0_call0_v144 : Ref sig .tc := ⟨.hbm, 471, rfl⟩
abbrev main_call1_call0_call0_v145 : Ref sig .tc := ⟨.hbm, 472, rfl⟩
abbrev main_call1_call0_call0_c_36 : Ref sig .tc := ⟨.hbm, 473, rfl⟩
abbrev main_call1_call0_call0_v146 : Ref sig .tc := ⟨.hbm, 474, rfl⟩
abbrev main_call1_call0_call0_v147 : Ref sig .tc := ⟨.hbm, 475, rfl⟩
abbrev main_call1_call0_call0_c_37 : Ref sig .tc := ⟨.hbm, 476, rfl⟩
abbrev main_call1_call0_call0_v148 : Ref sig .tc := ⟨.hbm, 477, rfl⟩
abbrev main_call1_call0_call0_v149 : Ref sig .tc := ⟨.hbm, 478, rfl⟩
abbrev main_call1_call0_call0_v150 : Ref sig .tc := ⟨.hbm, 479, rfl⟩
abbrev main_call1_call0_call0_v151 : Ref sig .tc := ⟨.hbm, 480, rfl⟩
abbrev main_call1_call0_call0_v152 : Ref sig .tc := ⟨.hbm, 481, rfl⟩
abbrev main_call1_call0_call0_c_38 : Ref sig .tc := ⟨.hbm, 482, rfl⟩
abbrev main_call1_call0_call0_v153 : Ref sig .tc := ⟨.hbm, 483, rfl⟩
abbrev main_call1_call0_call0_v154 : Ref sig .tc := ⟨.hbm, 484, rfl⟩
abbrev main_call1_call0_call0_c_39 : Ref sig .tc := ⟨.hbm, 485, rfl⟩
abbrev main_call1_call0_call0_v155 : Ref sig .tc := ⟨.hbm, 486, rfl⟩
abbrev main_call1_call0_call0_v156 : Ref sig .tc := ⟨.hbm, 487, rfl⟩
abbrev main_call1_call0_call0_v157 : Ref sig .tc := ⟨.hbm, 488, rfl⟩
abbrev main_call1_call0_call0_v158 : Ref sig .tc := ⟨.hbm, 489, rfl⟩
abbrev main_call1_call0_call0_v159 : Ref sig .tc := ⟨.hbm, 490, rfl⟩
abbrev main_call1_call0_call0_c_40 : Ref sig .tc := ⟨.hbm, 491, rfl⟩
abbrev main_call1_call0_call0_v160 : Ref sig .tc := ⟨.hbm, 492, rfl⟩
abbrev main_call1_call0_call0_v161 : Ref sig .tc := ⟨.hbm, 493, rfl⟩
abbrev main_call1_call0_call0_c_41 : Ref sig .tc := ⟨.hbm, 494, rfl⟩
abbrev main_call1_call0_call0_v162 : Ref sig .tc := ⟨.hbm, 495, rfl⟩
abbrev main_call1_call0_call0_v163 : Ref sig .tc := ⟨.hbm, 496, rfl⟩
abbrev main_call1_call0_call0_v164 : Ref sig .tc := ⟨.hbm, 497, rfl⟩
abbrev main_call1_call0_call0_v165 : Ref sig .tc := ⟨.hbm, 498, rfl⟩
abbrev main_call1_call0_call0_v166 : Ref sig .tc := ⟨.hbm, 499, rfl⟩
abbrev main_call1_call0_call0_c_42 : Ref sig .tc := ⟨.hbm, 500, rfl⟩
abbrev main_call1_call0_call0_v167 : Ref sig .tc := ⟨.hbm, 501, rfl⟩
abbrev main_call1_call0_call0_v168 : Ref sig .tc := ⟨.hbm, 502, rfl⟩
abbrev main_call1_call0_call0_c_43 : Ref sig .tc := ⟨.hbm, 503, rfl⟩
abbrev main_call1_call0_call0_v169 : Ref sig .tc := ⟨.hbm, 504, rfl⟩
abbrev main_call1_call0_call0_v170 : Ref sig .tc := ⟨.hbm, 505, rfl⟩
abbrev main_call1_call0_call0_v171 : Ref sig .tc := ⟨.hbm, 506, rfl⟩
abbrev main_call1_call0_call0_v172 : Ref sig .tc := ⟨.hbm, 507, rfl⟩
abbrev main_call1_call0_call0_v173 : Ref sig .tc := ⟨.hbm, 508, rfl⟩
abbrev main_call1_call0_v22_0 : Ref sig .tc := ⟨.hbm, 509, rfl⟩
abbrev main_call1_call0_call0_v175 : Ref sig .tc := ⟨.hbm, 510, rfl⟩
abbrev main_call1_call0_call0_v176 : Ref sig .tc := ⟨.hbm, 511, rfl⟩
abbrev main_call1_call0_call0_c_44 : Ref sig .tc := ⟨.hbm, 512, rfl⟩
abbrev main_call1_call0_call0_v177 : Ref sig .tc := ⟨.hbm, 513, rfl⟩
abbrev main_call1_call0_v22_1 : Ref sig .tc := ⟨.hbm, 514, rfl⟩
abbrev main_call1_call0_v23 : Ref sig .tc := ⟨.hbm, 515, rfl⟩
abbrev main_call1_call0_c_2 : Ref sig .tc := ⟨.hbm, 516, rfl⟩
abbrev main_call1_call0_v24 : Ref sig .tc := ⟨.hbm, 517, rfl⟩
abbrev main_call1_call0_v25 : Ref sig .tc := ⟨.hbm, 518, rfl⟩
abbrev main_call1_call0_c_3 : Ref sig .tc := ⟨.hbm, 519, rfl⟩
abbrev main_call1_call0_v26 : Ref sig .tc := ⟨.hbm, 520, rfl⟩
abbrev main_call1_call0_v27 : Ref sig .tc := ⟨.hbm, 521, rfl⟩
abbrev main_call1_call0_v28 : Ref sig .tc := ⟨.hbm, 522, rfl⟩
abbrev main_call1_call0_cst : Ref sig .tc := ⟨.hbm, 523, rfl⟩
abbrev main_call1_call0_v29 : Ref sig .tc := ⟨.hbm, 524, rfl⟩
abbrev main_call1_call0_v30 : Ref sig .tc := ⟨.hbm, 525, rfl⟩
abbrev main_call1_call0_v31 : Ref sig .tc := ⟨.hbm, 526, rfl⟩
abbrev main_call1_call0_v32 : Ref sig .tc := ⟨.hbm, 527, rfl⟩
abbrev main_call1_call0_v33 : Ref sig .tc := ⟨.hbm, 528, rfl⟩
abbrev main_call1_call0_v34 : Ref sig .tc := ⟨.hbm, 529, rfl⟩
abbrev main_call1_call0_v35 : Ref sig .tc := ⟨.hbm, 530, rfl⟩
abbrev main_call1_call0_v36 : Ref sig .tc := ⟨.hbm, 531, rfl⟩
abbrev main_call1_call0_v37 : Ref sig .tc := ⟨.hbm, 532, rfl⟩
abbrev main_call1_call0_v38 : Ref sig .tc := ⟨.hbm, 533, rfl⟩
abbrev main_call1_call0_v39 : Ref sig .tc := ⟨.hbm, 534, rfl⟩
abbrev main_call1_v0 : Ref sig .tc := ⟨.hbm, 535, rfl⟩
abbrev main_call1_v1 : Ref sig .tc := ⟨.hbm, 536, rfl⟩
abbrev main_call1_v2 : Ref sig .tc := ⟨.hbm, 537, rfl⟩
abbrev main_call1_v3 : Ref sig .tc := ⟨.hbm, 538, rfl⟩
abbrev main_v10 : Ref sig .tc := ⟨.hbm, 539, rfl⟩
abbrev main_v11 : Ref sig .tc := ⟨.hbm, 540, rfl⟩
abbrev main_v12 : Ref sig .tc := ⟨.hbm, 541, rfl⟩
abbrev main_v13 : Ref sig .tc := ⟨.hbm, 542, rfl⟩
abbrev main_v14 : Ref sig .tc := ⟨.hbm, 543, rfl⟩
abbrev main_v15 : Ref sig .tc := ⟨.hbm, 544, rfl⟩
abbrev main_v16 : Ref sig .tc := ⟨.hbm, 545, rfl⟩
abbrev main_v17 : Ref sig .tc := ⟨.hbm, 546, rfl⟩
abbrev main_v18 : Ref sig .tc := ⟨.hbm, 547, rfl⟩
abbrev main_v19 : Ref sig .tc := ⟨.hbm, 548, rfl⟩
abbrev main_v20 : Ref sig .tc := ⟨.hbm, 549, rfl⟩
abbrev main_v21 : Ref sig .tc := ⟨.hbm, 550, rfl⟩
abbrev main_v22 : Ref sig .tc := ⟨.hbm, 551, rfl⟩
abbrev main_v23 : Ref sig .tc := ⟨.hbm, 552, rfl⟩
abbrev main_v24 : Ref sig .tc := ⟨.hbm, 553, rfl⟩
abbrev main_v25 : Ref sig .tc := ⟨.hbm, 554, rfl⟩
abbrev main_c_2 : Ref sig .tc := ⟨.hbm, 555, rfl⟩
abbrev main_v26 : Ref sig .tc := ⟨.hbm, 556, rfl⟩
abbrev main_v27 : Ref sig .tc := ⟨.hbm, 557, rfl⟩
abbrev main_v28 : Ref sig .tc := ⟨.hbm, 558, rfl⟩
abbrev main_v29 : Ref sig .tc := ⟨.hbm, 559, rfl⟩
abbrev main_call2_v0 : Ref sig .tc := ⟨.hbm, 560, rfl⟩
abbrev main_call2_v1 : Ref sig .tc := ⟨.hbm, 561, rfl⟩
abbrev main_call2_v2 : Ref sig .tc := ⟨.hbm, 562, rfl⟩
abbrev main_call2_v3 : Ref sig .tc := ⟨.hbm, 563, rfl⟩
abbrev main_call2_v4 : Ref sig .tc := ⟨.hbm, 564, rfl⟩
abbrev main_v30 : Ref sig .tc := ⟨.hbm, 565, rfl⟩
abbrev main_v31 : Ref sig .tc := ⟨.hbm, 566, rfl⟩
abbrev main_v32 : Ref sig .tc := ⟨.hbm, 567, rfl⟩
abbrev main_v33 : Ref sig .tc := ⟨.hbm, 568, rfl⟩
abbrev main_v34 : Ref sig .tc := ⟨.hbm, 569, rfl⟩
abbrev main_v35 : Ref sig .tc := ⟨.hbm, 570, rfl⟩
abbrev main_v36 : Ref sig .tc := ⟨.hbm, 571, rfl⟩
abbrev main_c_3 : Ref sig .tc := ⟨.hbm, 572, rfl⟩
abbrev main_v37 : Ref sig .tc := ⟨.hbm, 573, rfl⟩
abbrev main_v38 : Ref sig .tc := ⟨.hbm, 574, rfl⟩
abbrev main_v39 : Ref sig .tc := ⟨.hbm, 575, rfl⟩
abbrev main_v40 : Ref sig .tc := ⟨.hbm, 576, rfl⟩
abbrev main_call3_v0 : Ref sig .tc := ⟨.hbm, 577, rfl⟩
abbrev main_call3_v1 : Ref sig .tc := ⟨.hbm, 578, rfl⟩
abbrev main_call3_v2 : Ref sig .tc := ⟨.hbm, 579, rfl⟩
abbrev main_call3_v3 : Ref sig .tc := ⟨.hbm, 580, rfl⟩
abbrev main_call3_v4 : Ref sig .tc := ⟨.hbm, 581, rfl⟩
abbrev main_v41 : Ref sig .tc := ⟨.hbm, 582, rfl⟩
abbrev main_v42 : Ref sig .tc := ⟨.hbm, 583, rfl⟩
abbrev main_v43 : Ref sig .tc := ⟨.hbm, 584, rfl⟩
abbrev main_v44 : Ref sig .tc := ⟨.hbm, 585, rfl⟩
abbrev main_v45 : Ref sig .tc := ⟨.hbm, 586, rfl⟩
abbrev main_v46_0 : Ref sig .tc := ⟨.hbm, 587, rfl⟩
abbrev main_v46_1 : Ref sig .tc := ⟨.hbm, 588, rfl⟩
abbrev main_v46_2 : Ref sig .tc := ⟨.hbm, 589, rfl⟩
abbrev main_v46_3 : Ref sig .tc := ⟨.hbm, 590, rfl⟩
abbrev main_v47 : Ref sig .tc := ⟨.hbm, 591, rfl⟩
abbrev main_v48 : Ref sig .tc := ⟨.hbm, 592, rfl⟩
abbrev main_v49 : Ref sig .tc := ⟨.hbm, 593, rfl⟩
abbrev main_v50 : Ref sig .tc := ⟨.hbm, 594, rfl⟩
abbrev main_v51 : Ref sig .tc := ⟨.hbm, 595, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_55 : BitVec 32 := 0#32
  let c50_i32 : BitVec 32 := 50#32
  let v119 : BitVec 32 := Scalar.addi c0_i32_55 c50_i32
  let c1_i32_56 : BitVec 32 := 1#32
  ⟨c0_i32_55, v119, c1_i32_56⟩
def k0_off1 (k0_t1 : Fin k0_t1_loop.trips) : Fin 3 → Nat :=
  let c0_i32_55 : BitVec 32 := 0#32
  let c1_i32_56 : BitVec 32 := 1#32
  let arg21 : BitVec 32 := Scf.iv c0_i32_55 c1_i32_56 k0_t1
  let v187 : Index := Scalar.indexCast arg21
  let c0_87 : Index := 0#32
  let c0_88 : Index := 0#32
  ![v187.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S50x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S50x50x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S50x50x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S50x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S50x256 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S50x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S1024x50x128 : Shape := ⟨3, ![1024, 50, 128]⟩
abbrev S128x32 : Shape := ⟨2, ![128, 32]⟩
abbrev S32 : Shape := ⟨1, ![32]⟩
abbrev S32x16 : Shape := ⟨2, ![32, 16]⟩
abbrev S16 : Shape := ⟨1, ![16]⟩
abbrev S160x128 : Shape := ⟨2, ![160, 128]⟩
abbrev S128 : Shape := ⟨1, ![128]⟩
abbrev S48x32 : Shape := ⟨2, ![48, 32]⟩
abbrev S16x1 : Shape := ⟨2, ![16, 1]⟩
abbrev S1 : Shape := ⟨1, ![1]⟩
abbrev S1024x50x32 : Shape := ⟨3, ![1024, 50, 32]⟩
abbrev S1x1x32 : Shape := ⟨3, ![1, 1, 32]⟩
abbrev S_ : Shape := ⟨0, ![]⟩
abbrev S1024x50x16 : Shape := ⟨3, ![1024, 50, 16]⟩
abbrev S1x1x16 : Shape := ⟨3, ![1, 1, 16]⟩
abbrev S1024 : Shape := ⟨1, ![1024]⟩
abbrev S2 : Shape := ⟨1, ![2]⟩
abbrev S1024x32 : Shape := ⟨2, ![1024, 32]⟩
abbrev S1024x50 : Shape := ⟨2, ![1024, 50]⟩
abbrev S1024x128 : Shape := ⟨2, ![1024, 128]⟩
abbrev S50 : Shape := ⟨1, ![50]⟩
abbrev S50x1024x50 : Shape := ⟨3, ![50, 1024, 50]⟩
abbrev S50x1024 : Shape := ⟨2, ![50, 1024]⟩
abbrev S1024x160 : Shape := ⟨2, ![1024, 160]⟩
abbrev S1x128 : Shape := ⟨2, ![1, 128]⟩
abbrev S1024x1x32 : Shape := ⟨3, ![1024, 1, 32]⟩
abbrev S1x1024x1x1x1x32 : Shape := ⟨6, ![1, 1024, 1, 1, 1, 32]⟩
abbrev S1x1024x50x1x1x32 : Shape := ⟨6, ![1, 1024, 50, 1, 1, 32]⟩
abbrev S1024x50x48 : Shape := ⟨3, ![1024, 50, 48]⟩
abbrev S1024x50x1 : Shape := ⟨3, ![1024, 50, 1]⟩
abbrev S1x1x1 : Shape := ⟨3, ![1, 1, 1]⟩
abbrev S1024x1 : Shape := ⟨2, ![1024, 1]⟩
abbrev S1x1 : Shape := ⟨2, ![1, 1]⟩
abbrev S1x50 : Shape := ⟨2, ![1, 50]⟩
abbrev S1024x2 : Shape := ⟨2, ![1024, 2]⟩
abbrev S1x1024x50 : Shape := ⟨3, ![1, 1024, 50]⟩
abbrev S1x1024 : Shape := ⟨2, ![1, 1024]⟩
abbrev S1024x50x50 : Shape := ⟨3, ![1024, 50, 50]⟩
abbrev S51200x1 : Shape := ⟨2, ![51200, 1]⟩

abbrev nBuf : Space → Nat
  | .hbm => 750
  | .vmem => 0
  | .smem => 0
  | _ => 0

abbrev hbmTy0_0 (i : Nat) : BufTy := match i % 128 with
  | 0 => ⟨S1024x50x128, .f32⟩
  | 1 => ⟨S128x32, .f32⟩
  | 2 => ⟨S32, .f32⟩
  | 3 => ⟨S32x16, .f32⟩
  | 4 => ⟨S16, .f32⟩
  | 5 => ⟨S160x128, .f32⟩
  | 6 => ⟨S128, .f32⟩
  | 7 => ⟨S48x32, .f32⟩
  | 8 => ⟨S32, .f32⟩
  | 9 => ⟨S32x16, .f32⟩
  | 10 => ⟨S16, .f32⟩
  | 11 => ⟨S16x1, .f32⟩
  | 12 => ⟨S1, .f32⟩
  | 13 => ⟨S1024x50x32, .f32⟩
  | 14 => ⟨S1x1x32, .f32⟩
  | 15 => ⟨S1024x50x32, .f32⟩
  | 16 => ⟨S1024x50x32, .f32⟩
  | 17 => ⟨S_, .f32⟩
  | 18 => ⟨S1024x50x32, .f32⟩
  | 19 => ⟨S1024x50x32, .f32⟩
  | 20 => ⟨S1024x50x16, .f32⟩
  | 21 => ⟨S1x1x16, .f32⟩
  | 22 => ⟨S1024x50x16, .f32⟩
  | 23 => ⟨S1024x50x16, .f32⟩
  | 24 => ⟨S_, .f32⟩
  | 25 => ⟨S1024x50x16, .f32⟩
  | 26 => ⟨S1024x50x16, .f32⟩
  | 27 => ⟨S1024, .i32⟩
  | 28 => ⟨S_, .i32⟩
  | 29 => ⟨S_, .i32⟩
  | 30 => ⟨S_, .i32⟩
  | 31 => ⟨S_, .i32⟩
  | 32 => ⟨S1, .i32⟩
  | 33 => ⟨S_, .i32⟩
  | 34 => ⟨S_, .i32⟩
  | 35 => ⟨S_, .i32⟩
  | 36 => ⟨S1, .i32⟩
  | 37 => ⟨S2, .i32⟩
  | 38 => ⟨S_, .f32⟩
  | 39 => ⟨S1024x32, .f32⟩
  | 40 => ⟨S_, .f32⟩
  | 41 => ⟨S1024x32, .f32⟩
  | 42 => ⟨S_, .f32⟩
  | 43 => ⟨S1024x50, .f32⟩
  | 44 => ⟨S_, .f32⟩
  | 45 => ⟨S1024x128, .f32⟩
  | 46 => ⟨S_, .f32⟩
  | 47 => ⟨S1024x50, .f32⟩
  | 48 => ⟨S50, .i32⟩
  | 49 => ⟨S_, .f32⟩
  | 50 => ⟨S50x1024x50, .f32⟩
  | 51 => ⟨S_, .f32⟩
  | 52 => ⟨S50x1024, .f32⟩
  | 53 => ⟨S_, .i32⟩
  | 54 => ⟨S50x1024, .i32⟩
  | 55 => ⟨S_, .i32⟩
  | 56 => ⟨S50, .i32⟩
  | 57 => ⟨S160x128, .f32⟩
  | 58 => ⟨S128, .f32⟩
  | 59 => ⟨S1024x50x16, .f32⟩
  | 60 => ⟨S48x32, .f32⟩
  | 61 => ⟨S32, .f32⟩
  | 62 => ⟨S32x16, .f32⟩
  | 63 => ⟨S16, .f32⟩
  | 64 => ⟨S16x1, .f32⟩
  | 65 => ⟨S1, .f32⟩
  | 66 => ⟨S2, .i32⟩
  | 67 => ⟨S1024, .i32⟩
  | 68 => ⟨S1024x50x128, .f32⟩
  | 69 => ⟨S_, .i32⟩
  | 70 => ⟨S1024x32, .f32⟩
  | 71 => ⟨S1024x32, .f32⟩
  | 72 => ⟨S1024x50, .f32⟩
  | 73 => ⟨S1024x128, .f32⟩
  | 74 => ⟨S1024x50, .f32⟩
  | 75 => ⟨S50x1024x50, .f32⟩
  | 76 => ⟨S50x1024, .f32⟩
  | 77 => ⟨S50x1024, .i32⟩
  | 78 => ⟨S_, .i32⟩
  | 79 => ⟨S_, .i1⟩
  | 80 => ⟨S1, .i32⟩
  | 81 => ⟨S_, .i32⟩
  | 82 => ⟨S1024x160, .f32⟩
  | 83 => ⟨S1024x128, .f32⟩
  | 84 => ⟨S1x128, .f32⟩
  | 85 => ⟨S1024x128, .f32⟩
  | 86 => ⟨S1024x128, .f32⟩
  | 87 => ⟨S1024x32, .f32⟩
  | 88 => ⟨S1024x32, .f32⟩
  | 89 => ⟨S1024x32, .f32⟩
  | 90 => ⟨S1024x32, .f32⟩
  | 91 => ⟨S_, .f32⟩
  | 92 => ⟨S1024x32, .f32⟩
  | 93 => ⟨S1024x32, .f32⟩
  | 94 => ⟨S1024x32, .f32⟩
  | 95 => ⟨S1024x32, .f32⟩
  | 96 => ⟨S_, .f32⟩
  | 97 => ⟨S1024x32, .f32⟩
  | 98 => ⟨S1024x32, .f32⟩
  | 99 => ⟨S_, .f32⟩
  | 100 => ⟨S1024x32, .f32⟩
  | 101 => ⟨S1024x32, .f32⟩
  | 102 => ⟨S1024x32, .f32⟩
  | 103 => ⟨S1024x32, .f32⟩
  | 104 => ⟨S1024x32, .f32⟩
  | 105 => ⟨S_, .f32⟩
  | 106 => ⟨S1024x32, .f32⟩
  | 107 => ⟨S1024x32, .f32⟩
  | 108 => ⟨S_, .f32⟩
  | 109 => ⟨S1024x32, .f32⟩
  | 110 => ⟨S1024x32, .f32⟩
  | 111 => ⟨S1024x32, .f32⟩
  | 112 => ⟨S1024x32, .f32⟩
  | 113 => ⟨S1024x32, .f32⟩
  | 114 => ⟨S1024x32, .f32⟩
  | 115 => ⟨S1024x32, .f32⟩
  | 116 => ⟨S1024x32, .f32⟩
  | 117 => ⟨S_, .f32⟩
  | 118 => ⟨S1024x32, .f32⟩
  | 119 => ⟨S1024x32, .f32⟩
  | 120 => ⟨S_, .f32⟩
  | 121 => ⟨S1024x32, .f32⟩
  | 122 => ⟨S1024x32, .f32⟩
  | 123 => ⟨S1024x32, .f32⟩
  | 124 => ⟨S1024x1x32, .f32⟩
  | 125 => ⟨S1x1024x1x1x1x32, .f32⟩
  | 126 => ⟨S1x1024x50x1x1x32, .f32⟩
  | 127 => ⟨S1024x50x32, .f32⟩
  | _ => ⟨S1024x50x128, .f32⟩

abbrev hbmTy0_1 (i : Nat) : BufTy := match i % 128 with
  | 0 => ⟨S1024x50x48, .f32⟩
  | 1 => ⟨S1024x50x32, .f32⟩
  | 2 => ⟨S1x1x32, .f32⟩
  | 3 => ⟨S1024x50x32, .f32⟩
  | 4 => ⟨S1024x50x32, .f32⟩
  | 5 => ⟨S_, .f32⟩
  | 6 => ⟨S1024x50x32, .f32⟩
  | 7 => ⟨S1024x50x32, .f32⟩
  | 8 => ⟨S1024x50x16, .f32⟩
  | 9 => ⟨S1x1x16, .f32⟩
  | 10 => ⟨S1024x50x16, .f32⟩
  | 11 => ⟨S1024x50x16, .f32⟩
  | 12 => ⟨S_, .f32⟩
  | 13 => ⟨S1024x50x16, .f32⟩
  | 14 => ⟨S1024x50x16, .f32⟩
  | 15 => ⟨S1024x50x1, .f32⟩
  | 16 => ⟨S1x1x1, .f32⟩
  | 17 => ⟨S1024x50x1, .f32⟩
  | 18 => ⟨S1024x50x1, .f32⟩
  | 19 => ⟨S1024x50, .f32⟩
  | 20 => ⟨S_, .f32⟩
  | 21 => ⟨S1024x50, .f32⟩
  | 22 => ⟨S1024x50, .f32⟩
  | 23 => ⟨S_, .f32⟩
  | 24 => ⟨S1024x50, .f32⟩
  | 25 => ⟨S1024x50, .f32⟩
  | 26 => ⟨S1024x50, .f32⟩
  | 27 => ⟨S_, .f32⟩
  | 28 => ⟨S1024, .f32⟩
  | 29 => ⟨S_, .f32⟩
  | 30 => ⟨S1024, .f32⟩
  | 31 => ⟨S1024, .f32⟩
  | 32 => ⟨S1024x1, .f32⟩
  | 33 => ⟨S1024x50, .f32⟩
  | 34 => ⟨S1024x50, .f32⟩
  | 35 => ⟨S1024x50, .f32⟩
  | 36 => ⟨S_, .f32⟩
  | 37 => ⟨S1024, .f32⟩
  | 38 => ⟨S1024x1, .f32⟩
  | 39 => ⟨S1024x50, .f32⟩
  | 40 => ⟨S1024x50, .f32⟩
  | 41 => ⟨S_, .i32⟩
  | 42 => ⟨S_, .i32⟩
  | 43 => ⟨S_, .i32⟩
  | 44 => ⟨S1, .i32⟩
  | 45 => ⟨S_, .i32⟩
  | 46 => ⟨S_, .i32⟩
  | 47 => ⟨S1, .i32⟩
  | 48 => ⟨S2, .i32⟩
  | 49 => ⟨S1, .i32⟩
  | 50 => ⟨S_, .i32⟩
  | 51 => ⟨S1, .i32⟩
  | 52 => ⟨S_, .i32⟩
  | 53 => ⟨S1, .i32⟩
  | 54 => ⟨S1, .i32⟩
  | 55 => ⟨S_, .i32⟩
  | 56 => ⟨S_, .i32⟩
  | 57 => ⟨S_, .i32⟩
  | 58 => ⟨S1, .i32⟩
  | 59 => ⟨S1, .i32⟩
  | 60 => ⟨S1, .i32⟩
  | 61 => ⟨S1, .i32⟩
  | 62 => ⟨S1, .i32⟩
  | 63 => ⟨S_, .i32⟩
  | 64 => ⟨S1, .i32⟩
  | 65 => ⟨S1, .i32⟩
  | 66 => ⟨S_, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S1, .i32⟩
  | 80 => ⟨S1, .i32⟩
  | 81 => ⟨S_, .i32⟩
  | 82 => ⟨S1, .i32⟩
  | 83 => ⟨S1, .i32⟩
  | 84 => ⟨S_, .i32⟩
  | 85 => ⟨S1, .i32⟩
  | 86 => ⟨S1, .i32⟩
  | 87 => ⟨S1, .i32⟩
  | 88 => ⟨S1, .i32⟩
  | 89 => ⟨S1, .i32⟩
  | 90 => ⟨S_, .i32⟩
  | 91 => ⟨S1, .i32⟩
  | 92 => ⟨S1, .i32⟩
  | 93 => ⟨S_, .i32⟩
  | 94 => ⟨S1, .i32⟩
  | 95 => ⟨S1, .i32⟩
  | 96 => ⟨S1, .i32⟩
  | 97 => ⟨S1, .i32⟩
  | 98 => ⟨S1, .i32⟩
  | 99 => ⟨S1, .i32⟩
  | 100 => ⟨S1, .i32⟩
  | 101 => ⟨S1, .i32⟩
  | 102 => ⟨S_, .i32⟩
  | 103 => ⟨S1, .i32⟩
  | 104 => ⟨S1, .i32⟩
  | 105 => ⟨S1, .i32⟩
  | 106 => ⟨S_, .i32⟩
  | 107 => ⟨S1, .i32⟩
  | 108 => ⟨S1, .i32⟩
  | 109 => ⟨S_, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S_, .i32⟩
  | 119 => ⟨S1, .i32⟩
  | 120 => ⟨S1, .i32⟩
  | 121 => ⟨S1, .i32⟩
  | 122 => ⟨S1, .i32⟩
  | 123 => ⟨S1, .i32⟩
  | 124 => ⟨S_, .i32⟩
  | 125 => ⟨S1, .i32⟩
  | 126 => ⟨S1, .i32⟩
  | 127 => ⟨S_, .i32⟩
  | _ => ⟨S1024x50x128, .f32⟩

abbrev hbmTy0_2 (i : Nat) : BufTy := match i % 128 with
  | 0 => ⟨S1, .i32⟩
  | 1 => ⟨S1, .i32⟩
  | 2 => ⟨S1, .i32⟩
  | 3 => ⟨S1, .i32⟩
  | 4 => ⟨S1, .i32⟩
  | 5 => ⟨S_, .i32⟩
  | 6 => ⟨S1, .i32⟩
  | 7 => ⟨S1, .i32⟩
  | 8 => ⟨S_, .i32⟩
  | 9 => ⟨S1, .i32⟩
  | 10 => ⟨S1, .i32⟩
  | 11 => ⟨S1, .i32⟩
  | 12 => ⟨S1, .i32⟩
  | 13 => ⟨S1, .i32⟩
  | 14 => ⟨S1, .i32⟩
  | 15 => ⟨S1, .i32⟩
  | 16 => ⟨S1, .i32⟩
  | 17 => ⟨S_, .i32⟩
  | 18 => ⟨S1, .i32⟩
  | 19 => ⟨S1, .i32⟩
  | 20 => ⟨S1, .i32⟩
  | 21 => ⟨S_, .i32⟩
  | 22 => ⟨S1, .i32⟩
  | 23 => ⟨S1, .i32⟩
  | 24 => ⟨S_, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S_, .i32⟩
  | 34 => ⟨S1, .i32⟩
  | 35 => ⟨S1, .i32⟩
  | 36 => ⟨S1, .i32⟩
  | 37 => ⟨S1, .i32⟩
  | 38 => ⟨S1, .i32⟩
  | 39 => ⟨S_, .i32⟩
  | 40 => ⟨S1, .i32⟩
  | 41 => ⟨S1, .i32⟩
  | 42 => ⟨S_, .i32⟩
  | 43 => ⟨S1, .i32⟩
  | 44 => ⟨S1, .i32⟩
  | 45 => ⟨S1, .i32⟩
  | 46 => ⟨S1, .i32⟩
  | 47 => ⟨S1, .i32⟩
  | 48 => ⟨S_, .i32⟩
  | 49 => ⟨S1, .i32⟩
  | 50 => ⟨S1, .i32⟩
  | 51 => ⟨S_, .i32⟩
  | 52 => ⟨S1, .i32⟩
  | 53 => ⟨S1, .i32⟩
  | 54 => ⟨S1, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S1, .i32⟩
  | 64 => ⟨S_, .i32⟩
  | 65 => ⟨S1, .i32⟩
  | 66 => ⟨S1, .i32⟩
  | 67 => ⟨S_, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S_, .i32⟩
  | 77 => ⟨S1, .i32⟩
  | 78 => ⟨S1, .i32⟩
  | 79 => ⟨S1, .i32⟩
  | 80 => ⟨S1, .i32⟩
  | 81 => ⟨S1, .i32⟩
  | 82 => ⟨S_, .i32⟩
  | 83 => ⟨S1, .i32⟩
  | 84 => ⟨S1, .i32⟩
  | 85 => ⟨S_, .i32⟩
  | 86 => ⟨S1, .i32⟩
  | 87 => ⟨S1, .i32⟩
  | 88 => ⟨S1, .i32⟩
  | 89 => ⟨S1, .i32⟩
  | 90 => ⟨S1, .i32⟩
  | 91 => ⟨S_, .i32⟩
  | 92 => ⟨S1, .i32⟩
  | 93 => ⟨S1, .i32⟩
  | 94 => ⟨S_, .i32⟩
  | 95 => ⟨S1, .i32⟩
  | 96 => ⟨S1, .i32⟩
  | 97 => ⟨S1, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S1, .i32⟩
  | 107 => ⟨S_, .i32⟩
  | 108 => ⟨S1, .i32⟩
  | 109 => ⟨S1, .i32⟩
  | 110 => ⟨S_, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S_, .i32⟩
  | 120 => ⟨S1, .i32⟩
  | 121 => ⟨S1, .i32⟩
  | 122 => ⟨S1, .i32⟩
  | 123 => ⟨S1, .i32⟩
  | 124 => ⟨S1, .i32⟩
  | 125 => ⟨S_, .i32⟩
  | 126 => ⟨S1, .i32⟩
  | 127 => ⟨S1, .i32⟩
  | _ => ⟨S1024x50x128, .f32⟩

abbrev hbmTy0_3 (i : Nat) : BufTy := match i % 128 with
  | 0 => ⟨S_, .i32⟩
  | 1 => ⟨S1, .i32⟩
  | 2 => ⟨S1, .i32⟩
  | 3 => ⟨S1, .i32⟩
  | 4 => ⟨S1, .i32⟩
  | 5 => ⟨S1, .i32⟩
  | 6 => ⟨S_, .i32⟩
  | 7 => ⟨S1, .i32⟩
  | 8 => ⟨S1, .i32⟩
  | 9 => ⟨S_, .i32⟩
  | 10 => ⟨S1, .i32⟩
  | 11 => ⟨S1, .i32⟩
  | 12 => ⟨S1, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S2, .i32⟩
  | 22 => ⟨S_, .f32⟩
  | 23 => ⟨S1024x50, .f32⟩
  | 24 => ⟨S1024x50, .f32⟩
  | 25 => ⟨S1024x50, .f32⟩
  | 26 => ⟨S_, .f32⟩
  | 27 => ⟨S_, .f32⟩
  | 28 => ⟨S_, .f32⟩
  | 29 => ⟨S1x1, .f32⟩
  | 30 => ⟨S1x1, .f32⟩
  | 31 => ⟨S1, .i32⟩
  | 32 => ⟨S_, .i32⟩
  | 33 => ⟨S1, .i32⟩
  | 34 => ⟨S_, .i32⟩
  | 35 => ⟨S1024x50, .i64⟩
  | 36 => ⟨S1024x50, .i64⟩
  | 37 => ⟨S_, .i64⟩
  | 38 => ⟨S1024x50, .i64⟩
  | 39 => ⟨S1024x50, .i64⟩
  | 40 => ⟨S_, .i64⟩
  | 41 => ⟨S1024x50, .i64⟩
  | 42 => ⟨S1024x50, .i64⟩
  | 43 => ⟨S1024x50, .i64⟩
  | 44 => ⟨S_, .i64⟩
  | 45 => ⟨S1024x50, .i64⟩
  | 46 => ⟨S1024x50, .i64⟩
  | 47 => ⟨S1024x50, .i32⟩
  | 48 => ⟨S1024x50, .i32⟩
  | 49 => ⟨S_, .i32⟩
  | 50 => ⟨S_, .i32⟩
  | 51 => ⟨S_, .i32⟩
  | 52 => ⟨S1024x50, .i32⟩
  | 53 => ⟨S1024x50, .i32⟩
  | 54 => ⟨S1024x50, .i32⟩
  | 55 => ⟨S1024x50, .i32⟩
  | 56 => ⟨S1024x50, .i32⟩
  | 57 => ⟨S_, .i32⟩
  | 58 => ⟨S1024x50, .i32⟩
  | 59 => ⟨S1024x50, .i32⟩
  | 60 => ⟨S_, .i32⟩
  | 61 => ⟨S1024x50, .i32⟩
  | 62 => ⟨S1024x50, .i32⟩
  | 63 => ⟨S1024x50, .i32⟩
  | 64 => ⟨S1024x50, .i32⟩
  | 65 => ⟨S1024x50, .i32⟩
  | 66 => ⟨S_, .i32⟩
  | 67 => ⟨S1024x50, .i32⟩
  | 68 => ⟨S1024x50, .i32⟩
  | 69 => ⟨S_, .i32⟩
  | 70 => ⟨S1024x50, .i32⟩
  | 71 => ⟨S1024x50, .i32⟩
  | 72 => ⟨S1024x50, .i32⟩
  | 73 => ⟨S1024x50, .i32⟩
  | 74 => ⟨S1024x50, .i32⟩
  | 75 => ⟨S_, .i32⟩
  | 76 => ⟨S1024x50, .i32⟩
  | 77 => ⟨S1024x50, .i32⟩
  | 78 => ⟨S_, .i32⟩
  | 79 => ⟨S1024x50, .i32⟩
  | 80 => ⟨S1024x50, .i32⟩
  | 81 => ⟨S1024x50, .i32⟩
  | 82 => ⟨S1024x50, .i32⟩
  | 83 => ⟨S1024x50, .i32⟩
  | 84 => ⟨S_, .i32⟩
  | 85 => ⟨S1024x50, .i32⟩
  | 86 => ⟨S1024x50, .i32⟩
  | 87 => ⟨S_, .i32⟩
  | 88 => ⟨S1024x50, .i32⟩
  | 89 => ⟨S1024x50, .i32⟩
  | 90 => ⟨S1024x50, .i32⟩
  | 91 => ⟨S1024x50, .i32⟩
  | 92 => ⟨S1024x50, .i32⟩
  | 93 => ⟨S1024x50, .i32⟩
  | 94 => ⟨S1024x50, .i32⟩
  | 95 => ⟨S1024x50, .i32⟩
  | 96 => ⟨S_, .i32⟩
  | 97 => ⟨S1024x50, .i32⟩
  | 98 => ⟨S1024x50, .i32⟩
  | 99 => ⟨S1024x50, .i32⟩
  | 100 => ⟨S_, .i32⟩
  | 101 => ⟨S1024x50, .i32⟩
  | 102 => ⟨S1024x50, .i32⟩
  | 103 => ⟨S_, .i32⟩
  | 104 => ⟨S1024x50, .i32⟩
  | 105 => ⟨S1024x50, .i32⟩
  | 106 => ⟨S1024x50, .i32⟩
  | 107 => ⟨S1024x50, .i32⟩
  | 108 => ⟨S1024x50, .i32⟩
  | 109 => ⟨S_, .i32⟩
  | 110 => ⟨S1024x50, .i32⟩
  | 111 => ⟨S1024x50, .i32⟩
  | 112 => ⟨S_, .i32⟩
  | 113 => ⟨S1024x50, .i32⟩
  | 114 => ⟨S1024x50, .i32⟩
  | 115 => ⟨S1024x50, .i32⟩
  | 116 => ⟨S1024x50, .i32⟩
  | 117 => ⟨S1024x50, .i32⟩
  | 118 => ⟨S_, .i32⟩
  | 119 => ⟨S1024x50, .i32⟩
  | 120 => ⟨S1024x50, .i32⟩
  | 121 => ⟨S_, .i32⟩
  | 122 => ⟨S1024x50, .i32⟩
  | 123 => ⟨S1024x50, .i32⟩
  | 124 => ⟨S1024x50, .i32⟩
  | 125 => ⟨S1024x50, .i32⟩
  | 126 => ⟨S1024x50, .i32⟩
  | 127 => ⟨S_, .i32⟩
  | _ => ⟨S1024x50x128, .f32⟩

abbrev hbmTy0_4 (i : Nat) : BufTy := match i % 128 with
  | 0 => ⟨S1024x50, .i32⟩
  | 1 => ⟨S1024x50, .i32⟩
  | 2 => ⟨S_, .i32⟩
  | 3 => ⟨S1024x50, .i32⟩
  | 4 => ⟨S1024x50, .i32⟩
  | 5 => ⟨S1024x50, .i32⟩
  | 6 => ⟨S1024x50, .i32⟩
  | 7 => ⟨S1024x50, .i32⟩
  | 8 => ⟨S1024x50, .i32⟩
  | 9 => ⟨S1024x50, .i32⟩
  | 10 => ⟨S1024x50, .i32⟩
  | 11 => ⟨S_, .i32⟩
  | 12 => ⟨S1024x50, .i32⟩
  | 13 => ⟨S1024x50, .i32⟩
  | 14 => ⟨S1024x50, .i32⟩
  | 15 => ⟨S_, .i32⟩
  | 16 => ⟨S1024x50, .i32⟩
  | 17 => ⟨S1024x50, .i32⟩
  | 18 => ⟨S_, .i32⟩
  | 19 => ⟨S1024x50, .i32⟩
  | 20 => ⟨S1024x50, .i32⟩
  | 21 => ⟨S1024x50, .i32⟩
  | 22 => ⟨S1024x50, .i32⟩
  | 23 => ⟨S1024x50, .i32⟩
  | 24 => ⟨S_, .i32⟩
  | 25 => ⟨S1024x50, .i32⟩
  | 26 => ⟨S1024x50, .i32⟩
  | 27 => ⟨S_, .i32⟩
  | 28 => ⟨S1024x50, .i32⟩
  | 29 => ⟨S1024x50, .i32⟩
  | 30 => ⟨S1024x50, .i32⟩
  | 31 => ⟨S1024x50, .i32⟩
  | 32 => ⟨S1024x50, .i32⟩
  | 33 => ⟨S_, .i32⟩
  | 34 => ⟨S1024x50, .i32⟩
  | 35 => ⟨S1024x50, .i32⟩
  | 36 => ⟨S_, .i32⟩
  | 37 => ⟨S1024x50, .i32⟩
  | 38 => ⟨S1024x50, .i32⟩
  | 39 => ⟨S1024x50, .i32⟩
  | 40 => ⟨S1024x50, .i32⟩
  | 41 => ⟨S1024x50, .i32⟩
  | 42 => ⟨S_, .i32⟩
  | 43 => ⟨S1024x50, .i32⟩
  | 44 => ⟨S1024x50, .i32⟩
  | 45 => ⟨S_, .i32⟩
  | 46 => ⟨S1024x50, .i32⟩
  | 47 => ⟨S1024x50, .i32⟩
  | 48 => ⟨S1024x50, .i32⟩
  | 49 => ⟨S1024x50, .i32⟩
  | 50 => ⟨S1024x50, .i32⟩
  | 51 => ⟨S1024x50, .i32⟩
  | 52 => ⟨S1024x50, .i32⟩
  | 53 => ⟨S1024x50, .i32⟩
  | 54 => ⟨S_, .i32⟩
  | 55 => ⟨S1024x50, .i32⟩
  | 56 => ⟨S1024x50, .i32⟩
  | 57 => ⟨S1024x50, .i32⟩
  | 58 => ⟨S_, .i32⟩
  | 59 => ⟨S1024x50, .i32⟩
  | 60 => ⟨S1024x50, .i32⟩
  | 61 => ⟨S_, .i32⟩
  | 62 => ⟨S1024x50, .i32⟩
  | 63 => ⟨S1024x50, .i32⟩
  | 64 => ⟨S1024x50, .i32⟩
  | 65 => ⟨S1024x50, .i32⟩
  | 66 => ⟨S1024x50, .i32⟩
  | 67 => ⟨S_, .i32⟩
  | 68 => ⟨S1024x50, .i32⟩
  | 69 => ⟨S1024x50, .i32⟩
  | 70 => ⟨S_, .i32⟩
  | 71 => ⟨S1024x50, .i32⟩
  | 72 => ⟨S1024x50, .i32⟩
  | 73 => ⟨S1024x50, .i32⟩
  | 74 => ⟨S1024x50, .i32⟩
  | 75 => ⟨S1024x50, .i32⟩
  | 76 => ⟨S_, .i32⟩
  | 77 => ⟨S1024x50, .i32⟩
  | 78 => ⟨S1024x50, .i32⟩
  | 79 => ⟨S_, .i32⟩
  | 80 => ⟨S1024x50, .i32⟩
  | 81 => ⟨S1024x50, .i32⟩
  | 82 => ⟨S1024x50, .i32⟩
  | 83 => ⟨S1024x50, .i32⟩
  | 84 => ⟨S1024x50, .i32⟩
  | 85 => ⟨S_, .i32⟩
  | 86 => ⟨S1024x50, .i32⟩
  | 87 => ⟨S1024x50, .i32⟩
  | 88 => ⟨S_, .i32⟩
  | 89 => ⟨S1024x50, .i32⟩
  | 90 => ⟨S1024x50, .i32⟩
  | 91 => ⟨S1024x50, .i32⟩
  | 92 => ⟨S1024x50, .i32⟩
  | 93 => ⟨S1024x50, .i32⟩
  | 94 => ⟨S1024x50, .i32⟩
  | 95 => ⟨S1024x50, .i32⟩
  | 96 => ⟨S1024x50, .i32⟩
  | 97 => ⟨S_, .i32⟩
  | 98 => ⟨S1024x50, .i32⟩
  | 99 => ⟨S1024x50, .i32⟩
  | 100 => ⟨S1024x50, .i32⟩
  | 101 => ⟨S_, .i32⟩
  | 102 => ⟨S1024x50, .i32⟩
  | 103 => ⟨S1024x50, .i32⟩
  | 104 => ⟨S_, .i32⟩
  | 105 => ⟨S1024x50, .i32⟩
  | 106 => ⟨S1024x50, .i32⟩
  | 107 => ⟨S1024x50, .i32⟩
  | 108 => ⟨S1024x50, .i32⟩
  | 109 => ⟨S1024x50, .i32⟩
  | 110 => ⟨S_, .i32⟩
  | 111 => ⟨S1024x50, .i32⟩
  | 112 => ⟨S1024x50, .i32⟩
  | 113 => ⟨S_, .i32⟩
  | 114 => ⟨S1024x50, .i32⟩
  | 115 => ⟨S1024x50, .i32⟩
  | 116 => ⟨S1024x50, .i32⟩
  | 117 => ⟨S1024x50, .i32⟩
  | 118 => ⟨S1024x50, .i32⟩
  | 119 => ⟨S_, .i32⟩
  | 120 => ⟨S1024x50, .i32⟩
  | 121 => ⟨S1024x50, .i32⟩
  | 122 => ⟨S_, .i32⟩
  | 123 => ⟨S1024x50, .i32⟩
  | 124 => ⟨S1024x50, .i32⟩
  | 125 => ⟨S1024x50, .i32⟩
  | 126 => ⟨S1024x50, .i32⟩
  | 127 => ⟨S1024x50, .i32⟩
  | _ => ⟨S1024x50x128, .f32⟩

abbrev hbmTy0_5 (i : Nat) : BufTy := match i % 128 with
  | 0 => ⟨S_, .i32⟩
  | 1 => ⟨S1024x50, .i32⟩
  | 2 => ⟨S1024x50, .i32⟩
  | 3 => ⟨S_, .i32⟩
  | 4 => ⟨S1024x50, .i32⟩
  | 5 => ⟨S1024x50, .i32⟩
  | 6 => ⟨S1024x50, .i32⟩
  | 7 => ⟨S1024x50, .i32⟩
  | 8 => ⟨S1024x50, .i32⟩
  | 9 => ⟨S1024x50, .i32⟩
  | 10 => ⟨S1024x50, .i32⟩
  | 11 => ⟨S1024x50, .i32⟩
  | 12 => ⟨S_, .i32⟩
  | 13 => ⟨S1024x50, .i32⟩
  | 14 => ⟨S1024x50, .i32⟩
  | 15 => ⟨S1024x50, .i32⟩
  | 16 => ⟨S_, .i32⟩
  | 17 => ⟨S1024x50, .i32⟩
  | 18 => ⟨S1024x50, .i32⟩
  | 19 => ⟨S_, .i32⟩
  | 20 => ⟨S1024x50, .i32⟩
  | 21 => ⟨S1024x50, .i32⟩
  | 22 => ⟨S1024x50, .f32⟩
  | 23 => ⟨S_, .f32⟩
  | 24 => ⟨S1024x50, .f32⟩
  | 25 => ⟨S1024x50, .f32⟩
  | 26 => ⟨S1x1, .f32⟩
  | 27 => ⟨S1024x50, .f32⟩
  | 28 => ⟨S1024x50, .f32⟩
  | 29 => ⟨S1024x50, .f32⟩
  | 30 => ⟨S1024x50, .f32⟩
  | 31 => ⟨S1024x50, .f32⟩
  | 32 => ⟨S1024x50, .f32⟩
  | 33 => ⟨S1024x50, .f32⟩
  | 34 => ⟨S1024x50, .f32⟩
  | 35 => ⟨S1024x50, .f32⟩
  | 36 => ⟨S1024x50, .f32⟩
  | 37 => ⟨S1024x50, .f32⟩
  | 38 => ⟨S1024x50, .i32⟩
  | 39 => ⟨S_, .f32⟩
  | 40 => ⟨S_, .i32⟩
  | 41 => ⟨S1024, .f32⟩
  | 42 => ⟨S1024, .i32⟩
  | 43 => ⟨S1024x1, .i32⟩
  | 44 => ⟨S1x50, .i32⟩
  | 45 => ⟨S1024x50, .i32⟩
  | 46 => ⟨S1024x50, .i32⟩
  | 47 => ⟨S1024x50, .i1⟩
  | 48 => ⟨S1024x50, .f32⟩
  | 49 => ⟨S1024x50, .f32⟩
  | 50 => ⟨S_, .i32⟩
  | 51 => ⟨S1024, .i32⟩
  | 52 => ⟨S1024, .i1⟩
  | 53 => ⟨S_, .i32⟩
  | 54 => ⟨S1024, .i32⟩
  | 55 => ⟨S1024, .i32⟩
  | 56 => ⟨S1024, .i32⟩
  | 57 => ⟨S_, .i32⟩
  | 58 => ⟨S1024, .i32⟩
  | 59 => ⟨S1024, .i1⟩
  | 60 => ⟨S_, .i32⟩
  | 61 => ⟨S1024, .i32⟩
  | 62 => ⟨S1024, .i32⟩
  | 63 => ⟨S1024, .i32⟩
  | 64 => ⟨S1024x1, .i32⟩
  | 65 => ⟨S1024x1, .i32⟩
  | 66 => ⟨S1024x2, .i32⟩
  | 67 => ⟨S1024x128, .f32⟩
  | 68 => ⟨S_, .f32⟩
  | 69 => ⟨S_, .f32⟩
  | 70 => ⟨S_, .f32⟩
  | 71 => ⟨S_, .f32⟩
  | 72 => ⟨S_, .f32⟩
  | 73 => ⟨S1024x50, .f32⟩
  | 74 => ⟨S1024x50, .f32⟩
  | 75 => ⟨S1024x50, .f32⟩
  | 76 => ⟨S_, .i32⟩
  | 77 => ⟨S1024, .i32⟩
  | 78 => ⟨S1024, .i1⟩
  | 79 => ⟨S_, .i32⟩
  | 80 => ⟨S1024, .i32⟩
  | 81 => ⟨S1024, .i32⟩
  | 82 => ⟨S1024, .i32⟩
  | 83 => ⟨S_, .i32⟩
  | 84 => ⟨S1024, .i32⟩
  | 85 => ⟨S1024, .i1⟩
  | 86 => ⟨S_, .i32⟩
  | 87 => ⟨S1024, .i32⟩
  | 88 => ⟨S1024, .i32⟩
  | 89 => ⟨S1024, .i32⟩
  | 90 => ⟨S1024x1, .i32⟩
  | 91 => ⟨S1024x1, .i32⟩
  | 92 => ⟨S1024x2, .i32⟩
  | 93 => ⟨S1024, .f32⟩
  | 94 => ⟨S1x1024x50, .f32⟩
  | 95 => ⟨S_, .i32⟩
  | 96 => ⟨S_, .i32⟩
  | 97 => ⟨S50x1024x50, .f32⟩
  | 98 => ⟨S1x1024, .f32⟩
  | 99 => ⟨S_, .i32⟩
  | 100 => ⟨S50x1024, .f32⟩
  | 101 => ⟨S1x1024, .i32⟩
  | 102 => ⟨S_, .i32⟩
  | 103 => ⟨S50x1024, .i32⟩
  | 104 => ⟨S_, .i32⟩
  | 105 => ⟨S_, .i32⟩
  | 106 => ⟨S1024x50x50, .f32⟩
  | 107 => ⟨S1024x50, .f32⟩
  | 108 => ⟨S1024x50, .i32⟩
  | 109 => ⟨S51200x1, .f32⟩
  | _ => ⟨S1024x50x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1024x50x128, .f32⟩

abbrev bufTy : (tb : Table) → Fin (tcTables nBuf tb) → BufTy
  | .hbm, ⟨i, _⟩ => hbmTy i
  | _, _ => ⟨S1024x50x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_cst_4 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_cst_6 : Ref sig .tc := ⟨.hbm, 49, rfl⟩
abbrev main_v24 : Ref sig .tc := ⟨.hbm, 50, rfl⟩
abbrev main_cst_7 : Ref sig .tc := ⟨.hbm, 51, rfl⟩
abbrev main_v25 : Ref sig .tc := ⟨.hbm, 52, rfl⟩
abbrev main_c_8 : Ref sig .tc := ⟨.hbm, 53, rfl⟩
abbrev main_v26 : Ref sig .tc := ⟨.hbm, 54, rfl⟩
abbrev main_c_9 : Ref sig .tc := ⟨.hbm, 55, rfl⟩
abbrev main_v27_0 : Ref sig .tc := ⟨.hbm, 56, rfl⟩
abbrev main_v27_1 : Ref sig .tc := ⟨.hbm, 57, rfl⟩
abbrev main_v27_2 : Ref sig .tc := ⟨.hbm, 58, rfl⟩
abbrev main_v27_3 : Ref sig .tc := ⟨.hbm, 59, rfl⟩
abbrev main_v27_4 : Ref sig .tc := ⟨.hbm, 60, rfl⟩
abbrev main_v27_5 : Ref sig .tc := ⟨.hbm, 61, rfl⟩
abbrev main_v27_6 : Ref sig .tc := ⟨.hbm, 62, rfl⟩
abbrev main_v27_7 : Ref sig .tc := ⟨.hbm, 63, rfl⟩
abbrev main_v27_8 : Ref sig .tc := ⟨.hbm, 64, rfl⟩
abbrev main_v27_9 : Ref sig .tc := ⟨.hbm, 65, rfl⟩
abbrev main_v27_10 : Ref sig .tc := ⟨.hbm, 66, rfl⟩
abbrev main_v27_11 : Ref sig .tc := ⟨.hbm, 67, rfl⟩
abbrev main_v27_12 : Ref sig .tc := ⟨.hbm, 68, rfl⟩
abbrev main_v27_13 : Ref sig .tc := ⟨.hbm, 69, rfl⟩
abbrev main_v27_14 : Ref sig .tc := ⟨.hbm, 70, rfl⟩
abbrev main_v27_15 : Ref sig .tc := ⟨.hbm, 71, rfl⟩
abbrev main_v27_16 : Ref sig .tc := ⟨.hbm, 72, rfl⟩
abbrev main_v27_17 : Ref sig .tc := ⟨.hbm, 73, rfl⟩
abbrev main_v27_18 : Ref sig .tc := ⟨.hbm, 74, rfl⟩
abbrev main_v27_19 : Ref sig .tc := ⟨.hbm, 75, rfl⟩
abbrev main_v27_20 : Ref sig .tc := ⟨.hbm, 76, rfl⟩
abbrev main_v27_21 : Ref sig .tc := ⟨.hbm, 77, rfl⟩
abbrev main_while0c_c_31 : Ref sig .tc := ⟨.hbm, 78, rfl⟩
abbrev main_while0c_v32 : Ref sig .tc := ⟨.hbm, 79, rfl⟩
abbrev main_while0b_call2_v0 : Ref sig .tc := ⟨.hbm, 80, rfl⟩
abbrev main_while0b_v32 : Ref sig .tc := ⟨.hbm, 81, rfl⟩
abbrev main_while0b_v33 : Ref sig .tc := ⟨.hbm, 82, rfl⟩
abbrev main_while0b_v34 : Ref sig .tc := ⟨.hbm, 83, rfl⟩
abbrev main_while0b_v35 : Ref sig .tc := ⟨.hbm, 84, rfl⟩
abbrev main_while0b_v36 : Ref sig .tc := ⟨.hbm, 85, rfl⟩
abbrev main_while0b_v37 : Ref sig .tc := ⟨.hbm, 86, rfl⟩
abbrev main_while0b_v38 : Ref sig .tc := ⟨.hbm, 87, rfl⟩
abbrev main_while0b_v39 : Ref sig .tc := ⟨.hbm, 88, rfl⟩
abbrev main_while0b_v40 : Ref sig .tc := ⟨.hbm, 89, rfl⟩
abbrev main_while0b_v41 : Ref sig .tc := ⟨.hbm, 90, rfl⟩
abbrev main_while0b_cst_31 : Ref sig .tc := ⟨.hbm, 91, rfl⟩
abbrev main_while0b_v42 : Ref sig .tc := ⟨.hbm, 92, rfl⟩
abbrev main_while0b_v43 : Ref sig .tc := ⟨.hbm, 93, rfl⟩
abbrev main_while0b_v44 : Ref sig .tc := ⟨.hbm, 94, rfl⟩
abbrev main_while0b_v45 : Ref sig .tc := ⟨.hbm, 95, rfl⟩
abbrev main_while0b_cst_32 : Ref sig .tc := ⟨.hbm, 96, rfl⟩
abbrev main_while0b_v46 : Ref sig .tc := ⟨.hbm, 97, rfl⟩
abbrev main_while0b_v47 : Ref sig .tc := ⟨.hbm, 98, rfl⟩
abbrev main_while0b_cst_33 : Ref sig .tc := ⟨.hbm, 99, rfl⟩
abbrev main_while0b_v48 : Ref sig .tc := ⟨.hbm, 100, rfl⟩
abbrev main_while0b_v49 : Ref sig .tc := ⟨.hbm, 101, rfl⟩
abbrev main_while0b_v50 : Ref sig .tc := ⟨.hbm, 102, rfl⟩
abbrev main_while0b_v51 : Ref sig .tc := ⟨.hbm, 103, rfl⟩
abbrev main_while0b_v52 : Ref sig .tc := ⟨.hbm, 104, rfl⟩
abbrev main_while0b_cst_34 : Ref sig .tc := ⟨.hbm, 105, rfl⟩
abbrev main_while0b_v53 : Ref sig .tc := ⟨.hbm, 106, rfl⟩
abbrev main_while0b_v54 : Ref sig .tc := ⟨.hbm, 107, rfl⟩
abbrev main_while0b_cst_35 : Ref sig .tc := ⟨.hbm, 108, rfl⟩
abbrev main_while0b_v55 : Ref sig .tc := ⟨.hbm, 109, rfl⟩
abbrev main_while0b_v56 : Ref sig .tc := ⟨.hbm, 110, rfl⟩
abbrev main_while0b_v57 : Ref sig .tc := ⟨.hbm, 111, rfl⟩
abbrev main_while0b_v58 : Ref sig .tc := ⟨.hbm, 112, rfl⟩
abbrev main_while0b_v59 : Ref sig .tc := ⟨.hbm, 113, rfl⟩
abbrev main_while0b_v60 : Ref sig .tc := ⟨.hbm, 114, rfl⟩
abbrev main_while0b_v61 : Ref sig .tc := ⟨.hbm, 115, rfl⟩
abbrev main_while0b_v62 : Ref sig .tc := ⟨.hbm, 116, rfl⟩
abbrev main_while0b_cst_36 : Ref sig .tc := ⟨.hbm, 117, rfl⟩
abbrev main_while0b_v63 : Ref sig .tc := ⟨.hbm, 118, rfl⟩
abbrev main_while0b_v64 : Ref sig .tc := ⟨.hbm, 119, rfl⟩
abbrev main_while0b_cst_37 : Ref sig .tc := ⟨.hbm, 120, rfl⟩
abbrev main_while0b_v65 : Ref sig .tc := ⟨.hbm, 121, rfl⟩
abbrev main_while0b_v66 : Ref sig .tc := ⟨.hbm, 122, rfl⟩
abbrev main_while0b_v67 : Ref sig .tc := ⟨.hbm, 123, rfl⟩
abbrev main_while0b_v68 : Ref sig .tc := ⟨.hbm, 124, rfl⟩
abbrev main_while0b_v69 : Ref sig .tc := ⟨.hbm, 125, rfl⟩
abbrev main_while0b_v70 : Ref sig .tc := ⟨.hbm, 126, rfl⟩
abbrev main_while0b_v71 : Ref sig .tc := ⟨.hbm, 127, rfl⟩
abbrev main_while0b_v72 : Ref sig .tc := ⟨.hbm, 128, rfl⟩
abbrev main_while0b_v73 : Ref sig .tc := ⟨.hbm, 129, rfl⟩
abbrev main_while0b_v74 : Ref sig .tc := ⟨.hbm, 130, rfl⟩
abbrev main_while0b_v75 : Ref sig .tc := ⟨.hbm, 131, rfl⟩
abbrev main_while0b_v76 : Ref sig .tc := ⟨.hbm, 132, rfl⟩
abbrev main_while0b_call3_cst : Ref sig .tc := ⟨.hbm, 133, rfl⟩
abbrev main_while0b_call3_v0 : Ref sig .tc := ⟨.hbm, 134, rfl⟩
abbrev main_while0b_v77 : Ref sig .tc := ⟨.hbm, 135, rfl⟩
abbrev main_while0b_v78 : Ref sig .tc := ⟨.hbm, 136, rfl⟩
abbrev main_while0b_v79 : Ref sig .tc := ⟨.hbm, 137, rfl⟩
abbrev main_while0b_v80 : Ref sig .tc := ⟨.hbm, 138, rfl⟩
abbrev main_while0b_v81 : Ref sig .tc := ⟨.hbm, 139, rfl⟩
abbrev main_while0b_call4_cst : Ref sig .tc := ⟨.hbm, 140, rfl⟩
abbrev main_while0b_call4_v0 : Ref sig .tc := ⟨.hbm, 141, rfl⟩
abbrev main_while0b_v82 : Ref sig .tc := ⟨.hbm, 142, rfl⟩
abbrev main_while0b_v83 : Ref sig .tc := ⟨.hbm, 143, rfl⟩
abbrev main_while0b_v84 : Ref sig .tc := ⟨.hbm, 144, rfl⟩
abbrev main_while0b_v85 : Ref sig .tc := ⟨.hbm, 145, rfl⟩
abbrev main_while0b_v86 : Ref sig .tc := ⟨.hbm, 146, rfl⟩
abbrev main_while0b_v87 : Ref sig .tc := ⟨.hbm, 147, rfl⟩
abbrev main_while0b_cst_38 : Ref sig .tc := ⟨.hbm, 148, rfl⟩
abbrev main_while0b_v88 : Ref sig .tc := ⟨.hbm, 149, rfl⟩
abbrev main_while0b_v89 : Ref sig .tc := ⟨.hbm, 150, rfl⟩
abbrev main_while0b_cst_39 : Ref sig .tc := ⟨.hbm, 151, rfl⟩
abbrev main_while0b_v90 : Ref sig .tc := ⟨.hbm, 152, rfl⟩
abbrev main_while0b_v91 : Ref sig .tc := ⟨.hbm, 153, rfl⟩
abbrev main_while0b_v92 : Ref sig .tc := ⟨.hbm, 154, rfl⟩
abbrev main_while0b_cst_40 : Ref sig .tc := ⟨.hbm, 155, rfl⟩
abbrev main_while0b_v93 : Ref sig .tc := ⟨.hbm, 156, rfl⟩
abbrev main_while0b_cst_41 : Ref sig .tc := ⟨.hbm, 157, rfl⟩
abbrev main_while0b_v94 : Ref sig .tc := ⟨.hbm, 158, rfl⟩
abbrev main_while0b_v95 : Ref sig .tc := ⟨.hbm, 159, rfl⟩
abbrev main_while0b_v96 : Ref sig .tc := ⟨.hbm, 160, rfl⟩
abbrev main_while0b_v97 : Ref sig .tc := ⟨.hbm, 161, rfl⟩
abbrev main_while0b_v98 : Ref sig .tc := ⟨.hbm, 162, rfl⟩
abbrev main_while0b_v99 : Ref sig .tc := ⟨.hbm, 163, rfl⟩
abbrev main_while0b_cst_42 : Ref sig .tc := ⟨.hbm, 164, rfl⟩
abbrev main_while0b_v100 : Ref sig .tc := ⟨.hbm, 165, rfl⟩
abbrev main_while0b_v101 : Ref sig .tc := ⟨.hbm, 166, rfl⟩
abbrev main_while0b_v102 : Ref sig .tc := ⟨.hbm, 167, rfl⟩
abbrev main_while0b_v103 : Ref sig .tc := ⟨.hbm, 168, rfl⟩
abbrev main_while0b_v104 : Ref sig .tc := ⟨.hbm, 169, rfl⟩
abbrev main_while0b_call5_c : Ref sig .tc := ⟨.hbm, 170, rfl⟩
abbrev main_while0b_call5_v0 : Ref sig .tc := ⟨.hbm, 171, rfl⟩
abbrev main_while0b_call5_v1 : Ref sig .tc := ⟨.hbm, 172, rfl⟩
abbrev main_while0b_call5_c_0 : Ref sig .tc := ⟨.hbm, 173, rfl⟩
abbrev main_while0b_call5_v2 : Ref sig .tc := ⟨.hbm, 174, rfl⟩
abbrev main_while0b_call5_v3 : Ref sig .tc := ⟨.hbm, 175, rfl⟩
abbrev main_while0b_call5_v4 : Ref sig .tc := ⟨.hbm, 176, rfl⟩
abbrev main_while0b_call5_v5 : Ref sig .tc := ⟨.hbm, 177, rfl⟩
abbrev main_while0b_call5_v6 : Ref sig .tc := ⟨.hbm, 178, rfl⟩
abbrev main_while0b_call5_v7 : Ref sig .tc := ⟨.hbm, 179, rfl⟩
abbrev main_while0b_call5_v8 : Ref sig .tc := ⟨.hbm, 180, rfl⟩
abbrev main_while0b_call5_v9 : Ref sig .tc := ⟨.hbm, 181, rfl⟩
abbrev main_while0b_call5_v10 : Ref sig .tc := ⟨.hbm, 182, rfl⟩
abbrev main_while0b_call5_call0_v0 : Ref sig .tc := ⟨.hbm, 183, rfl⟩
abbrev main_while0b_call5_call0_c : Ref sig .tc := ⟨.hbm, 184, rfl⟩
abbrev main_while0b_call5_call0_v1 : Ref sig .tc := ⟨.hbm, 185, rfl⟩
abbrev main_while0b_call5_call0_v2 : Ref sig .tc := ⟨.hbm, 186, rfl⟩
abbrev main_while0b_call5_call0_v3 : Ref sig .tc := ⟨.hbm, 187, rfl⟩
abbrev main_while0b_call5_call0_v4 : Ref sig .tc := ⟨.hbm, 188, rfl⟩
abbrev main_while0b_call5_call0_v5 : Ref sig .tc := ⟨.hbm, 189, rfl⟩
abbrev main_while0b_call5_call0_v6 : Ref sig .tc := ⟨.hbm, 190, rfl⟩
abbrev main_while0b_call5_call0_c_0 : Ref sig .tc := ⟨.hbm, 191, rfl⟩
abbrev main_while0b_call5_call0_v7 : Ref sig .tc := ⟨.hbm, 192, rfl⟩
abbrev main_while0b_call5_call0_v8 : Ref sig .tc := ⟨.hbm, 193, rfl⟩
abbrev main_while0b_call5_call0_c_1 : Ref sig .tc := ⟨.hbm, 194, rfl⟩
abbrev main_while0b_call5_call0_v9 : Ref sig .tc := ⟨.hbm, 195, rfl⟩
abbrev main_while0b_call5_call0_v10 : Ref sig .tc := ⟨.hbm, 196, rfl⟩
abbrev main_while0b_call5_call0_v11 : Ref sig .tc := ⟨.hbm, 197, rfl⟩
abbrev main_while0b_call5_call0_v12 : Ref sig .tc := ⟨.hbm, 198, rfl⟩
abbrev main_while0b_call5_call0_v13 : Ref sig .tc := ⟨.hbm, 199, rfl⟩
abbrev main_while0b_call5_call0_c_2 : Ref sig .tc := ⟨.hbm, 200, rfl⟩
abbrev main_while0b_call5_call0_v14 : Ref sig .tc := ⟨.hbm, 201, rfl⟩
abbrev main_while0b_call5_call0_v15 : Ref sig .tc := ⟨.hbm, 202, rfl⟩
abbrev main_while0b_call5_call0_c_3 : Ref sig .tc := ⟨.hbm, 203, rfl⟩
abbrev main_while0b_call5_call0_v16 : Ref sig .tc := ⟨.hbm, 204, rfl⟩
abbrev main_while0b_call5_call0_v17 : Ref sig .tc := ⟨.hbm, 205, rfl⟩
abbrev main_while0b_call5_call0_v18 : Ref sig .tc := ⟨.hbm, 206, rfl⟩
abbrev main_while0b_call5_call0_v19 : Ref sig .tc := ⟨.hbm, 207, rfl⟩
abbrev main_while0b_call5_call0_v20 : Ref sig .tc := ⟨.hbm, 208, rfl⟩
abbrev main_while0b_call5_call0_c_4 : Ref sig .tc := ⟨.hbm, 209, rfl⟩
abbrev main_while0b_call5_call0_v21 : Ref sig .tc := ⟨.hbm, 210, rfl⟩
abbrev main_while0b_call5_call0_v22 : Ref sig .tc := ⟨.hbm, 211, rfl⟩
abbrev main_while0b_call5_call0_c_5 : Ref sig .tc := ⟨.hbm, 212, rfl⟩
abbrev main_while0b_call5_call0_v23 : Ref sig .tc := ⟨.hbm, 213, rfl⟩
abbrev main_while0b_call5_call0_v24 : Ref sig .tc := ⟨.hbm, 214, rfl⟩
abbrev main_while0b_call5_call0_v25 : Ref sig .tc := ⟨.hbm, 215, rfl⟩
abbrev main_while0b_call5_call0_v26 : Ref sig .tc := ⟨.hbm, 216, rfl⟩
abbrev main_while0b_call5_call0_v27 : Ref sig .tc := ⟨.hbm, 217, rfl⟩
abbrev main_while0b_call5_call0_c_6 : Ref sig .tc := ⟨.hbm, 218, rfl⟩
abbrev main_while0b_call5_call0_v28 : Ref sig .tc := ⟨.hbm, 219, rfl⟩
abbrev main_while0b_call5_call0_v29 : Ref sig .tc := ⟨.hbm, 220, rfl⟩
abbrev main_while0b_call5_call0_c_7 : Ref sig .tc := ⟨.hbm, 221, rfl⟩
abbrev main_while0b_call5_call0_v30 : Ref sig .tc := ⟨.hbm, 222, rfl⟩
abbrev main_while0b_call5_call0_v31 : Ref sig .tc := ⟨.hbm, 223, rfl⟩
abbrev main_while0b_call5_call0_v32 : Ref sig .tc := ⟨.hbm, 224, rfl⟩
abbrev main_while0b_call5_call0_v33 : Ref sig .tc := ⟨.hbm, 225, rfl⟩
abbrev main_while0b_call5_call0_v34 : Ref sig .tc := ⟨.hbm, 226, rfl⟩
abbrev main_while0b_call5_call0_v35 : Ref sig .tc := ⟨.hbm, 227, rfl⟩
abbrev main_while0b_call5_call0_v36 : Ref sig .tc := ⟨.hbm, 228, rfl⟩
abbrev main_while0b_call5_call0_v37 : Ref sig .tc := ⟨.hbm, 229, rfl⟩
abbrev main_while0b_call5_call0_c_8 : Ref sig .tc := ⟨.hbm, 230, rfl⟩
abbrev main_while0b_call5_call0_v38 : Ref sig .tc := ⟨.hbm, 231, rfl⟩
abbrev main_while0b_call5_call0_v39 : Ref sig .tc := ⟨.hbm, 232, rfl⟩
abbrev main_while0b_call5_call0_v40 : Ref sig .tc := ⟨.hbm, 233, rfl⟩
abbrev main_while0b_call5_call0_c_9 : Ref sig .tc := ⟨.hbm, 234, rfl⟩
abbrev main_while0b_call5_call0_v41 : Ref sig .tc := ⟨.hbm, 235, rfl⟩
abbrev main_while0b_call5_call0_v42 : Ref sig .tc := ⟨.hbm, 236, rfl⟩
abbrev main_while0b_call5_call0_c_10 : Ref sig .tc := ⟨.hbm, 237, rfl⟩
abbrev main_while0b_call5_call0_v43 : Ref sig .tc := ⟨.hbm, 238, rfl⟩
abbrev main_while0b_call5_call0_v44 : Ref sig .tc := ⟨.hbm, 239, rfl⟩
abbrev main_while0b_call5_call0_v45 : Ref sig .tc := ⟨.hbm, 240, rfl⟩
abbrev main_while0b_call5_call0_v46 : Ref sig .tc := ⟨.hbm, 241, rfl⟩
abbrev main_while0b_call5_call0_v47 : Ref sig .tc := ⟨.hbm, 242, rfl⟩
abbrev main_while0b_call5_call0_c_11 : Ref sig .tc := ⟨.hbm, 243, rfl⟩
abbrev main_while0b_call5_call0_v48 : Ref sig .tc := ⟨.hbm, 244, rfl⟩
abbrev main_while0b_call5_call0_v49 : Ref sig .tc := ⟨.hbm, 245, rfl⟩
abbrev main_while0b_call5_call0_c_12 : Ref sig .tc := ⟨.hbm, 246, rfl⟩
abbrev main_while0b_call5_call0_v50 : Ref sig .tc := ⟨.hbm, 247, rfl⟩
abbrev main_while0b_call5_call0_v51 : Ref sig .tc := ⟨.hbm, 248, rfl⟩
abbrev main_while0b_call5_call0_v52 : Ref sig .tc := ⟨.hbm, 249, rfl⟩
abbrev main_while0b_call5_call0_v53 : Ref sig .tc := ⟨.hbm, 250, rfl⟩
abbrev main_while0b_call5_call0_v54 : Ref sig .tc := ⟨.hbm, 251, rfl⟩
abbrev main_while0b_call5_call0_c_13 : Ref sig .tc := ⟨.hbm, 252, rfl⟩
abbrev main_while0b_call5_call0_v55 : Ref sig .tc := ⟨.hbm, 253, rfl⟩
abbrev main_while0b_call5_call0_v56 : Ref sig .tc := ⟨.hbm, 254, rfl⟩
abbrev main_while0b_call5_call0_c_14 : Ref sig .tc := ⟨.hbm, 255, rfl⟩
abbrev main_while0b_call5_call0_v57 : Ref sig .tc := ⟨.hbm, 256, rfl⟩
abbrev main_while0b_call5_call0_v58 : Ref sig .tc := ⟨.hbm, 257, rfl⟩
abbrev main_while0b_call5_call0_v59 : Ref sig .tc := ⟨.hbm, 258, rfl⟩
abbrev main_while0b_call5_call0_v60 : Ref sig .tc := ⟨.hbm, 259, rfl⟩
abbrev main_while0b_call5_call0_v61 : Ref sig .tc := ⟨.hbm, 260, rfl⟩
abbrev main_while0b_call5_call0_c_15 : Ref sig .tc := ⟨.hbm, 261, rfl⟩
abbrev main_while0b_call5_call0_v62 : Ref sig .tc := ⟨.hbm, 262, rfl⟩
abbrev main_while0b_call5_call0_v63 : Ref sig .tc := ⟨.hbm, 263, rfl⟩
abbrev main_while0b_call5_call0_c_16 : Ref sig .tc := ⟨.hbm, 264, rfl⟩
abbrev main_while0b_call5_call0_v64 : Ref sig .tc := ⟨.hbm, 265, rfl⟩
abbrev main_while0b_call5_call0_v65 : Ref sig .tc := ⟨.hbm, 266, rfl⟩
abbrev main_while0b_call5_call0_v66 : Ref sig .tc := ⟨.hbm, 267, rfl⟩
abbrev main_while0b_call5_call0_v67 : Ref sig .tc := ⟨.hbm, 268, rfl⟩
abbrev main_while0b_call5_call0_v68 : Ref sig .tc := ⟨.hbm, 269, rfl⟩
abbrev main_while0b_call5_call0_v69 : Ref sig .tc := ⟨.hbm, 270, rfl⟩
abbrev main_while0b_call5_call0_v70 : Ref sig .tc := ⟨.hbm, 271, rfl⟩
abbrev main_while0b_call5_call0_v71 : Ref sig .tc := ⟨.hbm, 272, rfl⟩
abbrev main_while0b_call5_call0_c_17 : Ref sig .tc := ⟨.hbm, 273, rfl⟩
abbrev main_while0b_call5_call0_v72 : Ref sig .tc := ⟨.hbm, 274, rfl⟩
abbrev main_while0b_call5_call0_v73 : Ref sig .tc := ⟨.hbm, 275, rfl⟩
abbrev main_while0b_call5_call0_v74 : Ref sig .tc := ⟨.hbm, 276, rfl⟩
abbrev main_while0b_call5_call0_c_18 : Ref sig .tc := ⟨.hbm, 277, rfl⟩
abbrev main_while0b_call5_call0_v75 : Ref sig .tc := ⟨.hbm, 278, rfl⟩
abbrev main_while0b_call5_call0_v76 : Ref sig .tc := ⟨.hbm, 279, rfl⟩
abbrev main_while0b_call5_call0_c_19 : Ref sig .tc := ⟨.hbm, 280, rfl⟩
abbrev main_while0b_call5_call0_v77 : Ref sig .tc := ⟨.hbm, 281, rfl⟩
abbrev main_while0b_call5_call0_v78 : Ref sig .tc := ⟨.hbm, 282, rfl⟩
abbrev main_while0b_call5_call0_v79 : Ref sig .tc := ⟨.hbm, 283, rfl⟩
abbrev main_while0b_call5_call0_v80 : Ref sig .tc := ⟨.hbm, 284, rfl⟩
abbrev main_while0b_call5_call0_v81 : Ref sig .tc := ⟨.hbm, 285, rfl⟩
abbrev main_while0b_call5_call0_c_20 : Ref sig .tc := ⟨.hbm, 286, rfl⟩
abbrev main_while0b_call5_call0_v82 : Ref sig .tc := ⟨.hbm, 287, rfl⟩
abbrev main_while0b_call5_call0_v83 : Ref sig .tc := ⟨.hbm, 288, rfl⟩
abbrev main_while0b_call5_call0_c_21 : Ref sig .tc := ⟨.hbm, 289, rfl⟩
abbrev main_while0b_call5_call0_v84 : Ref sig .tc := ⟨.hbm, 290, rfl⟩
abbrev main_while0b_call5_call0_v85 : Ref sig .tc := ⟨.hbm, 291, rfl⟩
abbrev main_while0b_call5_call0_v86 : Ref sig .tc := ⟨.hbm, 292, rfl⟩
abbrev main_while0b_call5_call0_v87 : Ref sig .tc := ⟨.hbm, 293, rfl⟩
abbrev main_while0b_call5_call0_v88 : Ref sig .tc := ⟨.hbm, 294, rfl⟩
abbrev main_while0b_call5_call0_c_22 : Ref sig .tc := ⟨.hbm, 295, rfl⟩
abbrev main_while0b_call5_call0_v89 : Ref sig .tc := ⟨.hbm, 296, rfl⟩
abbrev main_while0b_call5_call0_v90 : Ref sig .tc := ⟨.hbm, 297, rfl⟩
abbrev main_while0b_call5_call0_c_23 : Ref sig .tc := ⟨.hbm, 298, rfl⟩
abbrev main_while0b_call5_call0_v91 : Ref sig .tc := ⟨.hbm, 299, rfl⟩
abbrev main_while0b_call5_call0_v92 : Ref sig .tc := ⟨.hbm, 300, rfl⟩
abbrev main_while0b_call5_call0_v93 : Ref sig .tc := ⟨.hbm, 301, rfl⟩
abbrev main_while0b_call5_call0_v94 : Ref sig .tc := ⟨.hbm, 302, rfl⟩
abbrev main_while0b_call5_call0_v95 : Ref sig .tc := ⟨.hbm, 303, rfl⟩
abbrev main_while0b_call5_call0_c_24 : Ref sig .tc := ⟨.hbm, 304, rfl⟩
abbrev main_while0b_call5_call0_v96 : Ref sig .tc := ⟨.hbm, 305, rfl⟩
abbrev main_while0b_call5_call0_v97 : Ref sig .tc := ⟨.hbm, 306, rfl⟩
abbrev main_while0b_call5_call0_c_25 : Ref sig .tc := ⟨.hbm, 307, rfl⟩
abbrev main_while0b_call5_call0_v98 : Ref sig .tc := ⟨.hbm, 308, rfl⟩
abbrev main_while0b_call5_call0_v99 : Ref sig .tc := ⟨.hbm, 309, rfl⟩
abbrev main_while0b_call5_call0_v100 : Ref sig .tc := ⟨.hbm, 310, rfl⟩
abbrev main_while0b_call5_call0_v101 : Ref sig .tc := ⟨.hbm, 311, rfl⟩
abbrev main_while0b_call5_call0_v102 : Ref sig .tc := ⟨.hbm, 312, rfl⟩
abbrev main_while0b_call5_call0_v103 : Ref sig .tc := ⟨.hbm, 313, rfl⟩
abbrev main_while0b_call5_call0_v104 : Ref sig .tc := ⟨.hbm, 314, rfl⟩
abbrev main_while0b_call5_call0_v105 : Ref sig .tc := ⟨.hbm, 315, rfl⟩
abbrev main_while0b_call5_call0_c_26 : Ref sig .tc := ⟨.hbm, 316, rfl⟩
abbrev main_while0b_call5_call0_v106 : Ref sig .tc := ⟨.hbm, 317, rfl⟩
abbrev main_while0b_call5_call0_v107 : Ref sig .tc := ⟨.hbm, 318, rfl⟩
abbrev main_while0b_call5_call0_v108 : Ref sig .tc := ⟨.hbm, 319, rfl⟩
abbrev main_while0b_call5_call0_c_27 : Ref sig .tc := ⟨.hbm, 320, rfl⟩
abbrev main_while0b_call5_call0_v109 : Ref sig .tc := ⟨.hbm, 321, rfl⟩
abbrev main_while0b_call5_call0_v110 : Ref sig .tc := ⟨.hbm, 322, rfl⟩
abbrev main_while0b_call5_call0_c_28 : Ref sig .tc := ⟨.hbm, 323, rfl⟩
abbrev main_while0b_call5_call0_v111 : Ref sig .tc := ⟨.hbm, 324, rfl⟩
abbrev main_while0b_call5_call0_v112 : Ref sig .tc := ⟨.hbm, 325, rfl⟩
abbrev main_while0b_call5_call0_v113 : Ref sig .tc := ⟨.hbm, 326, rfl⟩
abbrev main_while0b_call5_call0_v114 : Ref sig .tc := ⟨.hbm, 327, rfl⟩
abbrev main_while0b_call5_call0_v115 : Ref sig .tc := ⟨.hbm, 328, rfl⟩
abbrev main_while0b_call5_call0_c_29 : Ref sig .tc := ⟨.hbm, 329, rfl⟩
abbrev main_while0b_call5_call0_v116 : Ref sig .tc := ⟨.hbm, 330, rfl⟩
abbrev main_while0b_call5_call0_v117 : Ref sig .tc := ⟨.hbm, 331, rfl⟩
abbrev main_while0b_call5_call0_c_30 : Ref sig .tc := ⟨.hbm, 332, rfl⟩
abbrev main_while0b_call5_call0_v118 : Ref sig .tc := ⟨.hbm, 333, rfl⟩
abbrev main_while0b_call5_call0_v119 : Ref sig .tc := ⟨.hbm, 334, rfl⟩
abbrev main_while0b_call5_call0_v120 : Ref sig .tc := ⟨.hbm, 335, rfl⟩
abbrev main_while0b_call5_call0_v121 : Ref sig .tc := ⟨.hbm, 336, rfl⟩
abbrev main_while0b_call5_call0_v122 : Ref sig .tc := ⟨.hbm, 337, rfl⟩
abbrev main_while0b_call5_call0_c_31 : Ref sig .tc := ⟨.hbm, 338, rfl⟩
abbrev main_while0b_call5_call0_v123 : Ref sig .tc := ⟨.hbm, 339, rfl⟩
abbrev main_while0b_call5_call0_v124 : Ref sig .tc := ⟨.hbm, 340, rfl⟩
abbrev main_while0b_call5_call0_c_32 : Ref sig .tc := ⟨.hbm, 341, rfl⟩
abbrev main_while0b_call5_call0_v125 : Ref sig .tc := ⟨.hbm, 342, rfl⟩
abbrev main_while0b_call5_call0_v126 : Ref sig .tc := ⟨.hbm, 343, rfl⟩
abbrev main_while0b_call5_call0_v127 : Ref sig .tc := ⟨.hbm, 344, rfl⟩
abbrev main_while0b_call5_call0_v128 : Ref sig .tc := ⟨.hbm, 345, rfl⟩
abbrev main_while0b_call5_call0_v129 : Ref sig .tc := ⟨.hbm, 346, rfl⟩
abbrev main_while0b_call5_call0_c_33 : Ref sig .tc := ⟨.hbm, 347, rfl⟩
abbrev main_while0b_call5_call0_v130 : Ref sig .tc := ⟨.hbm, 348, rfl⟩
abbrev main_while0b_call5_call0_v131 : Ref sig .tc := ⟨.hbm, 349, rfl⟩
abbrev main_while0b_call5_call0_c_34 : Ref sig .tc := ⟨.hbm, 350, rfl⟩
abbrev main_while0b_call5_call0_v132 : Ref sig .tc := ⟨.hbm, 351, rfl⟩
abbrev main_while0b_call5_call0_v133 : Ref sig .tc := ⟨.hbm, 352, rfl⟩
abbrev main_while0b_call5_call0_v134 : Ref sig .tc := ⟨.hbm, 353, rfl⟩
abbrev main_while0b_call5_call0_v135 : Ref sig .tc := ⟨.hbm, 354, rfl⟩
abbrev main_while0b_call5_call0_v136 : Ref sig .tc := ⟨.hbm, 355, rfl⟩
abbrev main_while0b_call5_call0_v137 : Ref sig .tc := ⟨.hbm, 356, rfl⟩
abbrev main_while0b_call5_call0_v138 : Ref sig .tc := ⟨.hbm, 357, rfl⟩
abbrev main_while0b_call5_call0_v139 : Ref sig .tc := ⟨.hbm, 358, rfl⟩
abbrev main_while0b_call5_call0_c_35 : Ref sig .tc := ⟨.hbm, 359, rfl⟩
abbrev main_while0b_call5_call0_v140 : Ref sig .tc := ⟨.hbm, 360, rfl⟩
abbrev main_while0b_call5_call0_v141 : Ref sig .tc := ⟨.hbm, 361, rfl⟩
abbrev main_while0b_call5_call0_v142 : Ref sig .tc := ⟨.hbm, 362, rfl⟩
abbrev main_while0b_call5_call0_c_36 : Ref sig .tc := ⟨.hbm, 363, rfl⟩
abbrev main_while0b_call5_call0_v143 : Ref sig .tc := ⟨.hbm, 364, rfl⟩
abbrev main_while0b_call5_call0_v144 : Ref sig .tc := ⟨.hbm, 365, rfl⟩
abbrev main_while0b_call5_call0_c_37 : Ref sig .tc := ⟨.hbm, 366, rfl⟩
abbrev main_while0b_call5_call0_v145 : Ref sig .tc := ⟨.hbm, 367, rfl⟩
abbrev main_while0b_call5_call0_v146 : Ref sig .tc := ⟨.hbm, 368, rfl⟩
abbrev main_while0b_call5_call0_v147 : Ref sig .tc := ⟨.hbm, 369, rfl⟩
abbrev main_while0b_call5_call0_v148 : Ref sig .tc := ⟨.hbm, 370, rfl⟩
abbrev main_while0b_call5_call0_v149 : Ref sig .tc := ⟨.hbm, 371, rfl⟩
abbrev main_while0b_call5_call0_c_38 : Ref sig .tc := ⟨.hbm, 372, rfl⟩
abbrev main_while0b_call5_call0_v150 : Ref sig .tc := ⟨.hbm, 373, rfl⟩
abbrev main_while0b_call5_call0_v151 : Ref sig .tc := ⟨.hbm, 374, rfl⟩
abbrev main_while0b_call5_call0_c_39 : Ref sig .tc := ⟨.hbm, 375, rfl⟩
abbrev main_while0b_call5_call0_v152 : Ref sig .tc := ⟨.hbm, 376, rfl⟩
abbrev main_while0b_call5_call0_v153 : Ref sig .tc := ⟨.hbm, 377, rfl⟩
abbrev main_while0b_call5_call0_v154 : Ref sig .tc := ⟨.hbm, 378, rfl⟩
abbrev main_while0b_call5_call0_v155 : Ref sig .tc := ⟨.hbm, 379, rfl⟩
abbrev main_while0b_call5_call0_v156 : Ref sig .tc := ⟨.hbm, 380, rfl⟩
abbrev main_while0b_call5_call0_c_40 : Ref sig .tc := ⟨.hbm, 381, rfl⟩
abbrev main_while0b_call5_call0_v157 : Ref sig .tc := ⟨.hbm, 382, rfl⟩
abbrev main_while0b_call5_call0_v158 : Ref sig .tc := ⟨.hbm, 383, rfl⟩
abbrev main_while0b_call5_call0_c_41 : Ref sig .tc := ⟨.hbm, 384, rfl⟩
abbrev main_while0b_call5_call0_v159 : Ref sig .tc := ⟨.hbm, 385, rfl⟩
abbrev main_while0b_call5_call0_v160 : Ref sig .tc := ⟨.hbm, 386, rfl⟩
abbrev main_while0b_call5_call0_v161 : Ref sig .tc := ⟨.hbm, 387, rfl⟩
abbrev main_while0b_call5_call0_v162 : Ref sig .tc := ⟨.hbm, 388, rfl⟩
abbrev main_while0b_call5_call0_v163 : Ref sig .tc := ⟨.hbm, 389, rfl⟩
abbrev main_while0b_call5_call0_c_42 : Ref sig .tc := ⟨.hbm, 390, rfl⟩
abbrev main_while0b_call5_call0_v164 : Ref sig .tc := ⟨.hbm, 391, rfl⟩
abbrev main_while0b_call5_call0_v165 : Ref sig .tc := ⟨.hbm, 392, rfl⟩
abbrev main_while0b_call5_call0_c_43 : Ref sig .tc := ⟨.hbm, 393, rfl⟩
abbrev main_while0b_call5_call0_v166 : Ref sig .tc := ⟨.hbm, 394, rfl⟩
abbrev main_while0b_call5_call0_v167 : Ref sig .tc := ⟨.hbm, 395, rfl⟩
abbrev main_while0b_call5_call0_v168 : Ref sig .tc := ⟨.hbm, 396, rfl⟩
abbrev main_while0b_call5_call0_v169 : Ref sig .tc := ⟨.hbm, 397, rfl⟩
abbrev main_while0b_call5_call0_v170 : Ref sig .tc := ⟨.hbm, 398, rfl⟩
abbrev main_while0b_call5_v11_0 : Ref sig .tc := ⟨.hbm, 399, rfl⟩
abbrev main_while0b_call5_call0_v172 : Ref sig .tc := ⟨.hbm, 400, rfl⟩
abbrev main_while0b_call5_call0_v173 : Ref sig .tc := ⟨.hbm, 401, rfl⟩
abbrev main_while0b_call5_call0_c_44 : Ref sig .tc := ⟨.hbm, 402, rfl⟩
abbrev main_while0b_call5_call0_v174 : Ref sig .tc := ⟨.hbm, 403, rfl⟩
abbrev main_while0b_call5_v11_1 : Ref sig .tc := ⟨.hbm, 404, rfl⟩
abbrev main_while0b_v105 : Ref sig .tc := ⟨.hbm, 405, rfl⟩
abbrev main_while0b_cst_43 : Ref sig .tc := ⟨.hbm, 406, rfl⟩
abbrev main_while0b_v106 : Ref sig .tc := ⟨.hbm, 407, rfl⟩
abbrev main_while0b_v107 : Ref sig .tc := ⟨.hbm, 408, rfl⟩
abbrev main_while0b_v108 : Ref sig .tc := ⟨.hbm, 409, rfl⟩
abbrev main_while0b_call6_cst : Ref sig .tc := ⟨.hbm, 410, rfl⟩
abbrev main_while0b_call6_cst_0 : Ref sig .tc := ⟨.hbm, 411, rfl⟩
abbrev main_while0b_call6_call0_v0 : Ref sig .tc := ⟨.hbm, 412, rfl⟩
abbrev main_while0b_call6_call0_v1 : Ref sig .tc := ⟨.hbm, 413, rfl⟩
abbrev main_while0b_call6_call0_v2 : Ref sig .tc := ⟨.hbm, 414, rfl⟩
abbrev main_while0b_call6_call0_v3 : Ref sig .tc := ⟨.hbm, 415, rfl⟩
abbrev main_while0b_call6_call0_v4 : Ref sig .tc := ⟨.hbm, 416, rfl⟩
abbrev main_while0b_call6_call0_v5 : Ref sig .tc := ⟨.hbm, 417, rfl⟩
abbrev main_while0b_call6_call0_v6 : Ref sig .tc := ⟨.hbm, 418, rfl⟩
abbrev main_while0b_call6_call0_v7 : Ref sig .tc := ⟨.hbm, 419, rfl⟩
abbrev main_while0b_call6_call0_v8 : Ref sig .tc := ⟨.hbm, 420, rfl⟩
abbrev main_while0b_call6_call0_c : Ref sig .tc := ⟨.hbm, 421, rfl⟩
abbrev main_while0b_call6_call0_v9 : Ref sig .tc := ⟨.hbm, 422, rfl⟩
abbrev main_while0b_call6_call0_v10 : Ref sig .tc := ⟨.hbm, 423, rfl⟩
abbrev main_while0b_call6_call0_c_0 : Ref sig .tc := ⟨.hbm, 424, rfl⟩
abbrev main_while0b_call6_call0_v11 : Ref sig .tc := ⟨.hbm, 425, rfl⟩
abbrev main_while0b_call6_call0_v12 : Ref sig .tc := ⟨.hbm, 426, rfl⟩
abbrev main_while0b_call6_call0_v13 : Ref sig .tc := ⟨.hbm, 427, rfl⟩
abbrev main_while0b_call6_call0_c_1 : Ref sig .tc := ⟨.hbm, 428, rfl⟩
abbrev main_while0b_call6_call0_v14 : Ref sig .tc := ⟨.hbm, 429, rfl⟩
abbrev main_while0b_call6_call0_v15 : Ref sig .tc := ⟨.hbm, 430, rfl⟩
abbrev main_while0b_call6_call0_v16 : Ref sig .tc := ⟨.hbm, 431, rfl⟩
abbrev main_while0b_call6_call0_v17 : Ref sig .tc := ⟨.hbm, 432, rfl⟩
abbrev main_while0b_call6_call0_call0_v0 : Ref sig .tc := ⟨.hbm, 433, rfl⟩
abbrev main_while0b_call6_call0_call0_c : Ref sig .tc := ⟨.hbm, 434, rfl⟩
abbrev main_while0b_call6_call0_call0_v1 : Ref sig .tc := ⟨.hbm, 435, rfl⟩
abbrev main_while0b_call6_call0_call0_v2 : Ref sig .tc := ⟨.hbm, 436, rfl⟩
abbrev main_while0b_call6_call0_call0_v3 : Ref sig .tc := ⟨.hbm, 437, rfl⟩
abbrev main_while0b_call6_call0_call0_v4 : Ref sig .tc := ⟨.hbm, 438, rfl⟩
abbrev main_while0b_call6_call0_call0_v5 : Ref sig .tc := ⟨.hbm, 439, rfl⟩
abbrev main_while0b_call6_call0_call0_v6 : Ref sig .tc := ⟨.hbm, 440, rfl⟩
abbrev main_while0b_call6_call0_call0_c_0 : Ref sig .tc := ⟨.hbm, 441, rfl⟩
abbrev main_while0b_call6_call0_call0_v7 : Ref sig .tc := ⟨.hbm, 442, rfl⟩
abbrev main_while0b_call6_call0_call0_v8 : Ref sig .tc := ⟨.hbm, 443, rfl⟩
abbrev main_while0b_call6_call0_call0_c_1 : Ref sig .tc := ⟨.hbm, 444, rfl⟩
abbrev main_while0b_call6_call0_call0_v9 : Ref sig .tc := ⟨.hbm, 445, rfl⟩
abbrev main_while0b_call6_call0_call0_v10 : Ref sig .tc := ⟨.hbm, 446, rfl⟩
abbrev main_while0b_call6_call0_call0_v11 : Ref sig .tc := ⟨.hbm, 447, rfl⟩
abbrev main_while0b_call6_call0_call0_v12 : Ref sig .tc := ⟨.hbm, 448, rfl⟩
abbrev main_while0b_call6_call0_call0_v13 : Ref sig .tc := ⟨.hbm, 449, rfl⟩
abbrev main_while0b_call6_call0_call0_c_2 : Ref sig .tc := ⟨.hbm, 450, rfl⟩
abbrev main_while0b_call6_call0_call0_v14 : Ref sig .tc := ⟨.hbm, 451, rfl⟩
abbrev main_while0b_call6_call0_call0_v15 : Ref sig .tc := ⟨.hbm, 452, rfl⟩
abbrev main_while0b_call6_call0_call0_c_3 : Ref sig .tc := ⟨.hbm, 453, rfl⟩
abbrev main_while0b_call6_call0_call0_v16 : Ref sig .tc := ⟨.hbm, 454, rfl⟩
abbrev main_while0b_call6_call0_call0_v17 : Ref sig .tc := ⟨.hbm, 455, rfl⟩
abbrev main_while0b_call6_call0_call0_v18 : Ref sig .tc := ⟨.hbm, 456, rfl⟩
abbrev main_while0b_call6_call0_call0_v19 : Ref sig .tc := ⟨.hbm, 457, rfl⟩
abbrev main_while0b_call6_call0_call0_v20 : Ref sig .tc := ⟨.hbm, 458, rfl⟩
abbrev main_while0b_call6_call0_call0_c_4 : Ref sig .tc := ⟨.hbm, 459, rfl⟩
abbrev main_while0b_call6_call0_call0_v21 : Ref sig .tc := ⟨.hbm, 460, rfl⟩
abbrev main_while0b_call6_call0_call0_v22 : Ref sig .tc := ⟨.hbm, 461, rfl⟩
abbrev main_while0b_call6_call0_call0_c_5 : Ref sig .tc := ⟨.hbm, 462, rfl⟩
abbrev main_while0b_call6_call0_call0_v23 : Ref sig .tc := ⟨.hbm, 463, rfl⟩
abbrev main_while0b_call6_call0_call0_v24 : Ref sig .tc := ⟨.hbm, 464, rfl⟩
abbrev main_while0b_call6_call0_call0_v25 : Ref sig .tc := ⟨.hbm, 465, rfl⟩
abbrev main_while0b_call6_call0_call0_v26 : Ref sig .tc := ⟨.hbm, 466, rfl⟩
abbrev main_while0b_call6_call0_call0_v27 : Ref sig .tc := ⟨.hbm, 467, rfl⟩
abbrev main_while0b_call6_call0_call0_c_6 : Ref sig .tc := ⟨.hbm, 468, rfl⟩
abbrev main_while0b_call6_call0_call0_v28 : Ref sig .tc := ⟨.hbm, 469, rfl⟩
abbrev main_while0b_call6_call0_call0_v29 : Ref sig .tc := ⟨.hbm, 470, rfl⟩
abbrev main_while0b_call6_call0_call0_c_7 : Ref sig .tc := ⟨.hbm, 471, rfl⟩
abbrev main_while0b_call6_call0_call0_v30 : Ref sig .tc := ⟨.hbm, 472, rfl⟩
abbrev main_while0b_call6_call0_call0_v31 : Ref sig .tc := ⟨.hbm, 473, rfl⟩
abbrev main_while0b_call6_call0_call0_v32 : Ref sig .tc := ⟨.hbm, 474, rfl⟩
abbrev main_while0b_call6_call0_call0_v33 : Ref sig .tc := ⟨.hbm, 475, rfl⟩
abbrev main_while0b_call6_call0_call0_v34 : Ref sig .tc := ⟨.hbm, 476, rfl⟩
abbrev main_while0b_call6_call0_call0_v35 : Ref sig .tc := ⟨.hbm, 477, rfl⟩
abbrev main_while0b_call6_call0_call0_v36 : Ref sig .tc := ⟨.hbm, 478, rfl⟩
abbrev main_while0b_call6_call0_call0_v37 : Ref sig .tc := ⟨.hbm, 479, rfl⟩
abbrev main_while0b_call6_call0_call0_c_8 : Ref sig .tc := ⟨.hbm, 480, rfl⟩
abbrev main_while0b_call6_call0_call0_v38 : Ref sig .tc := ⟨.hbm, 481, rfl⟩
abbrev main_while0b_call6_call0_call0_v39 : Ref sig .tc := ⟨.hbm, 482, rfl⟩
abbrev main_while0b_call6_call0_call0_v40 : Ref sig .tc := ⟨.hbm, 483, rfl⟩
abbrev main_while0b_call6_call0_call0_c_9 : Ref sig .tc := ⟨.hbm, 484, rfl⟩
abbrev main_while0b_call6_call0_call0_v41 : Ref sig .tc := ⟨.hbm, 485, rfl⟩
abbrev main_while0b_call6_call0_call0_v42 : Ref sig .tc := ⟨.hbm, 486, rfl⟩
abbrev main_while0b_call6_call0_call0_c_10 : Ref sig .tc := ⟨.hbm, 487, rfl⟩
abbrev main_while0b_call6_call0_call0_v43 : Ref sig .tc := ⟨.hbm, 488, rfl⟩
abbrev main_while0b_call6_call0_call0_v44 : Ref sig .tc := ⟨.hbm, 489, rfl⟩
abbrev main_while0b_call6_call0_call0_v45 : Ref sig .tc := ⟨.hbm, 490, rfl⟩
abbrev main_while0b_call6_call0_call0_v46 : Ref sig .tc := ⟨.hbm, 491, rfl⟩
abbrev main_while0b_call6_call0_call0_v47 : Ref sig .tc := ⟨.hbm, 492, rfl⟩
abbrev main_while0b_call6_call0_call0_c_11 : Ref sig .tc := ⟨.hbm, 493, rfl⟩
abbrev main_while0b_call6_call0_call0_v48 : Ref sig .tc := ⟨.hbm, 494, rfl⟩
abbrev main_while0b_call6_call0_call0_v49 : Ref sig .tc := ⟨.hbm, 495, rfl⟩
abbrev main_while0b_call6_call0_call0_c_12 : Ref sig .tc := ⟨.hbm, 496, rfl⟩
abbrev main_while0b_call6_call0_call0_v50 : Ref sig .tc := ⟨.hbm, 497, rfl⟩
abbrev main_while0b_call6_call0_call0_v51 : Ref sig .tc := ⟨.hbm, 498, rfl⟩
abbrev main_while0b_call6_call0_call0_v52 : Ref sig .tc := ⟨.hbm, 499, rfl⟩
abbrev main_while0b_call6_call0_call0_v53 : Ref sig .tc := ⟨.hbm, 500, rfl⟩
abbrev main_while0b_call6_call0_call0_v54 : Ref sig .tc := ⟨.hbm, 501, rfl⟩
abbrev main_while0b_call6_call0_call0_c_13 : Ref sig .tc := ⟨.hbm, 502, rfl⟩
abbrev main_while0b_call6_call0_call0_v55 : Ref sig .tc := ⟨.hbm, 503, rfl⟩
abbrev main_while0b_call6_call0_call0_v56 : Ref sig .tc := ⟨.hbm, 504, rfl⟩
abbrev main_while0b_call6_call0_call0_c_14 : Ref sig .tc := ⟨.hbm, 505, rfl⟩
abbrev main_while0b_call6_call0_call0_v57 : Ref sig .tc := ⟨.hbm, 506, rfl⟩
abbrev main_while0b_call6_call0_call0_v58 : Ref sig .tc := ⟨.hbm, 507, rfl⟩
abbrev main_while0b_call6_call0_call0_v59 : Ref sig .tc := ⟨.hbm, 508, rfl⟩
abbrev main_while0b_call6_call0_call0_v60 : Ref sig .tc := ⟨.hbm, 509, rfl⟩
abbrev main_while0b_call6_call0_call0_v61 : Ref sig .tc := ⟨.hbm, 510, rfl⟩
abbrev main_while0b_call6_call0_call0_c_15 : Ref sig .tc := ⟨.hbm, 511, rfl⟩
abbrev main_while0b_call6_call0_call0_v62 : Ref sig .tc := ⟨.hbm, 512, rfl⟩
abbrev main_while0b_call6_call0_call0_v63 : Ref sig .tc := ⟨.hbm, 513, rfl⟩
abbrev main_while0b_call6_call0_call0_c_16 : Ref sig .tc := ⟨.hbm, 514, rfl⟩
abbrev main_while0b_call6_call0_call0_v64 : Ref sig .tc := ⟨.hbm, 515, rfl⟩
abbrev main_while0b_call6_call0_call0_v65 : Ref sig .tc := ⟨.hbm, 516, rfl⟩
abbrev main_while0b_call6_call0_call0_v66 : Ref sig .tc := ⟨.hbm, 517, rfl⟩
abbrev main_while0b_call6_call0_call0_v67 : Ref sig .tc := ⟨.hbm, 518, rfl⟩
abbrev main_while0b_call6_call0_call0_v68 : Ref sig .tc := ⟨.hbm, 519, rfl⟩
abbrev main_while0b_call6_call0_call0_v69 : Ref sig .tc := ⟨.hbm, 520, rfl⟩
abbrev main_while0b_call6_call0_call0_v70 : Ref sig .tc := ⟨.hbm, 521, rfl⟩
abbrev main_while0b_call6_call0_call0_v71 : Ref sig .tc := ⟨.hbm, 522, rfl⟩
abbrev main_while0b_call6_call0_call0_c_17 : Ref sig .tc := ⟨.hbm, 523, rfl⟩
abbrev main_while0b_call6_call0_call0_v72 : Ref sig .tc := ⟨.hbm, 524, rfl⟩
abbrev main_while0b_call6_call0_call0_v73 : Ref sig .tc := ⟨.hbm, 525, rfl⟩
abbrev main_while0b_call6_call0_call0_v74 : Ref sig .tc := ⟨.hbm, 526, rfl⟩
abbrev main_while0b_call6_call0_call0_c_18 : Ref sig .tc := ⟨.hbm, 527, rfl⟩
abbrev main_while0b_call6_call0_call0_v75 : Ref sig .tc := ⟨.hbm, 528, rfl⟩
abbrev main_while0b_call6_call0_call0_v76 : Ref sig .tc := ⟨.hbm, 529, rfl⟩
abbrev main_while0b_call6_call0_call0_c_19 : Ref sig .tc := ⟨.hbm, 530, rfl⟩
abbrev main_while0b_call6_call0_call0_v77 : Ref sig .tc := ⟨.hbm, 531, rfl⟩
abbrev main_while0b_call6_call0_call0_v78 : Ref sig .tc := ⟨.hbm, 532, rfl⟩
abbrev main_while0b_call6_call0_call0_v79 : Ref sig .tc := ⟨.hbm, 533, rfl⟩
abbrev main_while0b_call6_call0_call0_v80 : Ref sig .tc := ⟨.hbm, 534, rfl⟩
abbrev main_while0b_call6_call0_call0_v81 : Ref sig .tc := ⟨.hbm, 535, rfl⟩
abbrev main_while0b_call6_call0_call0_c_20 : Ref sig .tc := ⟨.hbm, 536, rfl⟩
abbrev main_while0b_call6_call0_call0_v82 : Ref sig .tc := ⟨.hbm, 537, rfl⟩
abbrev main_while0b_call6_call0_call0_v83 : Ref sig .tc := ⟨.hbm, 538, rfl⟩
abbrev main_while0b_call6_call0_call0_c_21 : Ref sig .tc := ⟨.hbm, 539, rfl⟩
abbrev main_while0b_call6_call0_call0_v84 : Ref sig .tc := ⟨.hbm, 540, rfl⟩
abbrev main_while0b_call6_call0_call0_v85 : Ref sig .tc := ⟨.hbm, 541, rfl⟩
abbrev main_while0b_call6_call0_call0_v86 : Ref sig .tc := ⟨.hbm, 542, rfl⟩
abbrev main_while0b_call6_call0_call0_v87 : Ref sig .tc := ⟨.hbm, 543, rfl⟩
abbrev main_while0b_call6_call0_call0_v88 : Ref sig .tc := ⟨.hbm, 544, rfl⟩
abbrev main_while0b_call6_call0_call0_c_22 : Ref sig .tc := ⟨.hbm, 545, rfl⟩
abbrev main_while0b_call6_call0_call0_v89 : Ref sig .tc := ⟨.hbm, 546, rfl⟩
abbrev main_while0b_call6_call0_call0_v90 : Ref sig .tc := ⟨.hbm, 547, rfl⟩
abbrev main_while0b_call6_call0_call0_c_23 : Ref sig .tc := ⟨.hbm, 548, rfl⟩
abbrev main_while0b_call6_call0_call0_v91 : Ref sig .tc := ⟨.hbm, 549, rfl⟩
abbrev main_while0b_call6_call0_call0_v92 : Ref sig .tc := ⟨.hbm, 550, rfl⟩
abbrev main_while0b_call6_call0_call0_v93 : Ref sig .tc := ⟨.hbm, 551, rfl⟩
abbrev main_while0b_call6_call0_call0_v94 : Ref sig .tc := ⟨.hbm, 552, rfl⟩
abbrev main_while0b_call6_call0_call0_v95 : Ref sig .tc := ⟨.hbm, 553, rfl⟩
abbrev main_while0b_call6_call0_call0_c_24 : Ref sig .tc := ⟨.hbm, 554, rfl⟩
abbrev main_while0b_call6_call0_call0_v96 : Ref sig .tc := ⟨.hbm, 555, rfl⟩
abbrev main_while0b_call6_call0_call0_v97 : Ref sig .tc := ⟨.hbm, 556, rfl⟩
abbrev main_while0b_call6_call0_call0_c_25 : Ref sig .tc := ⟨.hbm, 557, rfl⟩
abbrev main_while0b_call6_call0_call0_v98 : Ref sig .tc := ⟨.hbm, 558, rfl⟩
abbrev main_while0b_call6_call0_call0_v99 : Ref sig .tc := ⟨.hbm, 559, rfl⟩
abbrev main_while0b_call6_call0_call0_v100 : Ref sig .tc := ⟨.hbm, 560, rfl⟩
abbrev main_while0b_call6_call0_call0_v101 : Ref sig .tc := ⟨.hbm, 561, rfl⟩
abbrev main_while0b_call6_call0_call0_v102 : Ref sig .tc := ⟨.hbm, 562, rfl⟩
abbrev main_while0b_call6_call0_call0_v103 : Ref sig .tc := ⟨.hbm, 563, rfl⟩
abbrev main_while0b_call6_call0_call0_v104 : Ref sig .tc := ⟨.hbm, 564, rfl⟩
abbrev main_while0b_call6_call0_call0_v105 : Ref sig .tc := ⟨.hbm, 565, rfl⟩
abbrev main_while0b_call6_call0_call0_c_26 : Ref sig .tc := ⟨.hbm, 566, rfl⟩
abbrev main_while0b_call6_call0_call0_v106 : Ref sig .tc := ⟨.hbm, 567, rfl⟩
abbrev main_while0b_call6_call0_call0_v107 : Ref sig .tc := ⟨.hbm, 568, rfl⟩
abbrev main_while0b_call6_call0_call0_v108 : Ref sig .tc := ⟨.hbm, 569, rfl⟩
abbrev main_while0b_call6_call0_call0_c_27 : Ref sig .tc := ⟨.hbm, 570, rfl⟩
abbrev main_while0b_call6_call0_call0_v109 : Ref sig .tc := ⟨.hbm, 571, rfl⟩
abbrev main_while0b_call6_call0_call0_v110 : Ref sig .tc := ⟨.hbm, 572, rfl⟩
abbrev main_while0b_call6_call0_call0_c_28 : Ref sig .tc := ⟨.hbm, 573, rfl⟩
abbrev main_while0b_call6_call0_call0_v111 : Ref sig .tc := ⟨.hbm, 574, rfl⟩
abbrev main_while0b_call6_call0_call0_v112 : Ref sig .tc := ⟨.hbm, 575, rfl⟩
abbrev main_while0b_call6_call0_call0_v113 : Ref sig .tc := ⟨.hbm, 576, rfl⟩
abbrev main_while0b_call6_call0_call0_v114 : Ref sig .tc := ⟨.hbm, 577, rfl⟩
abbrev main_while0b_call6_call0_call0_v115 : Ref sig .tc := ⟨.hbm, 578, rfl⟩
abbrev main_while0b_call6_call0_call0_c_29 : Ref sig .tc := ⟨.hbm, 579, rfl⟩
abbrev main_while0b_call6_call0_call0_v116 : Ref sig .tc := ⟨.hbm, 580, rfl⟩
abbrev main_while0b_call6_call0_call0_v117 : Ref sig .tc := ⟨.hbm, 581, rfl⟩
abbrev main_while0b_call6_call0_call0_c_30 : Ref sig .tc := ⟨.hbm, 582, rfl⟩
abbrev main_while0b_call6_call0_call0_v118 : Ref sig .tc := ⟨.hbm, 583, rfl⟩
abbrev main_while0b_call6_call0_call0_v119 : Ref sig .tc := ⟨.hbm, 584, rfl⟩
abbrev main_while0b_call6_call0_call0_v120 : Ref sig .tc := ⟨.hbm, 585, rfl⟩
abbrev main_while0b_call6_call0_call0_v121 : Ref sig .tc := ⟨.hbm, 586, rfl⟩
abbrev main_while0b_call6_call0_call0_v122 : Ref sig .tc := ⟨.hbm, 587, rfl⟩
abbrev main_while0b_call6_call0_call0_c_31 : Ref sig .tc := ⟨.hbm, 588, rfl⟩
abbrev main_while0b_call6_call0_call0_v123 : Ref sig .tc := ⟨.hbm, 589, rfl⟩
abbrev main_while0b_call6_call0_call0_v124 : Ref sig .tc := ⟨.hbm, 590, rfl⟩
abbrev main_while0b_call6_call0_call0_c_32 : Ref sig .tc := ⟨.hbm, 591, rfl⟩
abbrev main_while0b_call6_call0_call0_v125 : Ref sig .tc := ⟨.hbm, 592, rfl⟩
abbrev main_while0b_call6_call0_call0_v126 : Ref sig .tc := ⟨.hbm, 593, rfl⟩
abbrev main_while0b_call6_call0_call0_v127 : Ref sig .tc := ⟨.hbm, 594, rfl⟩
abbrev main_while0b_call6_call0_call0_v128 : Ref sig .tc := ⟨.hbm, 595, rfl⟩
abbrev main_while0b_call6_call0_call0_v129 : Ref sig .tc := ⟨.hbm, 596, rfl⟩
abbrev main_while0b_call6_call0_call0_c_33 : Ref sig .tc := ⟨.hbm, 597, rfl⟩
abbrev main_while0b_call6_call0_call0_v130 : Ref sig .tc := ⟨.hbm, 598, rfl⟩
abbrev main_while0b_call6_call0_call0_v131 : Ref sig .tc := ⟨.hbm, 599, rfl⟩
abbrev main_while0b_call6_call0_call0_c_34 : Ref sig .tc := ⟨.hbm, 600, rfl⟩
abbrev main_while0b_call6_call0_call0_v132 : Ref sig .tc := ⟨.hbm, 601, rfl⟩
abbrev main_while0b_call6_call0_call0_v133 : Ref sig .tc := ⟨.hbm, 602, rfl⟩
abbrev main_while0b_call6_call0_call0_v134 : Ref sig .tc := ⟨.hbm, 603, rfl⟩
abbrev main_while0b_call6_call0_call0_v135 : Ref sig .tc := ⟨.hbm, 604, rfl⟩
abbrev main_while0b_call6_call0_call0_v136 : Ref sig .tc := ⟨.hbm, 605, rfl⟩
abbrev main_while0b_call6_call0_call0_v137 : Ref sig .tc := ⟨.hbm, 606, rfl⟩
abbrev main_while0b_call6_call0_call0_v138 : Ref sig .tc := ⟨.hbm, 607, rfl⟩
abbrev main_while0b_call6_call0_call0_v139 : Ref sig .tc := ⟨.hbm, 608, rfl⟩
abbrev main_while0b_call6_call0_call0_c_35 : Ref sig .tc := ⟨.hbm, 609, rfl⟩
abbrev main_while0b_call6_call0_call0_v140 : Ref sig .tc := ⟨.hbm, 610, rfl⟩
abbrev main_while0b_call6_call0_call0_v141 : Ref sig .tc := ⟨.hbm, 611, rfl⟩
abbrev main_while0b_call6_call0_call0_v142 : Ref sig .tc := ⟨.hbm, 612, rfl⟩
abbrev main_while0b_call6_call0_call0_c_36 : Ref sig .tc := ⟨.hbm, 613, rfl⟩
abbrev main_while0b_call6_call0_call0_v143 : Ref sig .tc := ⟨.hbm, 614, rfl⟩
abbrev main_while0b_call6_call0_call0_v144 : Ref sig .tc := ⟨.hbm, 615, rfl⟩
abbrev main_while0b_call6_call0_call0_c_37 : Ref sig .tc := ⟨.hbm, 616, rfl⟩
abbrev main_while0b_call6_call0_call0_v145 : Ref sig .tc := ⟨.hbm, 617, rfl⟩
abbrev main_while0b_call6_call0_call0_v146 : Ref sig .tc := ⟨.hbm, 618, rfl⟩
abbrev main_while0b_call6_call0_call0_v147 : Ref sig .tc := ⟨.hbm, 619, rfl⟩
abbrev main_while0b_call6_call0_call0_v148 : Ref sig .tc := ⟨.hbm, 620, rfl⟩
abbrev main_while0b_call6_call0_call0_v149 : Ref sig .tc := ⟨.hbm, 621, rfl⟩
abbrev main_while0b_call6_call0_call0_c_38 : Ref sig .tc := ⟨.hbm, 622, rfl⟩
abbrev main_while0b_call6_call0_call0_v150 : Ref sig .tc := ⟨.hbm, 623, rfl⟩
abbrev main_while0b_call6_call0_call0_v151 : Ref sig .tc := ⟨.hbm, 624, rfl⟩
abbrev main_while0b_call6_call0_call0_c_39 : Ref sig .tc := ⟨.hbm, 625, rfl⟩
abbrev main_while0b_call6_call0_call0_v152 : Ref sig .tc := ⟨.hbm, 626, rfl⟩
abbrev main_while0b_call6_call0_call0_v153 : Ref sig .tc := ⟨.hbm, 627, rfl⟩
abbrev main_while0b_call6_call0_call0_v154 : Ref sig .tc := ⟨.hbm, 628, rfl⟩
abbrev main_while0b_call6_call0_call0_v155 : Ref sig .tc := ⟨.hbm, 629, rfl⟩
abbrev main_while0b_call6_call0_call0_v156 : Ref sig .tc := ⟨.hbm, 630, rfl⟩
abbrev main_while0b_call6_call0_call0_c_40 : Ref sig .tc := ⟨.hbm, 631, rfl⟩
abbrev main_while0b_call6_call0_call0_v157 : Ref sig .tc := ⟨.hbm, 632, rfl⟩
abbrev main_while0b_call6_call0_call0_v158 : Ref sig .tc := ⟨.hbm, 633, rfl⟩
abbrev main_while0b_call6_call0_call0_c_41 : Ref sig .tc := ⟨.hbm, 634, rfl⟩
abbrev main_while0b_call6_call0_call0_v159 : Ref sig .tc := ⟨.hbm, 635, rfl⟩
abbrev main_while0b_call6_call0_call0_v160 : Ref sig .tc := ⟨.hbm, 636, rfl⟩
abbrev main_while0b_call6_call0_call0_v161 : Ref sig .tc := ⟨.hbm, 637, rfl⟩
abbrev main_while0b_call6_call0_call0_v162 : Ref sig .tc := ⟨.hbm, 638, rfl⟩
abbrev main_while0b_call6_call0_call0_v163 : Ref sig .tc := ⟨.hbm, 639, rfl⟩
abbrev main_while0b_call6_call0_call0_c_42 : Ref sig .tc := ⟨.hbm, 640, rfl⟩
abbrev main_while0b_call6_call0_call0_v164 : Ref sig .tc := ⟨.hbm, 641, rfl⟩
abbrev main_while0b_call6_call0_call0_v165 : Ref sig .tc := ⟨.hbm, 642, rfl⟩
abbrev main_while0b_call6_call0_call0_c_43 : Ref sig .tc := ⟨.hbm, 643, rfl⟩
abbrev main_while0b_call6_call0_call0_v166 : Ref sig .tc := ⟨.hbm, 644, rfl⟩
abbrev main_while0b_call6_call0_call0_v167 : Ref sig .tc := ⟨.hbm, 645, rfl⟩
abbrev main_while0b_call6_call0_call0_v168 : Ref sig .tc := ⟨.hbm, 646, rfl⟩
abbrev main_while0b_call6_call0_call0_v169 : Ref sig .tc := ⟨.hbm, 647, rfl⟩
abbrev main_while0b_call6_call0_call0_v170 : Ref sig .tc := ⟨.hbm, 648, rfl⟩
abbrev main_while0b_call6_call0_v18_0 : Ref sig .tc := ⟨.hbm, 649, rfl⟩
abbrev main_while0b_call6_call0_call0_v172 : Ref sig .tc := ⟨.hbm, 650, rfl⟩
abbrev main_while0b_call6_call0_call0_v173 : Ref sig .tc := ⟨.hbm, 651, rfl⟩
abbrev main_while0b_call6_call0_call0_c_44 : Ref sig .tc := ⟨.hbm, 652, rfl⟩
abbrev main_while0b_call6_call0_call0_v174 : Ref sig .tc := ⟨.hbm, 653, rfl⟩
abbrev main_while0b_call6_call0_v18_1 : Ref sig .tc := ⟨.hbm, 654, rfl⟩
abbrev main_while0b_call6_call0_v19 : Ref sig .tc := ⟨.hbm, 655, rfl⟩
abbrev main_while0b_call6_call0_c_2 : Ref sig .tc := ⟨.hbm, 656, rfl⟩
abbrev main_while0b_call6_call0_v20 : Ref sig .tc := ⟨.hbm, 657, rfl⟩
abbrev main_while0b_call6_call0_v21 : Ref sig .tc := ⟨.hbm, 658, rfl⟩
abbrev main_while0b_call6_call0_c_3 : Ref sig .tc := ⟨.hbm, 659, rfl⟩
abbrev main_while0b_call6_call0_v22 : Ref sig .tc := ⟨.hbm, 660, rfl⟩
abbrev main_while0b_call6_call0_v23 : Ref sig .tc := ⟨.hbm, 661, rfl⟩
abbrev main_while0b_call6_call0_v24 : Ref sig .tc := ⟨.hbm, 662, rfl⟩
abbrev main_while0b_call6_call0_cst : Ref sig .tc := ⟨.hbm, 663, rfl⟩
abbrev main_while0b_call6_call0_v25 : Ref sig .tc := ⟨.hbm, 664, rfl⟩
abbrev main_while0b_call6_call0_v26 : Ref sig .tc := ⟨.hbm, 665, rfl⟩
abbrev main_while0b_call6_call0_v27 : Ref sig .tc := ⟨.hbm, 666, rfl⟩
abbrev main_while0b_call6_call0_v28 : Ref sig .tc := ⟨.hbm, 667, rfl⟩
abbrev main_while0b_call6_call0_v29 : Ref sig .tc := ⟨.hbm, 668, rfl⟩
abbrev main_while0b_call6_call0_v30 : Ref sig .tc := ⟨.hbm, 669, rfl⟩
abbrev main_while0b_call6_call0_v31 : Ref sig .tc := ⟨.hbm, 670, rfl⟩
abbrev main_while0b_call6_call0_v32 : Ref sig .tc := ⟨.hbm, 671, rfl⟩
abbrev main_while0b_call6_v0 : Ref sig .tc := ⟨.hbm, 672, rfl⟩
abbrev main_while0b_call6_v1 : Ref sig .tc := ⟨.hbm, 673, rfl⟩
abbrev main_while0b_call6_v2 : Ref sig .tc := ⟨.hbm, 674, rfl⟩
abbrev main_while0b_call6_v3 : Ref sig .tc := ⟨.hbm, 675, rfl⟩
abbrev main_while0b_v109 : Ref sig .tc := ⟨.hbm, 676, rfl⟩
abbrev main_while0b_v110 : Ref sig .tc := ⟨.hbm, 677, rfl⟩
abbrev main_while0b_call7_v0 : Ref sig .tc := ⟨.hbm, 678, rfl⟩
abbrev main_while0b_call7_cst : Ref sig .tc := ⟨.hbm, 679, rfl⟩
abbrev main_while0b_call7_c : Ref sig .tc := ⟨.hbm, 680, rfl⟩
abbrev main_while0b_call7_v1_0 : Ref sig .tc := ⟨.hbm, 681, rfl⟩
abbrev main_while0b_v111 : Ref sig .tc := ⟨.hbm, 682, rfl⟩
abbrev main_while0b_call8_v0 : Ref sig .tc := ⟨.hbm, 683, rfl⟩
abbrev main_while0b_call8_v1 : Ref sig .tc := ⟨.hbm, 684, rfl⟩
abbrev main_while0b_call8_v2 : Ref sig .tc := ⟨.hbm, 685, rfl⟩
abbrev main_while0b_call8_v3 : Ref sig .tc := ⟨.hbm, 686, rfl⟩
abbrev main_while0b_call8_v4 : Ref sig .tc := ⟨.hbm, 687, rfl⟩
abbrev main_while0b_v112 : Ref sig .tc := ⟨.hbm, 688, rfl⟩
abbrev main_while0b_v113 : Ref sig .tc := ⟨.hbm, 689, rfl⟩
abbrev main_while0b_c_44 : Ref sig .tc := ⟨.hbm, 690, rfl⟩
abbrev main_while0b_v114 : Ref sig .tc := ⟨.hbm, 691, rfl⟩
abbrev main_while0b_v115 : Ref sig .tc := ⟨.hbm, 692, rfl⟩
abbrev main_while0b_c_45 : Ref sig .tc := ⟨.hbm, 693, rfl⟩
abbrev main_while0b_v116 : Ref sig .tc := ⟨.hbm, 694, rfl⟩
abbrev main_while0b_v117 : Ref sig .tc := ⟨.hbm, 695, rfl⟩
abbrev main_while0b_v118 : Ref sig .tc := ⟨.hbm, 696, rfl⟩
abbrev main_while0b_c_46 : Ref sig .tc := ⟨.hbm, 697, rfl⟩
abbrev main_while0b_v119 : Ref sig .tc := ⟨.hbm, 698, rfl⟩
abbrev main_while0b_v120 : Ref sig .tc := ⟨.hbm, 699, rfl⟩
abbrev main_while0b_c_47 : Ref sig .tc := ⟨.hbm, 700, rfl⟩
abbrev main_while0b_v121 : Ref sig .tc := ⟨.hbm, 701, rfl⟩
abbrev main_while0b_v122 : Ref sig .tc := ⟨.hbm, 702, rfl⟩
abbrev main_while0b_v123 : Ref sig .tc := ⟨.hbm, 703, rfl⟩
abbrev main_while0b_v124 : Ref sig .tc := ⟨.hbm, 704, rfl⟩
abbrev main_while0b_v125 : Ref sig .tc := ⟨.hbm, 705, rfl⟩
abbrev main_while0b_v126 : Ref sig .tc := ⟨.hbm, 706, rfl⟩
abbrev main_while0b_v127 : Ref sig .tc := ⟨.hbm, 707, rfl⟩
abbrev main_while0b_v128 : Ref sig .tc := ⟨.hbm, 708, rfl⟩
abbrev main_while0b_cst_48 : Ref sig .tc := ⟨.hbm, 709, rfl⟩
abbrev main_while0b_v129 : Ref sig .tc := ⟨.hbm, 710, rfl⟩
abbrev main_while0b_cst_49 : Ref sig .tc := ⟨.hbm, 711, rfl⟩
abbrev main_while0b_v130 : Ref sig .tc := ⟨.hbm, 712, rfl⟩
abbrev main_while0b_v131 : Ref sig .tc := ⟨.hbm, 713, rfl⟩
abbrev main_while0b_v132 : Ref sig .tc := ⟨.hbm, 714, rfl⟩
abbrev main_while0b_v133 : Ref sig .tc := ⟨.hbm, 715, rfl⟩
abbrev main_while0b_c_50 : Ref sig .tc := ⟨.hbm, 716, rfl⟩
abbrev main_while0b_v134 : Ref sig .tc := ⟨.hbm, 717, rfl⟩
abbrev main_while0b_v135 : Ref sig .tc := ⟨.hbm, 718, rfl⟩
abbrev main_while0b_c_51 : Ref sig .tc := ⟨.hbm, 719, rfl⟩
abbrev main_while0b_v136 : Ref sig .tc := ⟨.hbm, 720, rfl⟩
abbrev main_while0b_v137 : Ref sig .tc := ⟨.hbm, 721, rfl⟩
abbrev main_while0b_v138 : Ref sig .tc := ⟨.hbm, 722, rfl⟩
abbrev main_while0b_c_52 : Ref sig .tc := ⟨.hbm, 723, rfl⟩
abbrev main_while0b_v139 : Ref sig .tc := ⟨.hbm, 724, rfl⟩
abbrev main_while0b_v140 : Ref sig .tc := ⟨.hbm, 725, rfl⟩
abbrev main_while0b_c_53 : Ref sig .tc := ⟨.hbm, 726, rfl⟩
abbrev main_while0b_v141 : Ref sig .tc := ⟨.hbm, 727, rfl⟩
abbrev main_while0b_v142 : Ref sig .tc := ⟨.hbm, 728, rfl⟩
abbrev main_while0b_v143 : Ref sig .tc := ⟨.hbm, 729, rfl⟩
abbrev main_while0b_v144 : Ref sig .tc := ⟨.hbm, 730, rfl⟩
abbrev main_while0b_v145 : Ref sig .tc := ⟨.hbm, 731, rfl⟩
abbrev main_while0b_v146 : Ref sig .tc := ⟨.hbm, 732, rfl⟩
abbrev main_while0b_v147 : Ref sig .tc := ⟨.hbm, 733, rfl⟩
abbrev main_while0b_call9_v0 : Ref sig .tc := ⟨.hbm, 734, rfl⟩
abbrev main_while0b_call9_c : Ref sig .tc := ⟨.hbm, 735, rfl⟩
abbrev main_while0b_call9_c_0 : Ref sig .tc := ⟨.hbm, 736, rfl⟩
abbrev main_while0b_v148 : Ref sig .tc := ⟨.hbm, 737, rfl⟩
abbrev main_while0b_call10_v0 : Ref sig .tc := ⟨.hbm, 738, rfl⟩
abbrev main_while0b_call10_c : Ref sig .tc := ⟨.hbm, 739, rfl⟩
abbrev main_while0b_v149 : Ref sig .tc := ⟨.hbm, 740, rfl⟩
abbrev main_while0b_call11_v0 : Ref sig .tc := ⟨.hbm, 741, rfl⟩
abbrev main_while0b_call11_c : Ref sig .tc := ⟨.hbm, 742, rfl⟩
abbrev main_while0b_v150 : Ref sig .tc := ⟨.hbm, 743, rfl⟩
abbrev main_while0b_c_54 : Ref sig .tc := ⟨.hbm, 744, rfl⟩
abbrev main_while0b_v151 : Ref sig .tc := ⟨.hbm, 745, rfl⟩
abbrev main_v28 : Ref sig .tc := ⟨.hbm, 746, rfl⟩
abbrev main_v29 : Ref sig .tc := ⟨.hbm, 747, rfl⟩
abbrev main_v30 : Ref sig .tc := ⟨.hbm, 748, rfl⟩
abbrev main_v31 : Ref sig .tc := ⟨.hbm, 749, rfl⟩

abbrev nD : Nat := 1
abbrev τ : Topo := Topo.v7x

variable {F : FTy → Type} [FloatOps F]

abbrev main_while0_count : Scf.Loop 32 := ⟨0#32, 50#32, 1#32⟩
-- ==== Proof.ReferenceFrame.lean ====
/- The frame of the reference (`Cert.ReferenceIdeal`): what none of its stretches of host operations writes keeps its
   contents through the whole run, so the argument arrays end as they began; and a program with no semaphore has every
   counter at zero. -/
module

public import proofs.«01_k».proof.Proof.Gen.ReferenceIdeal.Run
public import Idealize.ShloMosaic.Lib.Quiescent

@[expose] public section

noncomputable section

namespace Cert.ReferenceIdeal.Value

open Idealize.ShloMosaic Idealize.ShloMosaic.TcCoe Idealize.ShloMosaic.StableHlo
open Idealize.SL Idealize.SL.Sem

variable {F : FTy → Type} [FloatOps F]

/-- What the stretches before the loop write. -/
abbrev preW : List (Ref sig .tc) := hostOps0_W ++ hostOps0_1_W ++ hostOps0_2_W ++ hostOps0_3_W ++ hostOps0_4_W
/-- What one trip of the loop writes before its last stretch, the condition's two operations included. -/
abbrev tripW : List (Ref sig .tc) := condOps_W ++ while0Ops0_W ++ while0Ops0_1_W ++ while0Ops0_2_W ++ while0Ops0_3_W ++ while0Ops0_4_W
  ++ while0Ops0_5_W ++ while0Ops0_6_W ++ while0Ops0_7_W ++ while0Ops0_8_W ++ while0Ops0_9_W ++ while0Ops0_10_W ++ while0Ops0_11_W
  ++ while0Ops0_12_W ++ while0Ops0_13_W ++ while0Ops0_14_W ++ while0Ops0_15_W

variable (V : Valuation τ sig (Elt F)) {r : Ref sig .tc}

/-- A reference no stretch before the loop writes is unchanged by them. -/
theorem pre_keeps (h : r ∉ preW) : afterL preI V (Proc.devRef .tc r) = V (Proc.devRef .tc r) := by
  simp only [preW, List.mem_append, not_or] at h
  simp only [afterL_cons, afterL_nil]
  rw [after_of_writes_sub _ _ hostOps0_4_writes h.2, after_of_writes_sub _ _ hostOps0_3_writes h.1.2,
    after_of_writes_sub _ _ hostOps0_2_writes h.1.1.2, after_of_writes_sub _ _ hostOps0_1_writes h.1.1.1.2,
    after_of_writes_sub _ _ hostOps0_writes h.1.1.1.1]

/-- A reference neither the condition nor the trip writes is unchanged by a trip. -/
theorem trip_keeps (h : r ∉ tripW ++ while0Ops0_16_W) :
    afterL bodyI (after condOps V) (Proc.devRef .tc r) = V (Proc.devRef .tc r) := by
  simp only [tripW, List.mem_append, not_or] at h
  simp only [afterL_cons, afterL_nil]
  obtain ⟨⟨⟨⟨⟨⟨⟨⟨⟨⟨⟨⟨⟨⟨⟨⟨⟨hc, h0⟩, h1⟩, h2⟩, h3⟩, h4⟩, h5⟩, h6⟩, h7⟩, h8⟩, h9⟩, h10⟩, h11⟩, h12⟩, h13⟩, h14⟩, h15⟩, h16⟩ := h
  rw [after_of_writes_sub _ _ while0Ops0_16_writes h16, after_of_writes_sub _ _ while0Ops0_15_writes h15,
    after_of_writes_sub _ _ while0Ops0_14_writes h14, after_of_writes_sub _ _ while0Ops0_13_writes h13,
    after_of_writes_sub _ _ while0Ops0_12_writes h12, after_of_writes_sub _ _ while0Ops0_11_writes h11,
    after_of_writes_sub _ _ while0Ops0_10_writes h10, after_of_writes_sub _ _ while0Ops0_9_writes h9,
    after_of_writes_sub _ _ while0Ops0_8_writes h8, after_of_writes_sub _ _ while0Ops0_7_writes h7,
    after_of_writes_sub _ _ while0Ops0_6_writes h6, after_of_writes_sub _ _ while0Ops0_5_writes h5,
    after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0, after_of_writes_sub _ _ condOps_writes hc]

variable (m : (ℓ : Loc nD τ sig) → Buf (Elt F) ℓ) (ρ : Dev nD → PrngReg)

/-- A reference no trip writes holds at every trip what it held when the loop was entered. -/
theorem atK_keeps (c : Dev nD) (h : r ∉ tripW ++ while0Ops0_16_W) :
    ∀ k, atK m k c (Proc.devRef .tc r) = entryContents preI m c (Proc.devRef .tc r)
  | 0 => rfl
  | k + 1 => (trip_keeps (atK m k c) h).trans (atK_keeps c h k)

/-- A reference nothing in the program writes ends as it began. -/
theorem final_keeps (c : Dev nD) (h₀ : r ∉ preW) (h : r ∉ tripW ++ while0Ops0_16_W) (h₁ : r ∉ condOps_W) (h₂ : r ∉ hostOps0_5_W) :
    finalContents condOps preI bodyI postI 50 m c (Proc.devRef .tc r) = m ((c.tc : Thread nD τ).loc r) := by
  show afterL postI _ _ = _
  rw [afterL_cons, afterL_nil, after_of_writes_sub _ _ hostOps0_5_writes h₂, after_of_writes_sub _ _ condOps_writes h₁]
  refine (atK_keeps m c h 50).trans ?_
  exact pre_keeps _ h₀

/-- One argument array at the end of the run. -/
theorem arg_keeps {s : MemSt nD τ sig (Elt F)} (c : Dev nD)
    (H : ∀ (c : Dev nD) (b : Ref sig .tc), (Proc.devRef .tc b : DevRef τ sig).isScoped = false →
      s.mem ((c.tc : Thread nD τ).loc b) = finalContents condOps preI bodyI postI 50 m c (Proc.devRef .tc b))
    (r : Ref sig .tc) (hs : (Proc.devRef .tc r : DevRef τ sig).isScoped = false) (h₀ : r ∉ preW) (h : r ∉ tripW ++ while0Ops0_16_W)
    (h₁ : r ∉ condOps_W) (h₂ : r ∉ hostOps0_5_W) :
    s.mem ((c.tc : Thread nD τ).loc r) = m ((c.tc : Thread nD τ).loc r) :=
  (H c r hs).trans (final_keeps m c h₀ h h₁ h₂)

/-- The run of the reference: every execution terminates with the four results at the fold's contents and the argument arrays
    unchanged. -/
theorem run : θ_run (defs (F := F)) (onTc (τ := τ) (main (F := F))) ⟨m, fun _ => 0, ρ⟩ (fun r => ∀ c : Dev nD,
      r.2.mem ((c.tc : Thread nD τ).loc main_v28) = finalContents condOps preI bodyI postI 50 m c (Proc.devRef .tc main_v28)
      ∧ r.2.mem ((c.tc : Thread nD τ).loc main_v29) = finalContents condOps preI bodyI postI 50 m c (Proc.devRef .tc main_v29)
      ∧ r.2.mem ((c.tc : Thread nD τ).loc main_v30) = finalContents condOps preI bodyI postI 50 m c (Proc.devRef .tc main_v30)
      ∧ r.2.mem ((c.tc : Thread nD τ).loc main_v31) = finalContents condOps preI bodyI postI 50 m c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => by
    refine ⟨h c main_v28 rfl, h c main_v29 rfl, h c main_v30 rfl, h c main_v31 rfl, ?_, ?_, ?_, ?_, ?_, ?_, ?_, ?_, ?_, ?_, ?_, ?_, ?_⟩ <;>
      exact arg_keeps m c h _ rfl (by decide +kernel) (by decide +kernel) (by decide +kernel) (by decide +kernel)) (run_fold m ρ)

/-- The frame of the reference: every execution terminates, the argument arrays end unchanged, every semaphore counter is zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => (h c).2.2.2.2, sem_eq_zero_of_no_sems rfl _⟩) (run m ρ)

end Cert.ReferenceIdeal.Value

end
-- ==== Proof.Model.lean ====
module
public import Idealize.ShloMosaic.Lib.Pointwise
@[expose] public section
set_option maxHeartbeats 1000000
noncomputable section
/-! The decoder of one batch row, step by step, over the extended reals. -/
namespace Cert.Model
open Idealize.ShloMosaic

/-- One batch row's data: its items and their codes, the weights, and the noise of each step. -/
structure Row where
  item : Fin 50 → Fin 128 → EReal
  enc : Fin 50 → Fin 16 → EReal
  wx : Fin 128 → Fin 128 → EReal
  wh : Fin 32 → Fin 128 → EReal
  bg : Fin 128 → EReal
  vx : Fin 16 → Fin 32 → EReal
  vh : Fin 32 → Fin 32 → EReal
  c1 : Fin 32 → EReal
  v2 : Fin 32 → Fin 16 → EReal
  c2 : Fin 16 → EReal
  v3 : Fin 16 → EReal
  c3 : EReal
  noise : Fin 50 → Fin 50 → EReal

/-- What a step hands to the next: the two LSTM states, how often each slot was chosen, the last chosen item, the scores. -/
@[ext] structure State where
  h : Fin 32 → EReal
  c : Fin 32 → EReal
  n : Fin 50 → ℕ
  x : Fin 128 → EReal
  sc : Fin 50 → EReal

/-- The penalty of a chosen slot, minus one billion. -/
def neg : EReal := Ideal.ofBits .f32 0xCE6E6B28#32
/-- The small number under the logarithm. -/
def tiny : EReal := Ideal.ofBits .f32 0x1E3CE508#32
/-- The decay of the scores per step. -/
def decay : EReal := Ideal.ofBits .f32 0x3CF5C28F#32

/-- `i` is the first place at which `y` is greatest. -/
def IsFirstMax {N : ℕ} (y : Fin N → EReal) (i : Fin N) : Prop := (∀ s, y s ≤ y i) ∧ ∀ s, s < i → y s < y i

/-- Fifty values have a first greatest one. -/
theorem exists_firstMax (y : Fin 50 → EReal) : ∃ i, IsFirstMax y i := by
  classical
  obtain ⟨t, -, ht⟩ := Finset.exists_max_image Finset.univ y ⟨0, Finset.mem_univ _⟩
  let A := Finset.univ.filter fun s => y s = y t
  have hA : A.Nonempty := ⟨t, by simp [A]⟩
  refine ⟨A.min' hA, ?_, ?_⟩
  · intro s
    have : y (A.min' hA) = y t := (Finset.mem_filter.1 (A.min'_mem hA)).2
    rw [this]; exact ht s (Finset.mem_univ _)
  · intro s hs
    have h1 : y (A.min' hA) = y t := (Finset.mem_filter.1 (A.min'_mem hA)).2
    rw [h1]
    refine lt_of_le_of_ne (ht s (Finset.mem_univ _)) fun h => ?_
    exact absurd (A.min'_le s (by simp [A, h])) (not_le.2 hs)

/-- There is at most one first greatest place. -/
theorem firstMax_unique {N : ℕ} {y : Fin N → EReal} {i j : Fin N} (hi : IsFirstMax y i) (hj : IsFirstMax y j) : i = j := by
  rcases lt_trichotomy i j with h | h | h
  · exact absurd (hj.2 i h) (not_lt.2 (hi.1 j))
  · exact h
  · exact absurd (hi.2 j h) (not_lt.2 (hj.1 i))

/-- The first place at which `y` is greatest. -/
def pick (y : Fin 50 → EReal) : Fin 50 := (exists_firstMax y).choose
/-- `pick` is such a place. -/
theorem pick_spec (y : Fin 50 → EReal) : IsFirstMax y (pick y) := (exists_firstMax y).choose_spec
/-- Any such place is `pick`. -/
theorem pick_eq {y : Fin 50 → EReal} {i : Fin 50} (h : IsFirstMax y i) : pick y = i := firstMax_unique (pick_spec y) h

namespace Row
variable (P : Row) (S : State)

/-- The LSTM's four gates before their nonlinearities. -/
def gate (l : Fin 128) : EReal := (∑ f, S.x f * P.wx f l + ∑ m, S.h m * P.wh m l) + P.bg l
/-- The new cell state. -/
def cell (m : Fin 32) : EReal :=
  S.c m * Ideal.logistic (P.gate S ⟨64 + m.val, by omega⟩ + 1)
    + Ideal.logistic (P.gate S ⟨m.val, by omega⟩) * Ideal.tanh (P.gate S ⟨32 + m.val, by omega⟩)
/-- The new hidden state. -/
def hid (m : Fin 32) : EReal := Ideal.tanh (P.cell S m) * Ideal.logistic (P.gate S ⟨96 + m.val, by omega⟩)
/-- The first dense layer at slot `s`. -/
def d1 (s : Fin 50) (m : Fin 32) : EReal :=
  max ((∑ e, P.enc s e * P.vx e m + ∑ i, P.hid S i * P.vh i m) + P.c1 m) 0
/-- The second dense layer at slot `s`. -/
def d2 (s : Fin 50) (e : Fin 16) : EReal := max (∑ m, P.d1 S s m * P.v2 m e + P.c2 e) 0
/-- The masked logits. -/
def logit (s : Fin 50) : EReal := ((S.n s : ℝ) : EReal) * neg + (∑ e, P.d2 S s e * P.v3 e + P.c3)
/-- The probabilities over the slots. -/
def prob (s : Fin 50) : EReal :=
  Ideal.div (Ideal.exp (P.logit S s - Finset.fold max ⊥ (P.logit S) Finset.univ))
    (∑ i, Ideal.exp (P.logit S i - Finset.fold max ⊥ (P.logit S) Finset.univ))
/-- The logarithms of the probabilities with step `k`'s noise added. -/
def noisy (k : Fin 50) (s : Fin 50) : EReal := Ideal.log (P.prob S s + tiny) + P.noise k s
/-- The slot step `k` chooses. -/
def choice (k : Fin 50) : Fin 50 := pick (P.noisy S k)
/-- The state after step `k`. -/
def step (k : Fin 50) : State where
  h := P.hid S
  c := P.cell S
  n := fun s => S.n s + if s = P.choice S k then 1 else 0
  x := P.item (P.choice S k)
  sc := fun s => S.sc s + (if s = P.choice S k then 1 else 0) * (1 - decay * (((k.val : ℕ) : ℝ) : EReal))

/-- The state before the first step. -/
def init : State := ⟨fun _ => 0, fun _ => 0, fun _ => 0, fun _ => 0, fun _ => 0⟩
/-- The state before step `k`. -/
def at_ (P : Row) : ℕ → State
  | 0 => init
  | k + 1 => if h : k < 50 then P.step (at_ P k) ⟨k, h⟩ else at_ P k
/-- One step further. -/
theorem at_succ (k : Fin 50) : P.at_ (k.val + 1) = P.step (P.at_ k.val) k := by
  rw [at_, dif_pos k.isLt]
end Row

/-- A sum against a column of a block-diagonal matrix keeps one block's terms. -/
theorem sum_block {A B : ℕ} (f : Fin (A * B) → EReal) (r : Fin A) (w : Fin B → EReal) :
    (∑ x : Fin (A * B), f x * (if x.val / B = r.val then w ⟨x.val % B, Nat.mod_lt _ (Nat.pos_of_ne_zero fun h => by
        have := x.isLt; simp [h] at this)⟩ else 0))
      = ∑ i : Fin B, f ⟨r.val * B + i.val, by
          have h1 := r.isLt; have h2 := i.isLt
          calc r.val * B + i.val < r.val * B + B := by omega
            _ = (r.val + 1) * B := by ring
            _ ≤ A * B := Nat.mul_le_mul_right _ h1⟩ * w i := by
  rw [← (finProdFinEquiv (m := A) (n := B)).sum_comp, Fintype.sum_prod_type, Finset.sum_eq_single r]
  · refine Finset.sum_congr rfl fun i _ => ?_
    have hB : 0 < B := i.pos
    have h1 : (finProdFinEquiv (r, i)).val / B = r.val := by
      simp [finProdFinEquiv, Nat.add_mul_div_left _ _ hB, Nat.div_eq_of_lt i.isLt]
    have h2 : (finProdFinEquiv (r, i)).val % B = i.val := by
      simp [finProdFinEquiv, Nat.mod_eq_of_lt i.isLt]
    rw [if_pos h1]
    congr 1
    · congr 1; apply Fin.ext; simp [finProdFinEquiv]; ring
    · congr 1; apply Fin.ext; exact h2
  · intro q _ hq
    refine Finset.sum_eq_zero fun i _ => ?_
    have hB : 0 < B := i.pos
    have h1 : (finProdFinEquiv (q, i)).val / B = q.val := by
      simp [finProdFinEquiv, Nat.add_mul_div_left _ _ hB, Nat.div_eq_of_lt i.isLt]
    rw [if_neg (by rw [h1]; exact fun h => hq (Fin.ext h)), mul_zero]
  · intro h; exact absurd (Finset.mem_univ _) h

/-- The penalty is a real number. -/
theorem neg_real : ∃ r : ℝ, neg = (r : EReal) := ⟨-1000000000, by
  simp [neg, Ideal.ofBits, Ideal.ieee]
  exact_mod_cast (by norm_num : (15625000 : ℝ) * 2 ^ 6 = 1000000000)⟩
/-- Minus infinity's word reads as the least extended real. -/
theorem ofBits_bot : Ideal.ofBits .f32 0xFF800000#32 = ⊥ := by
  simp [Ideal.ofBits, Ideal.ieee]

/-- The greatest element is the one at the first greatest place. -/
theorem fold_max_eq (y : Fin 50 → EReal) : Finset.fold max ⊥ y Finset.univ = y (pick y) :=
  le_antisymm (Finset.fold_max_le _ |>.2 ⟨bot_le, fun s _ => (pick_spec y).1 s⟩)
    (Finset.le_fold_max _ |>.2 (.inr ⟨_, Finset.mem_univ _, le_rfl⟩))

/-- The signed minimum of words is the minimum of their integers. -/
theorem toInt_minsi (a b : BitVec 32) : (IntOp.minsi a b).toInt = min a.toInt b.toInt := by
  unfold IntOp.minsi
  by_cases h : a.slt b
  · rw [if_pos h]; rw [BitVec.slt_iff_toInt_lt] at h; omega
  · rw [if_neg h]; rw [BitVec.slt_iff_toInt_lt] at h; omega

/-- A small number's word is that number. -/
theorem toInt_small (n : ℕ) (h : n < 100) : (BitVec.ofNat 32 n).toInt = n := by
  rw [BitVec.toInt_ofNat', Int.bmod_def]; omega

/-- The least slot number among the slots that attain the maximum is the first greatest place. -/
theorem fold_min_eq (y : Fin 50 → EReal) :
    Finset.fold IntOp.minsi (2147483647#32) (fun x : Fin 50 => if y x = Finset.fold max ⊥ y Finset.univ then BitVec.ofNat 32 x.val
      else 50#32) Finset.univ = BitVec.ofNat 32 (pick y).val := by
  have hp : (BitVec.ofNat 32 (pick y).val).toInt = (pick y).val := toInt_small _ (by omega)
  have hlt := (pick y).isLt
  apply BitVec.eq_of_toInt_eq
  rw [← Finset.fold_hom (op' := min) (m := BitVec.toInt) toInt_minsi, hp, fold_max_eq]
  refine le_antisymm (Finset.fold_min_le _ |>.2 (.inr ⟨pick y, Finset.mem_univ _, ?_⟩)) (Finset.le_fold_min _ |>.2 ⟨?_, fun s _ => ?_⟩)
  · rw [if_pos rfl, hp]
  · have e : (2147483647#32).toInt = 2147483647 := by decide
    exact (by omega : ((pick y).val : ℤ) ≤ 2147483647).trans_eq e.symm
  · by_cases h : y s = y (pick y)
    · rw [if_pos h, toInt_small _ (by omega)]
      by_contra hlt
      have hs : s < pick y := by rw [Fin.lt_def]; omega
      exact absurd h (ne_of_lt ((pick_spec y).2 s hs))
    · rw [if_neg h]
      have e : (50#32).toInt = 50 := by decide
      exact (by omega : ((pick y).val : ℤ) ≤ 50).trans_eq e.symm

/-- Two slot numbers are one word exactly when they are one slot. -/
theorem ofNat_inj {a b : ℕ} (ha : a < 100) (hb : b < 100) : BitVec.ofNat 32 a = BitVec.ofNat 32 b ↔ a = b := by
  constructor
  · intro h
    have := congrArg BitVec.toNat h
    simp only [BitVec.toNat_ofNat] at this
    omega
  · rintro rfl; rfl

end Cert.Model
-- ==== Proof.Rows.lean ====
module
public import proofs.«01_k».proof.Proof.Model
@[expose] public section
noncomputable section
/-! The model's rows from the problem's arguments. -/
namespace Cert.Model
open Idealize.ShloMosaic

/-- The problem's thirteen arguments. -/
structure Args where
  a0 : Vec Ideal ⟨3, ![1024, 50, 128]⟩ .f32
  a1 : Vec Ideal ⟨2, ![128, 32]⟩ .f32
  a2 : Vec Ideal ⟨1, ![32]⟩ .f32
  a3 : Vec Ideal ⟨2, ![32, 16]⟩ .f32
  a4 : Vec Ideal ⟨1, ![16]⟩ .f32
  a5 : Vec Ideal ⟨2, ![160, 128]⟩ .f32
  a6 : Vec Ideal ⟨1, ![128]⟩ .f32
  a7 : Vec Ideal ⟨2, ![48, 32]⟩ .f32
  a8 : Vec Ideal ⟨1, ![32]⟩ .f32
  a9 : Vec Ideal ⟨2, ![32, 16]⟩ .f32
  a10 : Vec Ideal ⟨1, ![16]⟩ .f32
  a11 : Vec Ideal ⟨2, ![16, 1]⟩ .f32
  a12 : Vec Ideal ⟨1, ![1]⟩ .f32

/-- The first encoder layer at slot `s` of batch row `b`. -/
def Args.enc1 (A : Args) (b : Fin 1024) (s : Fin 50) (i : Fin 32) : EReal :=
  max (∑ f : Fin 128, A.a0 (ix3 b s f) * A.a1 (ix2 f i) + A.a2 (ix1 i)) 0
/-- The second encoder layer at slot `s` of batch row `b`. -/
def Args.enc2 (A : Args) (b : Fin 1024) (s : Fin 50) (e : Fin 16) : EReal :=
  max (∑ i : Fin 32, A.enc1 b s i * A.a3 (ix2 i e) + A.a4 (ix1 e)) 0

/-- Batch row `b`, with the noise `g` of every step. -/
def Args.row (A : Args) (g : Fin 50 → Fin 1024 → Fin 50 → EReal) (b : Fin 1024) : Row where
  item s f := A.a0 (ix3 b s f)
  enc s e := A.enc2 b s e
  wx f l := A.a5 (ix2 ⟨f.val, by omega⟩ l)
  wh i l := A.a5 (ix2 ⟨128 + i.val, by omega⟩ l)
  bg l := A.a6 (ix1 l)
  vx e l := A.a7 (ix2 ⟨e.val, by omega⟩ l)
  vh i l := A.a7 (ix2 ⟨16 + i.val, by omega⟩ l)
  c1 l := A.a8 (ix1 l)
  v2 i e := A.a9 (ix2 i e)
  c2 e := A.a10 (ix1 e)
  v3 e := A.a11 (ix2 e 0)
  c3 := A.a12 (ix1 0)
  noise k s := g k b s
end Cert.Model
-- ==== Proof.RefOps.lean ====
module
public import proofs.«01_k».proof.Proof.ReferenceFrame
public import proofs.«01_k».proof.Proof.Rows
public import Idealize.ShloMosaic.Lib.StableHlo.RunRead
public import Idealize.ShloMosaic.Lib.WordCmp
@[expose] public section
set_option maxHeartbeats 1000000
noncomputable section
/-! The reference's less plain operations, entry by entry: the gathers, the row updates and the arg-max. -/
namespace Cert.ReferenceIdeal.Value
open Cert.ReferenceIdeal.Gen Idealize.ShloMosaic Idealize.ShloMosaic.StableHlo
open Cert.Model (Row State Args)

/-- A gathered item: the batch row and the slot are read signed off the indices and clamped. -/
theorem gather_item (x : Vec Ideal S1024x50x128 .f32) (idx : IVec S1024x2 32) (b : Fin 1024) (f : Fin 128) :
    Host.gather gather_S1024x50x128_S1024x2_S1024x128_1_01_n_n_01_1_11128 x idx (ix2 b f)
      = x (ix3 ⟨min (idx (ix2 b 0)).toInt.toNat 1023, by omega⟩ ⟨min (idx (ix2 b 1)).toInt.toNat 49, by omega⟩ f) := by
  unfold Host.gather
  congr 1
  funext a; apply Fin.ext
  fin_cases a
  · exact congrArg (fun z => min (idx z).toInt.toNat 1023) (by funext q; fin_cases q <;> rfl)
  · exact congrArg (fun z => min (idx z).toInt.toNat 49) (by funext q; fin_cases q <;> rfl)
  · show 0 + 0 + f.val = f.val
    omega
/-- A gathered probability: the batch row and the slot are read signed off the indices and clamped. -/
theorem gather_prob (x : Vec Ideal S1024x50 .f32) (idx : IVec S1024x2 32) (b : Fin 1024) :
    Host.gather gather_S1024x50_S1024x2_S1024_n_01_n_n_01_1_11 x idx (ix1 b)
      = x (ix2 ⟨min (idx (ix2 b 0)).toInt.toNat 1023, by omega⟩ ⟨min (idx (ix2 b 1)).toInt.toNat 49, by omega⟩) := by
  unfold Host.gather
  congr 1
  funext a; apply Fin.ext
  fin_cases a
  · exact congrArg (fun z => min (idx z).toInt.toNat 1023) (by funext q; fin_cases q <;> rfl)
  · exact congrArg (fun z => min (idx z).toInt.toNat 49) (by funext q; fin_cases q <;> rfl)

/-- The rank-three row update: row `n` becomes the update. -/
theorem dus3 {e : EltTy} (x : Vec Ideal S50x1024x50 e) (u : Vec Ideal S1x1024x50 e) (st : Fin 3 → Int) (n : Fin 50)
    (h0 : st 0 = n.val) (h1 : st 1 = 0) (h2 : st 2 = 0) (h : S50x1024x50.Slices (fun _ => 0) S1x1024x50)
    (i : Fin 50) (b : Fin 1024) (s : Fin 50) :
    Host.dynamicUpdateSlice (s := S50x1024x50) x u st h (ix3 i b s) = if i = n then u (ix3 0 b s) else x (ix3 i b s) := by
  rw [WordCmp.dynamicUpdateSlice_eq_update x u st h ![n.val, 0, 0] ⟨rfl, fun a => by fin_cases a <;> simp <;> omega⟩
    (fun a => by fin_cases a; exacts [h0, h1, h2])]
  pointwise
  by_cases hi : i = n
  · subst hi
    rw [dif_pos ⟨le_rfl, by omega⟩, if_pos rfl]
    congr 2
    exact Fin.ext (Nat.sub_self _)
  · rw [dif_neg (fun h => hi (Fin.ext (by omega))), if_neg hi]
/-- The rank-two row update: row `n` becomes the update. -/
theorem dus2 {e : EltTy} (x : Vec Ideal S50x1024 e) (u : Vec Ideal S1x1024 e) (st : Fin 2 → Int) (n : Fin 50)
    (h0 : st 0 = n.val) (h1 : st 1 = 0) (h : S50x1024.Slices (fun _ => 0) S1x1024) (i : Fin 50) (b : Fin 1024) :
    Host.dynamicUpdateSlice (s := S50x1024) x u st h (ix2 i b) = if i = n then u (ix2 0 b) else x (ix2 i b) := by
  rw [WordCmp.dynamicUpdateSlice_eq_update x u st h ![n.val, 0] ⟨rfl, fun a => by fin_cases a <;> simp <;> omega⟩
    (fun a => by fin_cases a; exacts [h0, h1])]
  pointwise
  by_cases hi : i = n
  · subst hi
    rw [dif_pos ⟨le_rfl, by omega⟩, if_pos rfl]
    congr 2
    exact Fin.ext (Nat.sub_self _)
  · rw [dif_neg (fun h => hi (Fin.ext (by omega))), if_neg hi]

/-- The arg-max's body keeps the better of its two pairs: the greater value, then the lower index. -/
theorem argmax_two (a b : EReal × BitVec 32) :
    (reducer_argmax_f32_i32 (F := Ideal) a b = a ∧ (b.1 < a.1 ∨ b.1 = a.1 ∧ a.2.toInt ≤ b.2.toInt))
      ∨ (reducer_argmax_f32_i32 (F := Ideal) a b = b ∧ (a.1 < b.1 ∨ a.1 = b.1 ∧ b.2.toInt ≤ a.2.toInt)) := by
  obtain ⟨a1, a2⟩ := a
  obtain ⟨b1, b2⟩ := b
  simp only [reducer_argmax_f32_i32, IntOp.cmpi, IntOp.ori, IntOp.andi, Scalar.select]
  rcases lt_trichotomy a1 b1 with h | h | h
  · right
    refine ⟨?_, .inl h⟩
    simp [Ideal.cmpf_def, Ideal.cmp, h.not_gt, h.ne]
  · subst h
    by_cases hs : a2.slt b2
    · left
      refine ⟨?_, .inr ⟨rfl, (BitVec.slt_iff_toInt_lt.1 hs).le⟩⟩
      simp [Ideal.cmpf_def, Ideal.cmp, hs]
    · right
      refine ⟨?_, .inr ⟨rfl, by rw [BitVec.slt_iff_toInt_lt] at hs; omega⟩⟩
      simp [Ideal.cmpf_def, Ideal.cmp, hs]
  · left
    refine ⟨?_, .inl h⟩
    simp [Ideal.cmpf_def, Ideal.cmp, h, h.ne']

/-- `q` is no better than `p`: its value is less, or the same at an index that is not lower. -/
def NoBetter (q p : EReal × BitVec 32) : Prop := q.1 < p.1 ∨ q.1 = p.1 ∧ p.2.toInt ≤ q.2.toInt
/-- Being no better is transitive. -/
theorem NoBetter.trans {p q r : EReal × BitVec 32} (h : NoBetter p q) (h' : NoBetter q r) : NoBetter p r := by
  rcases h with h | ⟨h, hi⟩ <;> rcases h' with h' | ⟨h', hi'⟩
  · exact .inl (h.trans h')
  · exact .inl (h' ▸ h)
  · exact .inl (h ▸ h')
  · exact .inr ⟨h.trans h', hi'.trans hi⟩

/-- The arg-max's fold ends with one of the pairs it has met, and none of them is better. -/
theorem argmax_fold (L : List (EReal × BitVec 32)) (p : EReal × BitVec 32) :
    (L.foldl (reducer_argmax_f32_i32 (F := Ideal)) p = p ∨ L.foldl (reducer_argmax_f32_i32 (F := Ideal)) p ∈ L)
    ∧ ∀ q, q = p ∨ q ∈ L → NoBetter q (L.foldl (reducer_argmax_f32_i32 (F := Ideal)) p) := by
  induction L generalizing p with
  | nil => exact ⟨.inl rfl, fun q hq => .inr ⟨by simpa using congrArg Prod.fst (hq.resolve_right (by simp)), by
      rw [hq.resolve_right (by simp)]; rfl⟩⟩
  | cons a L ih =>
    obtain ⟨h1, h2⟩ := ih (reducer_argmax_f32_i32 (F := Ideal) p a)
    have hr := h2 _ (.inl rfl)
    rw [List.foldl_cons]
    have hpa : NoBetter p (reducer_argmax_f32_i32 (F := Ideal) p a) ∧ NoBetter a (reducer_argmax_f32_i32 (F := Ideal) p a)
        ∧ (reducer_argmax_f32_i32 (F := Ideal) p a = p ∨ reducer_argmax_f32_i32 (F := Ideal) p a = a) := by
      rcases argmax_two p a with ⟨e, h⟩ | ⟨e, h⟩
      · rw [e]; exact ⟨.inr ⟨rfl, le_rfl⟩, h, .inl rfl⟩
      · rw [e]; exact ⟨h, .inr ⟨rfl, le_rfl⟩, .inr rfl⟩
    refine ⟨?_, fun q hq => ?_⟩
    · rcases h1 with h1 | h1
      · rw [h1]
        rcases hpa.2.2 with e | e
        · exact .inl e
        · exact .inr (by rw [e]; exact List.mem_cons_self)
      · exact .inr (List.mem_cons_of_mem _ h1)
    · rcases hq with rfl | hq
      · exact hpa.1.trans hr
      · rcases List.mem_cons.1 hq with rfl | hq
        · exact hpa.2.1.trans hr
        · exact h2 _ (.inr hq)

/-- Leaving the slot out of an index keeps the batch row. -/
theorem drop_row (b : Fin 1024) (s : Fin 50) : (reducesTo_S1024x50_S1024_d1).drop (ix2 b s) = (ix1 b : S1024.Idx) := by
  funext a
  fin_cases a
  rfl
/-- The arg-max over a row is the row's first greatest place. -/
theorem argmax_row (x : Vec Ideal S1024x50 .f32) (b : Fin 1024) :
    (Host.argReduce (F := Ideal) reducer_argmax_f32_i32 x (iotaInDim S1024x50 32 1) (constant S_ .f32 4286578688#32) (constantI S_ 32 0#32)
      reducesTo_S1024x50_S1024_d1 h_S_ (ix1 b)).2 = BitVec.ofNat 32 (Cert.Model.pick fun s => x (ix2 b s)).val := by
  rw [Ideal.argReduce_eq_reduce2, Host.reduce2_eq_foldl_fiber]
  generalize hL : Host.argReduceFiber _ _ _ _ = L
  have hmem : ∀ q : EReal × BitVec 32, q ∈ L ↔ ∃ s : Fin 50, q = (x (ix2 b s), BitVec.ofNat 32 s.val) := by
    intro q
    rw [← hL, Host.argReduceFiber]
    simp only [List.mem_map, List.mem_filter, List.mem_finRange, true_and, decide_eq_true_eq]
    constructor
    · rintro ⟨n, hn, rfl⟩
      obtain ⟨b', s, e⟩ : ∃ b' s, S1024x50.rowMajor.symm n = (ix2 b' s : S1024x50.Idx) := ⟨_, _, eq_ix2 _⟩
      rw [e] at hn ⊢
      rw [drop_row] at hn
      have : b' = b := congrFun hn 0
      subst this
      exact ⟨s, rfl⟩
    · rintro ⟨s, rfl⟩
      refine ⟨S1024x50.rowMajor (ix2 b s), ?_, ?_⟩
      · rw [Equiv.symm_apply_apply, drop_row]
      · rw [Equiv.symm_apply_apply]; rfl
  have hbot : (constant (F := Ideal) S_ .f32 4286578688#32 (Shape.Idx.first h_S_) : EReal) = ⊥ := Cert.Model.ofBits_bot
  obtain ⟨h1, h2⟩ := argmax_fold L (constant (F := Ideal) S_ .f32 4286578688#32 (Shape.Idx.first h_S_), constantI S_ 32 0#32 (Shape.Idx.first h_S_))
  generalize L.foldl (reducer_argmax_f32_i32 (F := Ideal)) _ = r at h1 h2
  have hle : ∀ s, NoBetter (x (ix2 b s), BitVec.ofNat 32 s.val) r := fun s => h2 _ (.inr ((hmem _).2 ⟨s, rfl⟩))
  have hs32 : ∀ s : Fin 50, (BitVec.ofNat 32 s.val).toInt = s.val := fun s => Cert.Model.toInt_small _ (by omega)
  rcases h1 with h1 | h1
  · have e1 : r.1 = ⊥ := by rw [h1]; exact hbot
    have e2 : r.2 = BitVec.ofNat 32 (0 : Fin 50).val := by rw [h1]; rfl
    have hx : ∀ s, x (ix2 b s) = ⊥ := fun s => by
      rcases hle s with h | h
      · rw [e1] at h; exact absurd h not_lt_bot
      · exact h.1.trans e1
    rw [e2, Cert.Model.pick_eq (i := 0) ⟨fun s => by simp [hx], fun s hs => absurd hs (Fin.not_lt_zero s)⟩]
  · obtain ⟨i, rfl⟩ := (hmem r).1 h1
    rw [Cert.Model.pick_eq (i := i)]
    refine ⟨fun s => ?_, fun s hs => ?_⟩
    · rcases hle s with h | h
      · exact h.le
      · exact h.1.le
    · rcases hle s with h | h
      · exact h
      · have := h.2
        simp only [hs32] at this
        rw [Fin.lt_def] at hs
        omega
end Cert.ReferenceIdeal.Value
-- ==== Proof.RefStep.lean ====
module
public import proofs.«01_k».proof.Proof.RefOps
@[expose] public section
set_option maxHeartbeats 1000000
noncomputable section
/-! One trip of the reference's loop, stretch by stretch: each stretch's results, entry by entry, as the model's values. -/
namespace Cert.ReferenceIdeal.Value
open Cert.ReferenceIdeal.Gen Idealize.ShloMosaic Idealize.ShloMosaic.StableHlo
open Cert.Model (Row State Args)

/-- The references that hold the loop's constants. -/
abbrev constRefs : List (Ref sig .tc) :=
  [main_v27_0, main_v27_1, main_v27_2, main_v27_3, main_v27_4, main_v27_5, main_v27_6, main_v27_7, main_v27_8, main_v27_9, main_v27_10,
   main_v27_11, main_v27_12]
/-- What the loop carries: the references that a trip writes only at its end. -/
abbrev headRefs : List (Ref sig .tc) := constRefs ++
  [main_v27_13, main_v27_14, main_v27_15, main_v27_16, main_v27_17, main_v27_18, main_v27_19, main_v27_20, main_v27_21]

/-- The loop's constants: the arguments, the encoded items and the numberings. -/
structure Consts (A : Args) (W : Valuation τ sig (Elt Ideal)) : Prop where
  r0 : ∀ s : Fin 50, (W (Proc.devRef .tc main_v27_0) : Vec Ideal S50 .i32) (ix1 s) = BitVec.ofNat 32 s.val
  r1 : (W (Proc.devRef .tc main_v27_1) : Vec Ideal S160x128 .f32) = A.a5
  r2 : (W (Proc.devRef .tc main_v27_2) : Vec Ideal S128 .f32) = A.a6
  r3 : ∀ b s e, (W (Proc.devRef .tc main_v27_3) : Vec Ideal S1024x50x16 .f32) (ix3 b s e) = A.enc2 b s e
  r4 : (W (Proc.devRef .tc main_v27_4) : Vec Ideal S48x32 .f32) = A.a7
  r5 : (W (Proc.devRef .tc main_v27_5) : Vec Ideal S32 .f32) = A.a8
  r6 : (W (Proc.devRef .tc main_v27_6) : Vec Ideal S32x16 .f32) = A.a9
  r7 : (W (Proc.devRef .tc main_v27_7) : Vec Ideal S16 .f32) = A.a10
  r8 : (W (Proc.devRef .tc main_v27_8) : Vec Ideal S16x1 .f32) = A.a11
  r9 : (W (Proc.devRef .tc main_v27_9) : Vec Ideal S1 .f32) = A.a12
  r10 : ∀ i : Fin 2, (W (Proc.devRef .tc main_v27_10) : Vec Ideal S2 .i32) (ix1 i) = if i = 0 then 0#32 else 42#32
  r11 : ∀ b : Fin 1024, (W (Proc.devRef .tc main_v27_11) : Vec Ideal S1024 .i32) (ix1 b) = BitVec.ofNat 32 b.val
  r12 : (W (Proc.devRef .tc main_v27_12) : Vec Ideal S1024x50x128 .f32) = A.a0

/-- Before trip `k` the loop carries the model's states `S` of all batch rows. -/
structure Carried (S : Fin 1024 → State) (k : ℕ) (W : Valuation τ sig (Elt Ideal)) : Prop where
  ctr : (W (Proc.devRef .tc main_v27_13) : Vec Ideal S_ .i32) ix0 = BitVec.ofNat 32 k
  c : ∀ b i, (W (Proc.devRef .tc main_v27_14) : Vec Ideal S1024x32 .f32) (ix2 b i) = (S b).c i
  h : ∀ b i, (W (Proc.devRef .tc main_v27_15) : Vec Ideal S1024x32 .f32) (ix2 b i) = (S b).h i
  n : ∀ b s, (W (Proc.devRef .tc main_v27_16) : Vec Ideal S1024x50 .f32) (ix2 b s) = (1 - (((S b).n s : ℝ) : EReal) : EReal)
  x : ∀ b f, (W (Proc.devRef .tc main_v27_17) : Vec Ideal S1024x128 .f32) (ix2 b f) = (S b).x f
  sc : ∀ b s, (W (Proc.devRef .tc main_v27_18) : Vec Ideal S1024x50 .f32) (ix2 b s) = (S b).sc s

variable {A : Args} {g : Fin 50 → Fin 1024 → Fin 50 → EReal} {S : Fin 1024 → State} {k : Fin 50} {V W : Valuation τ sig (Elt Ideal)}

/-- The constants stay where the references that hold them do. -/
theorem Consts.mono (h : ∀ r ∈ constRefs, W (Proc.devRef .tc r) = V (Proc.devRef .tc r)) (H : Consts A V) : Consts A W where
  r0 := by rw [h main_v27_0 (by simp)]; exact H.r0
  r1 := by rw [h main_v27_1 (by simp)]; exact H.r1
  r2 := by rw [h main_v27_2 (by simp)]; exact H.r2
  r3 := by rw [h main_v27_3 (by simp)]; exact H.r3
  r4 := by rw [h main_v27_4 (by simp)]; exact H.r4
  r5 := by rw [h main_v27_5 (by simp)]; exact H.r5
  r6 := by rw [h main_v27_6 (by simp)]; exact H.r6
  r7 := by rw [h main_v27_7 (by simp)]; exact H.r7
  r8 := by rw [h main_v27_8 (by simp)]; exact H.r8
  r9 := by rw [h main_v27_9 (by simp)]; exact H.r9
  r10 := by rw [h main_v27_10 (by simp)]; exact H.r10
  r11 := by rw [h main_v27_11 (by simp)]; exact H.r11
  r12 := by rw [h main_v27_12 (by simp)]; exact H.r12
/-- The carried values stay where the references that hold them do. -/
theorem Carried.mono {k : ℕ} (h : ∀ r ∈ headRefs, W (Proc.devRef .tc r) = V (Proc.devRef .tc r)) (H : Carried S k V) : Carried S k W where
  ctr := by rw [h main_v27_13 (by simp)]; exact H.ctr
  c := by rw [h main_v27_14 (by simp)]; exact H.c
  h := by rw [h main_v27_15 (by simp)]; exact H.h
  n := by rw [h main_v27_16 (by simp)]; exact H.n
  x := by rw [h main_v27_17 (by simp)]; exact H.x
  sc := by rw [h main_v27_18 (by simp)]; exact H.sc

/-- The only index of a scalar. -/
theorem first_scalar : Shape.Idx.first h_S_ = ix0 := funext fun q => Fin.elim0 q
/-- The trip's number, read as the index of a row. -/
theorem ctr_toInt (K : Carried S k.val W) :
    ((W (Proc.devRef .tc main_v27_13) : Vec Ideal S_ .i32) (Shape.Idx.first h_S_)).toInt = k.val := by
  rw [first_scalar, K.ctr]
  exact Cert.Model.toInt_small k.val (by omega)

/-- The one-entry slice at `n` is entry `n`. -/
theorem slice_one (x : Vec Ideal S50 .i32) (st : Fin 1 → Int) (n : Fin 50) (h0 : st 0 = n.val) (h : S50.Slices (fun _ => 0) S1) :
    Host.dynamicSlice S1 x st h (ix1 0) = x (ix1 n) := by
  rw [WordCmp.dynamicSlice_eq_extract S1 x st h ![n.val] ⟨rfl, fun a => by fin_cases a; show n.val + 1 ≤ 50; omega⟩ (fun a => by fin_cases a; exact h0)]
  pointwise

/-- Stretch 0 reads the trip's number. -/
theorem st0 (H : Consts A W) (K : Carried S k.val W) :
    (after while0Ops0 W (Proc.devRef .tc main_while0b_v32) : Vec Ideal S_ .i32) ix0 = BitVec.ofNat 32 k.val := by
  unfold while0Ops0
  after_results
  pointwise
  refine (slice_one _ _ k ?_ sliceFits_S50_S1).trans (H.r0 k)
  exact ctr_toInt K

/-- Stretch 1's cell state. -/
theorem st1_c (H : Consts A W) (K : Carried S k.val W) (b : Fin 1024) (i : Fin 32) :
    (after while0Ops0_1 W (Proc.devRef .tc main_while0b_v59) : Vec Ideal S1024x32 .f32) (ix2 b i) = (A.row g b).cell (S b) i := by
  unfold while0Ops0_1
  after_results
  pointwise
  simp only [H.r1, H.r2, K.x, K.h, K.c]
  rfl
/-- Stretch 1's hidden state. -/
theorem st1_h (H : Consts A W) (K : Carried S k.val W) (b : Fin 1024) (i : Fin 32) :
    (after while0Ops0_1 W (Proc.devRef .tc main_while0b_v67) : Vec Ideal S1024x32 .f32) (ix2 b i) = (A.row g b).hid (S b) i := by
  unfold while0Ops0_1
  after_results
  pointwise
  simp only [H.r1, H.r2, K.x, K.h, K.c]
  rfl
/-- Stretch 1's first dense layer before its nonlinearity. -/
theorem st1_d (H : Consts A W) (K : Carried S k.val W) (b : Fin 1024) (s : Fin 50) (i : Fin 32) :
    (after while0Ops0_1 W (Proc.devRef .tc main_while0b_v76) : Vec Ideal S1024x50x32 .f32) (ix3 b s i)
      = (∑ e, (A.row g b).enc s e * (A.row g b).vx e i + ∑ l, (A.row g b).hid (S b) l * (A.row g b).vh l i) + (A.row g b).c1 i := by
  unfold while0Ops0_1
  after_results
  pointwise
  simp only [H.r1, H.r2, H.r3, H.r4, H.r5, K.x, K.h, K.c]
  rfl
/-- Stretch 2's nonlinearity. -/
theorem st2 (b : Fin 1024) (s : Fin 50) (i : Fin 32) (y : EReal)
    (h : (W (Proc.devRef .tc main_while0b_v76) : Vec Ideal S1024x50x32 .f32) (ix3 b s i) = y) :
    (after while0Ops0_2 W (Proc.devRef .tc main_while0b_v77) : Vec Ideal S1024x50x32 .f32) (ix3 b s i) = max y 0 := by
  have e (x : Vec Ideal S1024x50x32 .f32) : (maximumf x (broadcastInDim S1024x50x32 ![] bcast_S_S1024x50x32 (constant S_ FTy.f32 0#32))
      : FVec Ideal S1024x50x32 .f32) (ix3 b s i) = max (x (ix3 b s i)) 0 := by pointwise
  unfold while0Ops0_2
  after_results
  exact (e _).trans (congrArg (max · 0) h)
/-- Stretch 3's dense layer. -/
theorem st3 (H : Consts A W) (b : Fin 1024) (s : Fin 50) (e : Fin 16) (y : Fin 32 → EReal)
    (h : ∀ i, (W (Proc.devRef .tc main_while0b_v77) : Vec Ideal S1024x50x32 .f32) (ix3 b s i) = y i) :
    (after while0Ops0_3 W (Proc.devRef .tc main_while0b_v81) : Vec Ideal S1024x50x16 .f32) (ix3 b s e)
      = ∑ i, y i * (A.row g b).v2 i e + (A.row g b).c2 e := by
  unfold while0Ops0_3
  after_results
  pointwise
  simp only [H.r6, H.r7, h]
  rfl
/-- Stretch 4's nonlinearity. -/
theorem st4 (b : Fin 1024) (s : Fin 50) (i : Fin 16) (y : EReal)
    (h : (W (Proc.devRef .tc main_while0b_v81) : Vec Ideal S1024x50x16 .f32) (ix3 b s i) = y) :
    (after while0Ops0_4 W (Proc.devRef .tc main_while0b_v82) : Vec Ideal S1024x50x16 .f32) (ix3 b s i) = max y 0 := by
  have e (x : Vec Ideal S1024x50x16 .f32) : (maximumf x (broadcastInDim S1024x50x16 ![] bcast_S_S1024x50x16 (constant S_ FTy.f32 0#32))
      : FVec Ideal S1024x50x16 .f32) (ix3 b s i) = max (x (ix3 b s i)) 0 := by pointwise
  unfold while0Ops0_4
  after_results
  exact (e _).trans (congrArg (max · 0) h)
/-- Twice the complement to one of a whole number is the number. -/
theorem one_sub_one_sub (n : ℕ) : (1 : EReal) - (1 - ((n : ℝ) : EReal)) = ((n : ℝ) : EReal) := by
  rw [← EReal.coe_one, ← EReal.coe_sub, ← EReal.coe_sub]
  exact EReal.coe_eq_coe_iff.2 (by ring)
/-- Stretch 5's probabilities. -/
theorem st5 (H : Consts A W) (K : Carried S k.val W) (b : Fin 1024)
    (h : ∀ s e, (W (Proc.devRef .tc main_while0b_v82) : Vec Ideal S1024x50x16 .f32) (ix3 b s e) = (A.row g b).d2 (S b) s e) (s : Fin 50) :
    (after while0Ops0_5 W (Proc.devRef .tc main_while0b_v103) : Vec Ideal S1024x50 .f32) (ix2 b s) = (A.row g b).prob (S b) s := by
  unfold while0Ops0_5
  after_results
  pointwise
  simp only [H.r8, H.r9, h, K.n, one_sub_one_sub, Cert.Model.ofBits_bot, bot_le, max_eq_right]
  rfl
/-- Stretch 5 hands the trip's number on. -/
theorem st5_k (y : BitVec 32) (h : (W (Proc.devRef .tc main_while0b_v32) : Vec Ideal S_ .i32) ix0 = y) : (after while0Ops0_5 W (Proc.devRef .tc main_while0b_v104) : Vec Ideal S_ .i32) ix0 = y := by
  unfold while0Ops0_5
  after_results
  exact h
/-- Stretch 7's logarithm. -/
theorem st7 (b : Fin 1024) (s : Fin 50) (y : EReal) (h : (W (Proc.devRef .tc main_while0b_v103) : Vec Ideal S1024x50 .f32) (ix2 b s) = y) :
    (after while0Ops0_7 W (Proc.devRef .tc main_while0b_v108) : Vec Ideal S1024x50 .f32) (ix2 b s)
    = Ideal.log (y + Cert.Model.tiny) := by
  unfold while0Ops0_7
  after_results
  pointwise
  rw [h]
  rfl
/-- Stretch 9 adds the noise. -/
theorem st9 (b : Fin 1024) (s : Fin 50) (y z : EReal) (h : (W (Proc.devRef .tc main_while0b_v109) : Vec Ideal S1024x50 .f32) (ix2 b s) = y)
    (h' : (W (Proc.devRef .tc main_while0b_v108) : Vec Ideal S1024x50 .f32) (ix2 b s) = z) :
    (after while0Ops0_9 W (Proc.devRef .tc main_while0b_v110) : Vec Ideal S1024x50 .f32) (ix2 b s) = z + y := by
  unfold while0Ops0_9
  after_results
  pointwise
  rw [h, h']
  exact add_comm y z
/-- Stretch 10's arg-max. -/
theorem st10 (b : Fin 1024) (y : Fin 50 → EReal) (h : ∀ s, (W (Proc.devRef .tc main_while0b_v110) : Vec Ideal S1024x50 .f32) (ix2 b s) = y s) :
    (after while0Ops0_10 W (Proc.devRef .tc main_while0b_v111) : Vec Ideal S1024 .i32) (ix1 b) = BitVec.ofNat 32 (Cert.Model.pick y).val := by
  unfold while0Ops0_10
  after_results
  refine (argmax_row (W (Proc.devRef .tc main_while0b_v110)) b).trans ?_
  rw [show (fun s => (W (Proc.devRef .tc main_while0b_v110) : Vec Ideal S1024x50 .f32) (ix2 b s)) = y from funext h]
/-- Stretch 11's one-hot row. -/
theorem st11 (b : Fin 1024) (c s : Fin 50) (h : (W (Proc.devRef .tc main_while0b_v111) : Vec Ideal S1024 .i32) (ix1 b) = BitVec.ofNat 32 c.val) :
    (after while0Ops0_11 W (Proc.devRef .tc main_while0b_v112) : Vec Ideal S1024x50 .f32) (ix2 b s) = (if s = c then 1 else 0 : EReal) := by
  have e (x : Vec Ideal S1024 .i32) (hx : x (ix1 b) = BitVec.ofNat 32 c.val) : (uitofp FTy.f32
        (cmpi CmpIPredicate.eq
          (broadcastInDim S1024x50 ![0, 1] bcast_S1024x1_S1024x50_0_1 (broadcastInDim S1024x1 ![0] bcast_S1024_S1024x1_0 x))
          (broadcastInDim S1024x50 ![0, 1] bcast_S1x50_S1024x50_0_1 (iotaInDim S1x50 32 1))) : FVec Ideal S1024x50 .f32) (ix2 b s)
        = if s = c then (1 : EReal) else 0 := by
    pointwise
    rw [hx]
    by_cases hs : s = c
    · rw [if_pos hs, hs]; simp [IntOp.cmpi, FloatOps.uitofp]
    · rw [if_neg hs]
      have : (BitVec.ofNat 32 c.val == BitVec.ofNat 32 s.val) = false := beq_eq_false_iff_ne.2 <| by
        rw [ne_eq, Cert.Model.ofNat_inj (by omega) (by omega)]; exact fun e => hs (Fin.ext e.symm)
      simp [IntOp.cmpi, FloatOps.uitofp, this]
  unfold while0Ops0_11
  after_results
  exact e _ h
/-- Stretch 12's mask. -/
theorem st12_n (b : Fin 1024) (s : Fin 50) (y z : EReal) (h : (W (Proc.devRef .tc main_v27_16) : Vec Ideal S1024x50 .f32) (ix2 b s) = y)
    (h' : (W (Proc.devRef .tc main_while0b_v112) : Vec Ideal S1024x50 .f32) (ix2 b s) = z) :
    (after while0Ops0_12 W (Proc.devRef .tc main_while0b_v113) : Vec Ideal S1024x50 .f32) (ix2 b s) = y - z := by
  unfold while0Ops0_12
  after_results
  pointwise
  rw [h, h']
/-- Stretch 12's scores. -/
theorem st12_s (b : Fin 1024) (s : Fin 50) (hk : (W (Proc.devRef .tc main_while0b_v32) : Vec Ideal S_ .i32) ix0 = BitVec.ofNat 32 k.val)
    (y z : EReal) (h : (W (Proc.devRef .tc main_v27_18) : Vec Ideal S1024x50 .f32) (ix2 b s) = y)
    (h' : (W (Proc.devRef .tc main_while0b_v112) : Vec Ideal S1024x50 .f32) (ix2 b s) = z) :
    (after while0Ops0_12 W (Proc.devRef .tc main_while0b_v133) : Vec Ideal S1024x50 .f32) (ix2 b s)
      = y + z * (1 - Cert.Model.decay * (((k.val : ℕ) : ℝ) : EReal)) := by
  unfold while0Ops0_12
  after_results
  pointwise
  rw [hk, h, h']
  have e : (FloatOps.sitofp (F := Ideal) FTy.f32 (BitVec.ofNat 32 k.val) : EReal) = (((k.val : ℕ) : ℝ) : EReal) := by
    show (((BitVec.ofNat 32 k.val).toInt : ℝ) : EReal) = _
    rw [Cert.Model.toInt_small k.val (by omega)]
    rfl
  refine (congrArg (fun w : EReal => y + z * (1 - w * Cert.Model.decay)) e).trans ?_
  rw [mul_comm (((k.val : ℕ) : ℝ) : EReal)]
/-- An index that is not negative needs no wrap-around. -/
theorem wrap_small {n : ℕ} (h : n < 2 ^ 31) (w : BitVec 32) :
    Scalar.select (IntOp.cmpi CmpIPredicate.slt (BitVec.ofNat 32 n) 0#32) w (BitVec.ofNat 32 n) = BitVec.ofNat 32 n := by
  have : (BitVec.ofNat 32 n).slt 0#32 = false := by
    rw [Bool.eq_false_iff, ne_eq, BitVec.slt_iff_toInt_lt, BitVec.toInt_ofNat', Int.bmod_def]
    have : (0#32).toInt = 0 := by decide
    omega
  simp [IntOp.cmpi, Scalar.select, this]
/-- The normalised and clamped index of something below the bound is that something. -/
theorem clamp_small {n m : ℕ} (w : BitVec 32) (h : n ≤ m) (hm : m < 2 ^ 31) :
    min (BitVec.toInt (Scalar.select (IntOp.cmpi CmpIPredicate.slt (BitVec.ofNat 32 n) 0#32) w (BitVec.ofNat 32 n))).toNat m = n := by
  rw [wrap_small (by omega), BitVec.toInt_ofNat', Int.bmod_def]
  omega
/-- Stretch 12's next item. -/
theorem st12_x (H : Consts A W) (b : Fin 1024) (f : Fin 128) (c : Fin 50)
    (h : (W (Proc.devRef .tc main_while0b_v111) : Vec Ideal S1024 .i32) (ix1 b) = BitVec.ofNat 32 c.val) :
    (after while0Ops0_12 W (Proc.devRef .tc main_while0b_v127) : Vec Ideal S1024x128 .f32) (ix2 b f) = (A.row g b).item c f := by
  unfold while0Ops0_12
  after_results
  refine (gather_item _ _ b f).trans ?_
  pointwise
  refine (congrArg₂ (fun p q => (W (Proc.devRef .tc main_v27_12) : Vec Ideal S1024x50x128 .f32) (ix3 p q f)) (x := _) (x' := b) (y := _) (y' := c) (Fin.ext ?_) (Fin.ext ?_)).trans
    (congrFun H.r12 (ix3 b c f))
  · simp only [H.r11]; exact clamp_small _ (by omega) (by omega)
  · simp only [h]; exact clamp_small _ (by omega) (by omega)
/-- Stretch 12's chosen probability. -/
theorem st12_p (H : Consts A W) (b : Fin 1024) (c : Fin 50)
    (h : (W (Proc.devRef .tc main_while0b_v111) : Vec Ideal S1024 .i32) (ix1 b) = BitVec.ofNat 32 c.val) :
    (after while0Ops0_12 W (Proc.devRef .tc main_while0b_v147) : Vec Ideal S1024 .f32) (ix1 b)
      = (W (Proc.devRef .tc main_while0b_v103) : Vec Ideal S1024x50 .f32) (ix2 b c) := by
  unfold while0Ops0_12
  after_results
  refine (gather_prob _ _ b).trans ?_
  pointwise
  refine congrArg₂ (fun p q => (W (Proc.devRef .tc main_while0b_v103) : Vec Ideal S1024x50 .f32) (ix2 p q)) (x := _) (x' := b) (y := _) (y' := c) (Fin.ext ?_) (Fin.ext ?_)
  · simp only [H.r11]; exact clamp_small _ (by omega) (by omega)
  · simp only [h]; exact clamp_small _ (by omega) (by omega)
/-- Stretch 13's row of probabilities. -/
theorem st13 (K : Carried S k.val W) (i : Fin 50) (b : Fin 1024) (s : Fin 50) :
    (after while0Ops0_13 W (Proc.devRef .tc main_while0b_v148) : Vec Ideal S50x1024x50 .f32) (ix3 i b s)
      = if i = k then (W (Proc.devRef .tc main_while0b_v103) : Vec Ideal S1024x50 .f32) (ix2 b s)
        else (W (Proc.devRef .tc main_v27_19) : Vec Ideal S50x1024x50 .f32) (ix3 i b s) := by
  have hk := ctr_toInt K
  have eu (y : Vec Ideal S1024x50 .f32) : broadcastInDim S1x1024x50 ![1, 2] bcast_S1024x50_S1x1024x50_1_2 y (ix3 0 b s) = y (ix2 b s) := by pointwise
  unfold while0Ops0_13
  after_results
  refine (dus3 _ _ _ k ?_ ?_ ?_ updateFits_S50x1024x50_S1x1024x50 i b s).trans ?_
  · exact hk
  · rfl
  · rfl
  · by_cases hi : i = k
    · rw [if_pos hi, if_pos hi]; exact eu _
    · rw [if_neg hi, if_neg hi]; rfl
/-- Stretch 14's row of chosen probabilities. -/
theorem st14 (K : Carried S k.val W) (i : Fin 50) (b : Fin 1024) :
    (after while0Ops0_14 W (Proc.devRef .tc main_while0b_v149) : Vec Ideal S50x1024 .f32) (ix2 i b)
      = if i = k then (W (Proc.devRef .tc main_while0b_v147) : Vec Ideal S1024 .f32) (ix1 b)
        else (W (Proc.devRef .tc main_v27_20) : Vec Ideal S50x1024 .f32) (ix2 i b) := by
  have hk := ctr_toInt K
  have eu (y : Vec Ideal S1024 .f32) : broadcastInDim S1x1024 ![1] bcast_S1024_S1x1024_1 y (ix2 0 b) = y (ix1 b) := by pointwise
  unfold while0Ops0_14
  after_results
  refine (dus2 _ _ _ k ?_ ?_ updateFits_S50x1024_S1x1024 i b).trans ?_
  · exact hk
  · rfl
  · by_cases hi : i = k
    · rw [if_pos hi, if_pos hi]; exact eu _
    · rw [if_neg hi, if_neg hi]; rfl
/-- Stretch 15's row of chosen slots. -/
theorem st15 (K : Carried S k.val W) (i : Fin 50) (b : Fin 1024) :
    (after while0Ops0_15 W (Proc.devRef .tc main_while0b_v150) : Vec Ideal S50x1024 .i32) (ix2 i b)
      = if i = k then (W (Proc.devRef .tc main_while0b_v111) : Vec Ideal S1024 .i32) (ix1 b)
        else (W (Proc.devRef .tc main_v27_21) : Vec Ideal S50x1024 .i32) (ix2 i b) := by
  have hk := ctr_toInt K
  have eu (y : Vec Ideal S1024 .i32) : broadcastInDim S1x1024 ![1] bcast_S1024_S1x1024_1 y (ix2 0 b) = y (ix1 b) := by pointwise
  unfold while0Ops0_15
  after_results
  refine (dus2 _ _ _ k ?_ ?_ updateFits_S50x1024_S1x1024 i b).trans ?_
  · exact hk
  · rfl
  · by_cases hi : i = k
    · rw [if_pos hi, if_pos hi]; exact eu _
    · rw [if_neg hi, if_neg hi]; rfl
end Cert.ReferenceIdeal.Value
-- ==== Proof.RefTrip.lean ====
module
public import proofs.«01_k».proof.Proof.RefStep
@[expose] public section
set_option maxHeartbeats 1000000
noncomputable section
/-! One whole trip of the reference's loop: from the model's states before the step to the model's states after it. -/
namespace Cert.ReferenceIdeal.Value
open Cert.ReferenceIdeal.Gen Idealize.ShloMosaic Idealize.ShloMosaic.StableHlo
open Cert.Model (Row State Args)

/-- The trip's stretches, numbered. -/
abbrev opsAt : ℕ → List (HloOp τ sig (Elt Ideal))
  | 0 => while0Ops0 | 1 => while0Ops0_1 | 2 => while0Ops0_2 | 3 => while0Ops0_3 | 4 => while0Ops0_4 | 5 => while0Ops0_5
  | 6 => while0Ops0_6 | 7 => while0Ops0_7 | 8 => while0Ops0_8 | 9 => while0Ops0_9 | 10 => while0Ops0_10 | 11 => while0Ops0_11
  | 12 => while0Ops0_12 | 13 => while0Ops0_13 | 14 => while0Ops0_14 | 15 => while0Ops0_15 | _ => while0Ops0_16
/-- What each stretch writes. -/
abbrev writesAt : ℕ → List (Ref sig .tc)
  | 0 => while0Ops0_W | 1 => while0Ops0_1_W | 2 => while0Ops0_2_W | 3 => while0Ops0_3_W | 4 => while0Ops0_4_W | 5 => while0Ops0_5_W
  | 6 => while0Ops0_6_W | 7 => while0Ops0_7_W | 8 => while0Ops0_8_W | 9 => while0Ops0_9_W | 10 => while0Ops0_10_W | 11 => while0Ops0_11_W
  | 12 => while0Ops0_12_W | 13 => while0Ops0_13_W | 14 => while0Ops0_14_W | 15 => while0Ops0_15_W | _ => while0Ops0_16_W
/-- Each stretch writes only what is listed. -/
theorem opsAt_writes : ∀ j, (opsAt j).Forall fun op => op.writes ⊆ ((writesAt j).map (Proc.devRef (τ := τ) .tc)).toFinset
  | 0 => while0Ops0_writes | 1 => while0Ops0_1_writes | 2 => while0Ops0_2_writes | 3 => while0Ops0_3_writes | 4 => while0Ops0_4_writes
  | 5 => while0Ops0_5_writes | 6 => while0Ops0_6_writes | 7 => while0Ops0_7_writes | 8 => while0Ops0_8_writes | 9 => while0Ops0_9_writes
  | 10 => while0Ops0_10_writes | 11 => while0Ops0_11_writes | 12 => while0Ops0_12_writes | 13 => while0Ops0_13_writes
  | 14 => while0Ops0_14_writes | 15 => while0Ops0_15_writes | _ + 16 => while0Ops0_16_writes

/-- What the trip has computed after stretch `j`. -/
def T (V : Valuation τ sig (Elt Ideal)) : ℕ → Valuation τ sig (Elt Ideal)
  | 0 => after while0Ops0 (after condOps V)
  | j + 1 => after (opsAt (j + 1)) (T V j)

variable (V : Valuation τ sig (Elt Ideal))

/-- The trip is its stretches in turn. -/
theorem trip_eq : afterL bodyI (after condOps V) = T V 16 := rfl
/-- What the next stretches do not write stays. -/
theorem T_keeps {r : Ref sig .tc} (i : ℕ) : ∀ n, (∀ l < n, r ∉ writesAt (i + l + 1)) → T V (i + n) (Proc.devRef .tc r) = T V i (Proc.devRef .tc r)
  | 0, _ => rfl
  | n + 1, h => (after_of_writes_sub _ (T V (i + n)) (opsAt_writes (i + n + 1)) (h n (Nat.lt_succ_self n))).trans
      (T_keeps i n fun l hl => h l (Nat.lt_succ_of_lt hl))
/-- The carried references keep their contents until the last stretch. -/
theorem T_head (j : ℕ) (hj : j < 16) : ∀ r ∈ headRefs, T V j (Proc.devRef .tc r) = V (Proc.devRef .tc r) := by
  intro r hr
  have h0 : ∀ l < 15, ∀ r ∈ headRefs, r ∉ writesAt (0 + l + 1) := by decide +kernel
  have h1 : ∀ r ∈ headRefs, r ∉ while0Ops0_W ∧ r ∉ condOps_W := by decide +kernel
  have e := T_keeps V (r := r) 0 j fun l hl => h0 l (by omega) r hr
  rw [Nat.zero_add] at e
  refine e.trans ?_
  exact (after_of_writes_sub _ (after condOps V) while0Ops0_writes (h1 r hr).1).trans (after_of_writes_sub _ V condOps_writes (h1 r hr).2)

variable {A : Args} {g : Fin 50 → Fin 1024 → Fin 50 → EReal} {S : Fin 1024 → State} {k : Fin 50} {V : Valuation τ sig (Elt Ideal)}

section
variable (H : Consts A V) (K : Carried S k.val V)
include H K

/-- The constants after stretch `j`. -/
theorem cAt (j : ℕ) (hj : j < 16) : Consts A (T V j) := H.mono fun r hr => T_head V j hj r (List.mem_append_left _ hr)
/-- The carried values after stretch `j`. -/
theorem kAt (j : ℕ) (hj : j < 16) : Carried S k.val (T V j) := K.mono (T_head V j hj)
/-- The trip's number. -/
theorem v32_at : (T V 0 (Proc.devRef .tc main_while0b_v32) : Vec Ideal S_ .i32) ix0 = BitVec.ofNat 32 k.val := by
  have h1 : ∀ r ∈ headRefs, r ∉ condOps_W := by decide +kernel
  have h : ∀ r ∈ headRefs, after condOps V (Proc.devRef .tc r) = V (Proc.devRef .tc r) :=
    fun r hr => after_of_writes_sub _ V condOps_writes (h1 r hr)
  exact st0 (H.mono fun r hr => h r (List.mem_append_left _ hr)) (K.mono h)
/-- The probabilities. -/
theorem v103_at (b : Fin 1024) (s : Fin 50) :
    (T V 5 (Proc.devRef .tc main_while0b_v103) : Vec Ideal S1024x50 .f32) (ix2 b s) = (A.row g b).prob (S b) s :=
  st5 (cAt H K 4 (by omega)) (kAt H K 4 (by omega)) b (fun s e =>
    (st4 b s e _ (st3 (cAt H K 2 (by omega)) b s e _ fun i => st2 b s i _ (st1_d (g := g) (cAt H K 0 (by omega)) (kAt H K 0 (by omega)) b s i)))) s
/-- The chosen slot, given that the noise is the model's. -/
theorem v111_at (b : Fin 1024)
    (hn : ∀ s, (T V 8 (Proc.devRef .tc main_while0b_v109) : Vec Ideal S1024x50 .f32) (ix2 b s) = g k b s) :
    (T V 10 (Proc.devRef .tc main_while0b_v111) : Vec Ideal S1024 .i32) (ix1 b) = BitVec.ofNat 32 ((A.row g b).choice (S b) k).val :=
  st10 b ((A.row g b).noisy (S b) k) fun s => st9 b s _ _ (hn s)
    ((congrFun (T_keeps V (r := main_while0b_v108) 7 1 (by decide +kernel)) (ix2 b s)).trans
      (st7 b s _ ((congrFun (T_keeps V (r := main_while0b_v103) 5 1 (by decide +kernel)) (ix2 b s)).trans (v103_at H K b s))))
/-- The chosen slot's one-hot row. -/
theorem v112_at (b : Fin 1024) (s : Fin 50)
    (hn : ∀ s, (T V 8 (Proc.devRef .tc main_while0b_v109) : Vec Ideal S1024x50 .f32) (ix2 b s) = g k b s) :
    (T V 11 (Proc.devRef .tc main_while0b_v112) : Vec Ideal S1024x50 .f32) (ix2 b s)
      = (if s = (A.row g b).choice (S b) k then 1 else 0 : EReal) :=
  st11 b _ s (v111_at H K b hn)
/-- The chosen slot, still there after stretch 11. -/
theorem v111_at' (b : Fin 1024)
    (hn : ∀ s, (T V 8 (Proc.devRef .tc main_while0b_v109) : Vec Ideal S1024x50 .f32) (ix2 b s) = g k b s) :
    (T V 11 (Proc.devRef .tc main_while0b_v111) : Vec Ideal S1024 .i32) (ix1 b) = BitVec.ofNat 32 ((A.row g b).choice (S b) k).val :=
  (congrFun (T_keeps V (r := main_while0b_v111) 10 1 (by decide +kernel)) (ix1 b)).trans (v111_at H K b hn)
/-- The chosen probability. -/
theorem v147_at (b : Fin 1024)
    (hn : ∀ s, (T V 8 (Proc.devRef .tc main_while0b_v109) : Vec Ideal S1024x50 .f32) (ix2 b s) = g k b s) :
    (T V 12 (Proc.devRef .tc main_while0b_v147) : Vec Ideal S1024 .f32) (ix1 b)
      = (A.row g b).prob (S b) ((A.row g b).choice (S b) k) :=
  (st12_p (cAt H K 11 (by omega)) b _ (v111_at' H K b hn)).trans
    ((congrFun (T_keeps V (r := main_while0b_v103) 5 6 (by decide +kernel)) (ix2 b _)).trans (v103_at H K b _))
end

/-- The rows of the result stacks that are filled before trip `k` hold the model's values. -/
structure Filled (A : Args) (g : Fin 50 → Fin 1024 → Fin 50 → EReal) (k : ℕ) (W : Valuation τ sig (Elt Ideal)) : Prop where
  p : ∀ i : Fin 50, i.val < k → ∀ b s, (W (Proc.devRef .tc main_v27_19) : Vec Ideal S50x1024x50 .f32) (ix3 i b s)
    = (A.row g b).prob ((A.row g b).at_ i.val) s
  q : ∀ i : Fin 50, i.val < k → ∀ b, (W (Proc.devRef .tc main_v27_20) : Vec Ideal S50x1024 .f32) (ix2 i b)
    = (A.row g b).prob ((A.row g b).at_ i.val) ((A.row g b).choice ((A.row g b).at_ i.val) i)
  c : ∀ i : Fin 50, i.val < k → ∀ b, (W (Proc.devRef .tc main_v27_21) : Vec Ideal S50x1024 .i32) (ix2 i b)
    = BitVec.ofNat 32 ((A.row g b).choice ((A.row g b).at_ i.val) i).val

/-- The last stretch hands the computed values to the carried references and counts the trip. -/
theorem st16 (W : Valuation τ sig (Elt Ideal)) :
    (after while0Ops0_16 W (Proc.devRef .tc main_v27_13) : Vec Ideal S_ .i32)
        = addi (W (Proc.devRef .tc main_v27_13) : Vec Ideal S_ .i32) (constantI S_ 32 1#32 : Vec Ideal S_ .i32)
    ∧ (after while0Ops0_16 W (Proc.devRef .tc main_v27_14) : Vec Ideal S1024x32 .f32) = W (Proc.devRef .tc main_while0b_v59)
    ∧ (after while0Ops0_16 W (Proc.devRef .tc main_v27_15) : Vec Ideal S1024x32 .f32) = W (Proc.devRef .tc main_while0b_v67)
    ∧ (after while0Ops0_16 W (Proc.devRef .tc main_v27_16) : Vec Ideal S1024x50 .f32) = W (Proc.devRef .tc main_while0b_v113)
    ∧ (after while0Ops0_16 W (Proc.devRef .tc main_v27_17) : Vec Ideal S1024x128 .f32) = W (Proc.devRef .tc main_while0b_v127)
    ∧ (after while0Ops0_16 W (Proc.devRef .tc main_v27_18) : Vec Ideal S1024x50 .f32) = W (Proc.devRef .tc main_while0b_v133)
    ∧ (after while0Ops0_16 W (Proc.devRef .tc main_v27_19) : Vec Ideal S50x1024x50 .f32) = W (Proc.devRef .tc main_while0b_v148)
    ∧ (after while0Ops0_16 W (Proc.devRef .tc main_v27_20) : Vec Ideal S50x1024 .f32) = W (Proc.devRef .tc main_while0b_v149)
    ∧ (after while0Ops0_16 W (Proc.devRef .tc main_v27_21) : Vec Ideal S50x1024 .i32) = W (Proc.devRef .tc main_while0b_v150) := by
  unfold while0Ops0_16
  refine ⟨?_, ?_, ?_, ?_, ?_, ?_, ?_, ?_, ?_⟩ <;> (after_results; rfl)

/-- Choosing a slot takes one off its mask. -/
theorem mask_step (n : ℕ) (p : Prop) [Decidable p] :
    ((1 - ((n : ℝ) : EReal)) - (if p then 1 else 0) : EReal) = 1 - (((n + if p then 1 else 0 : ℕ) : ℝ) : EReal) := by
  by_cases h : p
  · rw [if_pos h, if_pos h, ← EReal.coe_one, ← EReal.coe_sub, ← EReal.coe_sub, ← EReal.coe_sub]
    exact EReal.coe_eq_coe_iff.2 (by push_cast; ring)
  · rw [if_neg h, if_neg h, sub_zero, Nat.add_zero]

/-- A trip keeps the constants. -/
theorem trip_consts (H : Consts A V) : Consts A (T V 16) := by
  have h : ∀ r ∈ constRefs, r ∉ while0Ops0_16_W := by decide +kernel
  exact H.mono fun r hr => (after_of_writes_sub _ (T V 15) while0Ops0_16_writes (h r hr)).trans (T_head V 15 (by omega) r (List.mem_append_left _ hr))

section
variable (hn : ∀ b s, (T V 8 (Proc.devRef .tc main_while0b_v109) : Vec Ideal S1024x50 .f32) (ix2 b s) = g k b s)
include hn

/-- A trip takes the states before a step to the states after it. -/
theorem trip_carried (H : Consts A V) (K : Carried (fun b => (A.row g b).at_ k.val) k.val V) :
    Carried (fun b => (A.row g b).at_ (k.val + 1)) (k.val + 1) (T V 16) := by
  obtain ⟨e13, e14, e15, e16, e17, e18, -⟩ := st16 (T V 15)
  have K15 := kAt H K 15 (by omega)
  have K11 := kAt H K 11 (by omega)
  simp only [Row.at_succ]
  refine ⟨?_, fun b i => ?_, fun b i => ?_, fun b s => ?_, fun b f => ?_, fun b s => ?_⟩
  · refine (congrFun e13 ix0).trans ?_
    show IntOp.addi ((T V 15 (Proc.devRef .tc main_v27_13) : Vec Ideal S_ .i32) ix0) 1#32 = _
    rw [K15.ctr]
    exact (BitVec.ofNat_add k.val 1).symm
  · exact (congrFun e14 _).trans ((congrFun (T_keeps V (r := main_while0b_v59) 1 14 (by decide +kernel)) _).trans
      (st1_c (cAt H K 0 (by omega)) (kAt H K 0 (by omega)) b i))
  · exact (congrFun e15 _).trans ((congrFun (T_keeps V (r := main_while0b_v67) 1 14 (by decide +kernel)) _).trans
      (st1_h (cAt H K 0 (by omega)) (kAt H K 0 (by omega)) b i))
  · exact (congrFun e16 _).trans ((congrFun (T_keeps V (r := main_while0b_v113) 12 3 (by decide +kernel)) _).trans
      ((st12_n b s _ _ (K11.n b s) (v112_at H K b s (hn b))).trans (mask_step _ _)))
  · exact (congrFun e17 _).trans ((congrFun (T_keeps V (r := main_while0b_v127) 12 3 (by decide +kernel)) _).trans
      (st12_x (g := g) (cAt H K 11 (by omega)) b f _ (v111_at' H K b (hn b))))
  · exact (congrFun e18 _).trans ((congrFun (T_keeps V (r := main_while0b_v133) 12 3 (by decide +kernel)) _).trans
      (st12_s b s ((congrFun (T_keeps V (r := main_while0b_v32) 0 11 (by decide +kernel)) _).trans (v32_at H K)) _ _
        (K11.sc b s) (v112_at H K b s (hn b))))
/-- A trip fills one more row of each stack. -/
theorem trip_filled (H : Consts A V) (K : Carried (fun b => (A.row g b).at_ k.val) k.val V) (L : Filled A g k.val V) :
    Filled A g (k.val + 1) (T V 16) := by
  obtain ⟨-, -, -, -, -, -, e19, e20, e21⟩ := st16 (T V 15)
  refine ⟨fun i hi b s => ?_, fun i hi b => ?_, fun i hi b => ?_⟩
  · refine (congrFun e19 _).trans ((congrFun (T_keeps V (r := main_while0b_v148) 13 2 (by decide +kernel)) _).trans
      ((st13 (kAt H K 12 (by omega)) i b s).trans ?_))
    by_cases h : i = k
    · subst h
      rw [if_pos rfl]
      exact (congrFun (T_keeps V (r := main_while0b_v103) 5 7 (by decide +kernel)) _).trans (v103_at H K b s)
    · rw [if_neg h]
      exact (congrFun (T_head V 12 (by omega) main_v27_19 (by simp)) _).trans
        (L.p i (by have := fun e => h (Fin.ext e); omega) b s)
  · refine (congrFun e20 _).trans ((congrFun (T_keeps V (r := main_while0b_v149) 14 1 (by decide +kernel)) _).trans
      ((st14 (kAt H K 13 (by omega)) i b).trans ?_))
    by_cases h : i = k
    · subst h
      rw [if_pos rfl]
      exact (congrFun (T_keeps V (r := main_while0b_v147) 12 1 (by decide +kernel)) _).trans (v147_at H K b (hn b))
    · rw [if_neg h]
      exact (congrFun (T_head V 13 (by omega) main_v27_20 (by simp)) _).trans
        (L.q i (by have := fun e => h (Fin.ext e); omega) b)
  · refine (congrFun e21 _).trans ((st15 (kAt H K 14 (by omega)) i b).trans ?_)
    by_cases h : i = k
    · subst h
      rw [if_pos rfl]
      exact (congrFun (T_keeps V (r := main_while0b_v111) 10 4 (by decide +kernel)) _).trans (v111_at H K b (hn b))
    · rw [if_neg h]
      exact (congrFun (T_head V 14 (by omega) main_v27_21 (by simp)) _).trans
        (L.c i (by have := fun e => h (Fin.ext e); omega) b)
end
end Cert.ReferenceIdeal.Value
-- ==== Proof.RefRun.lean ====
module
public import proofs.«01_k».proof.Proof.RefTrip
@[expose] public section
set_option maxHeartbeats 1000000
noncomputable section
/-! The reference's whole run: what the loop is entered with, the loop's invariant, and the four results as the model's values. -/
namespace Cert.ReferenceIdeal.Value
open Cert.ReferenceIdeal.Gen Idealize.ShloMosaic Idealize.ShloMosaic.TcCoe Idealize.ShloMosaic.StableHlo
open Cert.Model (Row State Args)

variable (m : (ℓ : Loc nD τ sig) → Buf (Elt Ideal) ℓ) (c : Dev nD)

/-- The reference's arguments. -/
def args : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
/-- The noise that trip `k` of the reference adds to the logarithms. -/
def noise (k : Fin 50) (b : Fin 1024) (s : Fin 50) : EReal :=
  (T (atK m k.val c) 8 (Proc.devRef .tc main_while0b_v109) : Vec Ideal S1024x50 .f32) (ix2 b s)

/-- What the encoder's stretches leave. -/
abbrev E : Valuation τ sig (Elt Ideal) :=
  after hostOps0_3 (after hostOps0_2 (after hostOps0_1 (after hostOps0 (fun b => m (c, b)))))
/-- The loop's entry. -/
theorem entry_eq : entryContents preI m c = after hostOps0_4 (E m c) := rfl
/-- The encoder's stretches leave the arguments alone. -/
theorem E_keeps {r : Ref sig .tc} (h0 : r ∉ hostOps0_W) (h1 : r ∉ hostOps0_1_W) (h2 : r ∉ hostOps0_2_W) (h3 : r ∉ hostOps0_3_W) :
    E m c (Proc.devRef .tc r) = m ((c.tc : Thread nD τ).loc r) :=
  (after_of_writes_sub _ _ hostOps0_3_writes h3).trans ((after_of_writes_sub _ _ hostOps0_2_writes h2).trans
    ((after_of_writes_sub _ _ hostOps0_1_writes h1).trans (after_of_writes_sub _ _ hostOps0_writes h0)))

section
variable {W : Valuation τ sig (Elt Ideal)}
/-- The encoder's first layer before its nonlinearity. -/
theorem enc_0 (b : Fin 1024) (s : Fin 50) (i : Fin 32) :
    (after hostOps0 (fun b => m (c, b)) (Proc.devRef .tc main_v3) : Vec Ideal S1024x50x32 .f32) (ix3 b s i)
      = ∑ f, (args m c).a0 (ix3 b s f) * (args m c).a1 (ix2 f i) + (args m c).a2 (ix1 i) := by
  unfold hostOps0
  after_results
  pointwise
  rfl
/-- The first nonlinearity. -/
theorem enc_1 (b : Fin 1024) (s : Fin 50) (i : Fin 32) (y : EReal)
    (h : (W (Proc.devRef .tc main_v3) : Vec Ideal S1024x50x32 .f32) (ix3 b s i) = y) :
    (after hostOps0_1 W (Proc.devRef .tc main_v4) : Vec Ideal S1024x50x32 .f32) (ix3 b s i) = max y 0 := by
  have e (x : Vec Ideal S1024x50x32 .f32) : (maximumf x (broadcastInDim S1024x50x32 ![] bcast_S_S1024x50x32 (constant S_ FTy.f32 0#32))
      : FVec Ideal S1024x50x32 .f32) (ix3 b s i) = max (x (ix3 b s i)) 0 := by pointwise
  unfold hostOps0_1
  after_results
  exact (e _).trans (congrArg (max · 0) h)
/-- The encoder's second layer before its nonlinearity. -/
theorem enc_2 (b : Fin 1024) (s : Fin 50) (e : Fin 16) (y : Fin 32 → EReal) (a3 : Vec Ideal S32x16 .f32) (a4 : Vec Ideal S16 .f32)
    (h : ∀ i, (W (Proc.devRef .tc main_v4) : Vec Ideal S1024x50x32 .f32) (ix3 b s i) = y i)
    (h3 : W (Proc.devRef .tc main_arg3) = a3) (h4 : W (Proc.devRef .tc main_arg4) = a4) :
    (after hostOps0_2 W (Proc.devRef .tc main_v8) : Vec Ideal S1024x50x16 .f32) (ix3 b s e)
      = ∑ i, y i * a3 (ix2 i e) + a4 (ix1 e) := by
  unfold hostOps0_2
  after_results
  pointwise
  simp only [h, h3, h4]
/-- The second nonlinearity. -/
theorem enc_3 (b : Fin 1024) (s : Fin 50) (i : Fin 16) (y : EReal)
    (h : (W (Proc.devRef .tc main_v8) : Vec Ideal S1024x50x16 .f32) (ix3 b s i) = y) :
    (after hostOps0_3 W (Proc.devRef .tc main_v9) : Vec Ideal S1024x50x16 .f32) (ix3 b s i) = max y 0 := by
  have e (x : Vec Ideal S1024x50x16 .f32) : (maximumf x (broadcastInDim S1024x50x16 ![] bcast_S_S1024x50x16 (constant S_ FTy.f32 0#32))
      : FVec Ideal S1024x50x16 .f32) (ix3 b s i) = max (x (ix3 b s i)) 0 := by pointwise
  unfold hostOps0_3
  after_results
  exact (e _).trans (congrArg (max · 0) h)
/-- The encoded items. -/
theorem enc_at (b : Fin 1024) (s : Fin 50) (e : Fin 16) :
    (E m c (Proc.devRef .tc main_v9) : Vec Ideal S1024x50x16 .f32) (ix3 b s e) = (args m c).enc2 b s e :=
  enc_3 b s e _ (enc_2 b s e _ (args m c).a3 (args m c).a4 (fun i => enc_1 b s i _ (enc_0 m c b s i))
    ((after_of_writes_sub _ _ hostOps0_1_writes (by decide +kernel)).trans (after_of_writes_sub _ _ hostOps0_writes (by decide +kernel)))
    ((after_of_writes_sub _ _ hostOps0_1_writes (by decide +kernel)).trans (after_of_writes_sub _ _ hostOps0_writes (by decide +kernel))))

/-- The last stretch before the loop hands the arguments on. -/
theorem hand_on (W : Valuation τ sig (Elt Ideal)) :
    (after hostOps0_4 W (Proc.devRef .tc main_v27_1) : Vec Ideal S160x128 .f32) = W (Proc.devRef .tc main_arg5)
    ∧ (after hostOps0_4 W (Proc.devRef .tc main_v27_2) : Vec Ideal S128 .f32) = W (Proc.devRef .tc main_arg6)
    ∧ (after hostOps0_4 W (Proc.devRef .tc main_v27_3) : Vec Ideal S1024x50x16 .f32) = W (Proc.devRef .tc main_v9)
    ∧ (after hostOps0_4 W (Proc.devRef .tc main_v27_4) : Vec Ideal S48x32 .f32) = W (Proc.devRef .tc main_arg7)
    ∧ (after hostOps0_4 W (Proc.devRef .tc main_v27_5) : Vec Ideal S32 .f32) = W (Proc.devRef .tc main_arg8)
    ∧ (after hostOps0_4 W (Proc.devRef .tc main_v27_6) : Vec Ideal S32x16 .f32) = W (Proc.devRef .tc main_arg9)
    ∧ (after hostOps0_4 W (Proc.devRef .tc main_v27_7) : Vec Ideal S16 .f32) = W (Proc.devRef .tc main_arg10)
    ∧ (after hostOps0_4 W (Proc.devRef .tc main_v27_8) : Vec Ideal S16x1 .f32) = W (Proc.devRef .tc main_arg11)
    ∧ (after hostOps0_4 W (Proc.devRef .tc main_v27_9) : Vec Ideal S1 .f32) = W (Proc.devRef .tc main_arg12)
    ∧ (after hostOps0_4 W (Proc.devRef .tc main_v27_12) : Vec Ideal S1024x50x128 .f32) = W (Proc.devRef .tc main_arg0) := by
  unfold hostOps0_4
  refine ⟨?_, ?_, ?_, ?_, ?_, ?_, ?_, ?_, ?_, ?_⟩ <;> (after_results; rfl)
end

/-- The loop is entered with the constants in place. -/
theorem consts_entry : Consts (args m c) (entryContents preI m c) := by
  rw [entry_eq]
  obtain ⟨h1, h2, h3, h4, h5, h6, h7, h8, h9, h12⟩ := hand_on (E m c)
  refine ⟨fun s => ?_, h1.trans ?_, h2.trans ?_, fun b s e => (congrFun h3 _).trans (enc_at m c b s e), h4.trans ?_, h5.trans ?_, h6.trans ?_,
    h7.trans ?_, h8.trans ?_, h9.trans ?_, fun i => ?_, fun b => ?_, h12.trans ?_⟩
  all_goals first | exact E_keeps m c (by decide +kernel) (by decide +kernel) (by decide +kernel) (by decide +kernel) | skip
  all_goals
    unfold hostOps0_4
    after_results
  · rfl
  · show concatenate S2 0 [⟨S1, broadcastInDim S1 ![] bcast_S_S1 (Host.shrui (constantI S_ 32 42#32) (constantI S_ 32 32#32))⟩,
      ⟨S1, broadcastInDim S1 ![] bcast_S_S1 (andi (constantI S_ 32 42#32) (constantI S_ 32 4294967295#32))⟩] concatenates_S1_S1_S2_d0 (ix1 i) = _
    fin_cases i <;> pointwise <;> decide
  · rfl
/-- The loop is entered with the initial states. -/
theorem carried_entry : Carried (fun b => ((args m c).row (noise m c) b).at_ 0) 0 (entryContents preI m c) := by
  rw [entry_eq]
  refine ⟨?_, fun b i => ?_, fun b i => ?_, fun b s => ?_, fun b f => ?_, fun b s => ?_⟩
  all_goals
    unfold hostOps0_4
    after_results
    simp only [id]
    pointwise
  · rfl
  · rfl
  · show (1 : EReal) = 1 - (((0 : ℕ) : ℝ) : EReal)
    rw [Nat.cast_zero, EReal.coe_zero, sub_zero]
  · rfl
  · rfl
/-- Before every trip the loop carries the model's states, and the filled rows hold the model's values. -/
theorem inv : ∀ k, k ≤ 50 → Consts (args m c) (atK m k c)
    ∧ Carried (fun b => ((args m c).row (noise m c) b).at_ k) k (atK m k c) ∧ Filled (args m c) (noise m c) k (atK m k c)
  | 0, _ => ⟨consts_entry m c, carried_entry m c, fun _ h => absurd h (Nat.not_lt_zero _), fun _ h => absurd h (Nat.not_lt_zero _),
      fun _ h => absurd h (Nat.not_lt_zero _)⟩
  | k + 1, h => by
      obtain ⟨H, K, L⟩ := inv k (by omega)
      have e : atK m (k + 1) c = T (atK m k c) 16 := rfl
      rw [e]
      exact ⟨trip_consts H, trip_carried (k := ⟨k, h⟩) (fun _ _ => rfl) H K, trip_filled (k := ⟨k, h⟩) (fun _ _ => rfl) H K L⟩

/-- The four results. -/
theorem results (V : Valuation τ sig (Elt Ideal)) :
    (after hostOps0_5 V (Proc.devRef .tc main_v28) : Vec Ideal S1024x50x50 .f32)
        = transpose S1024x50x50 [1, 0, 2] (V (Proc.devRef .tc main_v27_19) : Vec Ideal S50x1024x50 .f32) transposes_S50x1024x50_S1024x50x50_1_0_2
    ∧ (after hostOps0_5 V (Proc.devRef .tc main_v29) : Vec Ideal S1024x50 .f32)
        = transpose S1024x50 [1, 0] (V (Proc.devRef .tc main_v27_20) : Vec Ideal S50x1024 .f32) transposes_S50x1024_S1024x50_1_0
    ∧ (after hostOps0_5 V (Proc.devRef .tc main_v30) : Vec Ideal S1024x50 .i32)
        = transpose S1024x50 [1, 0] (V (Proc.devRef .tc main_v27_21) : Vec Ideal S50x1024 .i32) transposes_S50x1024_S1024x50_1_0
    ∧ (after hostOps0_5 V (Proc.devRef .tc main_v31) : Vec Ideal S51200x1 .f32)
        = shapeCast S51200x1 (V (Proc.devRef .tc main_v27_18) : Vec Ideal S1024x50 .f32) shapeCasts_S1024x50_S51200x1 := by
  unfold hostOps0_5
  refine ⟨?_, ?_, ?_, ?_⟩ <;> after_results <;> rfl

/-- The probabilities of every step, by batch row. -/
def out0 (P : Fin 1024 → Row) : Vec Ideal S1024x50x50 .f32 := fun y => (P (y 0)).prob ((P (y 0)).at_ (y 1).val) (y 2)
/-- The chosen slot's probability at every step, by batch row. -/
def out1 (P : Fin 1024 → Row) : Vec Ideal S1024x50 .f32 :=
  fun y => (P (y 0)).prob ((P (y 0)).at_ (y 1).val) ((P (y 0)).choice ((P (y 0)).at_ (y 1).val) (y 1))
/-- The slot chosen at every step, by batch row. -/
def out2 (P : Fin 1024 → Row) : Vec Ideal S1024x50 .i32 :=
  fun y => BitVec.ofNat 32 ((P (y 0)).choice ((P (y 0)).at_ (y 1).val) (y 1)).val
/-- The final scores, one row for each batch row and slot. -/
def out3 (P : Fin 1024 → Row) : Vec Ideal S51200x1 .f32 :=
  shapeCast S51200x1 (fun y => ((P (y 0)).at_ 50).sc (y 1) : Vec Ideal S1024x50 .f32) shapeCasts_S1024x50_S51200x1

/-- The reference ends with the model's values in its four results. -/
theorem final_eq : (finalContents condOps preI bodyI postI 50 m c (Proc.devRef .tc main_v28) : Vec Ideal S1024x50x50 .f32)
      = out0 ((args m c).row (noise m c))
    ∧ (finalContents condOps preI bodyI postI 50 m c (Proc.devRef .tc main_v29) : Vec Ideal S1024x50 .f32) = out1 ((args m c).row (noise m c))
    ∧ (finalContents condOps preI bodyI postI 50 m c (Proc.devRef .tc main_v30) : Vec Ideal S1024x50 .i32) = out2 ((args m c).row (noise m c))
    ∧ (finalContents condOps preI bodyI postI 50 m c (Proc.devRef .tc main_v31) : Vec Ideal S51200x1 .f32) = out3 ((args m c).row (noise m c)) := by
  obtain ⟨h0, h1, h2, h3⟩ := results (after condOps (atK m 50 c))
  obtain ⟨-, K, L⟩ := inv m c 50 le_rfl
  have k {r : Ref sig .tc} (h : r ∉ condOps_W) : after condOps (atK m 50 c) (Proc.devRef .tc r) = atK m 50 c (Proc.devRef .tc r) :=
    after_of_writes_sub _ _ condOps_writes h
  refine ⟨Eq.trans h0 ?_, Eq.trans h1 ?_, Eq.trans h2 ?_, Eq.trans h3 ?_⟩
  · rw [k (r := main_v27_19) (by decide +kernel)]
    funext y
    obtain ⟨b, i, s, rfl⟩ : ∃ b i s, y = ix3 b i s := ⟨y 0, y 1, y 2, ValueIdx.eq_ix3 y⟩
    refine Eq.trans ?_ (L.p i i.isLt b s)
    pointwise
  · rw [k (r := main_v27_20) (by decide +kernel)]
    funext y
    obtain ⟨b, i, rfl⟩ : ∃ b i, y = ix2 b i := ⟨y 0, y 1, ValueIdx.eq_ix2 y⟩
    refine Eq.trans ?_ (L.q i i.isLt b)
    pointwise
  · rw [k (r := main_v27_21) (by decide +kernel)]
    funext y
    obtain ⟨b, i, rfl⟩ : ∃ b i, y = ix2 b i := ⟨y 0, y 1, ValueIdx.eq_ix2 y⟩
    refine Eq.trans ?_ (L.c i i.isLt b)
    pointwise
  · rw [k (r := main_v27_18) (by decide +kernel)]
    refine congrArg (fun z => shapeCast S51200x1 z shapeCasts_S1024x50_S51200x1) ?_
    funext y
    obtain ⟨b, i, rfl⟩ : ∃ b i, y = ix2 b i := ⟨y 0, y 1, ValueIdx.eq_ix2 y⟩
    exact K.sc b i
end Cert.ReferenceIdeal.Value
-- ==== Proof.Threefry.lean ====
module
public import Idealize.ShloMosaic.Lib.Pointwise
public import Idealize.ShloMosaic.Lib.StableHlo.RunRead
@[expose] public section
noncomputable section
/-! The counter-based generator on words: twenty rounds in five groups, each group ending with a key addition. Both programs compute
    it, over arrays of different shapes; here it is on one pair of words. -/
namespace Cert.Threefry
open Idealize.ShloMosaic Idealize.ShloMosaic.StableHlo

/-- One round: the first word takes up the second, and the second, rotated by `r`, is mixed with the sum. -/
def round (r r' : BitVec 32) (p : BitVec 32 × BitVec 32) : BitVec 32 × BitVec 32 :=
  (IntOp.addi p.1 p.2,
    IntOp.xori (IntOp.addi p.1 p.2) (IntOp.ori (IntOp.shli ArithUnit.host p.2 r) (IntOp.shrui ArithUnit.host p.2 r')))
/-- Adding two keys and the group's number. -/
def inject (a b n : BitVec 32) (p : BitVec 32 × BitVec 32) : BitVec 32 × BitVec 32 :=
  (IntOp.addi p.1 a, IntOp.addi (IntOp.addi p.2 b) n)
/-- The four rounds of an even group. -/
def evens (p : BitVec 32 × BitVec 32) : BitVec 32 × BitVec 32 := round 6#32 26#32 (round 26#32 6#32 (round 15#32 17#32 (round 13#32 19#32 p)))
/-- The four rounds of an odd group. -/
def odds (p : BitVec 32 × BitVec 32) : BitVec 32 × BitVec 32 := round 24#32 8#32 (round 16#32 16#32 (round 29#32 3#32 (round 17#32 15#32 p)))

/-- The key schedule's third word. -/
def third (k0 k1 : BitVec 32) : BitVec 32 := IntOp.xori (IntOp.xori k0 k1) 466688986#32
/-- Group `j` under the three keys. -/
def group (k0 k1 k2 : BitVec 32) : Fin 5 → BitVec 32 × BitVec 32 → BitVec 32 × BitVec 32
  | 0, p => inject k1 k2 1#32 (evens p)
  | 1, p => inject k2 k0 2#32 (odds p)
  | 2, p => inject k0 k1 3#32 (evens p)
  | 3, p => inject k1 k2 4#32 (odds p)
  | 4, p => inject k2 k0 5#32 (evens p)
/-- The pair before group `j`, from the pair before the first. -/
def upTo (k0 k1 k2 : BitVec 32) (p : BitVec 32 × BitVec 32) : Nat → BitVec 32 × BitVec 32
  | 0 => p
  | j + 1 => if h : j < 5 then group k0 k1 k2 ⟨j, h⟩ (upTo k0 k1 k2 p j) else upTo k0 k1 k2 p j
/-- The whole generator on the counter `(a, b)`. -/
def gen (k0 k1 a b : BitVec 32) : BitVec 32 × BitVec 32 :=
  upTo k0 k1 (third k0 k1) (IntOp.addi a k0, IntOp.addi b k1) 5

/-- The two words step `k`'s key is: the generator under the key `(0, 42)` on the step's number. -/
def stepKey (k : BitVec 32) : BitVec 32 × BitVec 32 :=
  gen 0#32 42#32 (IntOp.shrui ArithUnit.host k 32#32) (IntOp.andi k 4294967295#32)
/-- An element's number in a step's array, as a 64-bit count. -/
def count (b : Fin 1024) (s : Fin 50) : BitVec 64 :=
  IntOp.addi (IntOp.muli 50#64 (BitVec.ofNat 64 b.val)) (IntOp.muli 1#64 (BitVec.ofNat 64 s.val))
/-- The two random words of element `(b, s)` under the key `(u, v)`. -/
def words (u v : BitVec 32) (b : Fin 1024) (s : Fin 50) : BitVec 32 × BitVec 32 :=
  gen u v ((IntOp.shrui ArithUnit.host (count b s) 32#64).setWidth 32) ((count b s).setWidth 32)
/-- Gumbel noise from two random words: a uniform number between `t` and `o`, and minus the logarithm of minus its logarithm. -/
def gumbel (o t : EReal) (p : BitVec 32 × BitVec 32) : EReal :=
  -Ideal.log (-Ideal.log (max t ((Ideal.ofBits FTy.f32 (IntOp.ori (IntOp.shrui ArithUnit.host (IntOp.xori p.1 p.2) 9#32) 1065353216#32) - 1)
    * (o - t) + t)))
/-- The uniform number's lower end, the smallest normal single-precision number. -/
def tiny : EReal := Ideal.ofBits FTy.f32 8388608#32
/-- The noise of step `k` at element `(b, s)`. -/
def noise (k : BitVec 32) (b : Fin 1024) (s : Fin 50) : EReal := gumbel 1 tiny (words (stepKey k).1 (stepKey k).2 b s)

variable {τ : Topo} {sig : RefSig}
/-- An array's value in a valuation. -/
abbrev val {s : Shape} {e : EltTy} (W : Valuation τ sig (Elt Ideal)) (x : TRef sig ⟨s, e⟩) : Vec Ideal s e := x.ofBuf (W (Proc.devRef .tc x.ref))
/-- The three keys at index `ik` and the pair of words at index `i`. -/
def At {sk s : Shape} (k0 k1 k2 : TRef sig ⟨sk, .i32⟩) (ik : sk.Idx) (i : s.Idx) (x0 x1 : TRef sig ⟨s, .i32⟩)
    (u v w : BitVec 32) (p : BitVec 32 × BitVec 32) (W : Valuation τ sig (Elt Ideal)) : Prop :=
  (val W k0 ik = u ∧ val W k1 ik = v ∧ val W k2 ik = w) ∧ val W x0 i = p.1 ∧ val W x1 i = p.2
/-- The uniform number's two ends. -/
def Ends {sc : Shape} (t o : TRef sig ⟨sc, .f32⟩) (ic : sc.Idx) (W : Valuation τ sig (Elt Ideal)) : Prop :=
  val W t ic = tiny ∧ val W o ic = (1 : EReal)

/-- Group `j`'s stretch of a list whose first group begins at operation `n`. -/
def block (l : List (HloOp τ sig (Elt Ideal))) (n : Nat) (j : Fin 5) : List (HloOp τ sig (Elt Ideal)) := (l.drop (n + 43 * j.val)).take 43
/-- The valuation after a list is that after what follows the five groups, from the valuation after them. -/
theorem after_five (l : List (HloOp τ sig (Elt Ideal))) (n : Nat) (W : Valuation τ sig (Elt Ideal)) :
    after l W = after (l.drop (n + 215)) (after (block l n 4) (after (block l n 3) (after (block l n 2) (after (block l n 1)
      (after (block l n 0) (after (l.take n) W)))))) := by
  have h : ∀ k W, after (l.drop k) W = after (l.drop (k + 43)) (after ((l.drop k).take 43) W) := fun k W => by
    conv_lhs => rw [← List.take_append_drop 43 (l.drop k)]
    rw [List.drop_drop, after_append]
  conv_lhs => rw [← List.take_append_drop n l, after_append, h n, h (n + 43), h (n + 43 + 43), h (n + 43 + 43 + 43), h (n + 43 + 43 + 43 + 43)]
  rfl
/-- If each stretch carries the pair through its group, the list carries it through the generator's rounds. -/
theorem through {At' : Fin 6 → BitVec 32 × BitVec 32 → Valuation τ sig (Elt Ideal) → Prop} {u v w : BitVec 32}
    {l : List (HloOp τ sig (Elt Ideal))} {n : Nat}
    (h : ∀ j p W, At' j.castSucc p W → At' j.succ (group u v w j p) (after (block l n j) W)) {p : BitVec 32 × BitVec 32}
    {W : Valuation τ sig (Elt Ideal)} (h0 : At' 0 p (after (l.take n) W)) :
    ∃ W', after l W = after (l.drop (n + 215)) W' ∧ At' 5 (upTo u v w p 5) W' :=
  ⟨_, after_five l n W, h 4 _ _ (h 3 _ _ (h 2 _ _ (h 1 _ _ (h 0 _ _ h0))))⟩
end Cert.Threefry
-- ==== Proof.RefNoise.lean ====
module
public import proofs.«01_k».proof.Proof.RefRun
public import proofs.«01_k».proof.Proof.Threefry
@[expose] public section
set_option maxHeartbeats 4000000
noncomputable section
/-! The reference's noise. In each trip it derives the step's key from the step's number, and draws the step's array under it. -/
namespace Cert.ReferenceIdeal.Value
open Cert.ReferenceIdeal.Gen Idealize.ShloMosaic Idealize.ShloMosaic.TcCoe Idealize.ShloMosaic.StableHlo
open Cert.Threefry (At Ends val block group gen third through count words stepKey gumbel)
variable (W : Valuation τ sig (Elt Ideal))

/-- The first word of the key's pair before group `j`. -/
abbrev kx0 : Fin 6 → TRef sig ⟨S1, .i32⟩
  | 0 => .of main_while0b_call5_call0_v3 | 1 => .of main_while0b_call5_call0_v35 | 2 => .of main_while0b_call5_call0_v69
  | 3 => .of main_while0b_call5_call0_v103 | 4 => .of main_while0b_call5_call0_v137 | 5 => .of main_while0b_call5_v11_0
/-- The second word of the key's pair before group `j`. -/
abbrev kx1 : Fin 6 → TRef sig ⟨S1, .i32⟩
  | 0 => .of main_while0b_call5_call0_v5 | 1 => .of main_while0b_call5_call0_v39 | 2 => .of main_while0b_call5_call0_v73
  | 3 => .of main_while0b_call5_call0_v107 | 4 => .of main_while0b_call5_call0_v141 | 5 => .of main_while0b_call5_v11_1
/-- The key's keys and its pair before group `j`. -/
abbrev KeyAt (j : Fin 6) := At (τ := τ) (sig := sig) (sk := S_) (s := S1)
  (.of main_while0b_call5_v6) (.of main_while0b_call5_v8) (.of main_while0b_call5_call0_v1) ix0 (ix1 0) (kx0 j) (kx1 j)

/-- Group `j`'s stretch carries the key's pair through the group. -/
theorem key_group (u v w : BitVec 32) (j : Fin 5) (p : BitVec 32 × BitVec 32) (W : Valuation τ sig (Elt Ideal))
    (h : KeyAt j.castSucc u v w p W) : KeyAt j.succ u v w (group u v w j p) (after (block while0Ops0_6 20 j) W) := by
  obtain ⟨a, b⟩ := p
  obtain ⟨⟨h0, h1, h2⟩, ha, hb⟩ := h
  refine ⟨⟨Eq.trans ?_ h0, Eq.trans ?_ h1, Eq.trans ?_ h2⟩, ?_, ?_⟩
  all_goals unfold block while0Ops0_6
  all_goals try subst h0 h1 h2 ha hb
  all_goals fin_cases j
  all_goals
    simp only [Nat.reduceMul, Nat.reduceAdd, List.drop_succ_cons, List.drop_zero, List.take_succ_cons, List.take_zero, Fin.zero_eta,
      Fin.reduceFinMk, Fin.reduceSucc, Fin.isValue, kx0, kx1, val]
    after_results
  all_goals
    try simp only [TRef.ofBuf_toBuf]
    pointwise
    rfl

/-- The one-entry slice at 0 is entry 0. -/
theorem slice_fst (x : Vec Ideal S2 .i32) : extractStridedSlice S1 ![0] x slices_S2_S1_0 (ix1 0) = x (ix1 0) := by pointwise
/-- The one-entry slice at 1 is entry 1. -/
theorem slice_snd (x : Vec Ideal S2 .i32) : extractStridedSlice S1 ![1] x slices_S2_S1_1 (ix1 0) = x (ix1 1) := by pointwise

/-- What precedes the groups sets the pair up from the number and the key. -/
theorem key_start {a u v : BitVec 32} (h : val W (.of main_while0b_v104 : TRef sig ⟨S_, .i32⟩) ix0 = a)
    (h0 : val W (.of main_v27_10 : TRef sig ⟨S2, .i32⟩) (ix1 0) = u)
    (h1 : val W (.of main_v27_10 : TRef sig ⟨S2, .i32⟩) (ix1 1) = v) :
    KeyAt 0 u v (third u v) (IntOp.addi (IntOp.shrui ArithUnit.host a 32#32) u, IntOp.addi (IntOp.andi a 4294967295#32) v)
      (after (while0Ops0_6.take 20) W) := by
  subst h h0 h1
  refine ⟨⟨?_, ?_, ?_⟩, ?_, ?_⟩
  all_goals
    unfold while0Ops0_6
    simp only [List.take_succ_cons, List.take_zero, val, kx0, kx1]
    after_results
    try simp only [TRef.ofBuf_toBuf]
    pointwise
  · exact slice_fst _
  · exact slice_snd _
  · exact congrArg₂ third (slice_fst _) (slice_snd _)
  · exact congrArg₂ IntOp.addi rfl (slice_fst _)
  · refine congrArg₂ IntOp.addi ?_ (slice_snd _)
    simp only [TRef.ofBuf_toBuf]
    pointwise

/-- What follows the groups sets the two words side by side. -/
theorem key_end {p : BitVec 32 × BitVec 32} (h : val W (kx0 5) (ix1 0) = p.1 ∧ val W (kx1 5) (ix1 0) = p.2) :
    val (after (while0Ops0_6.drop 235) W) (.of main_while0b_v105 : TRef sig ⟨S2, .i32⟩) (ix1 0) = p.1
    ∧ val (after (while0Ops0_6.drop 235) W) (.of main_while0b_v105 : TRef sig ⟨S2, .i32⟩) (ix1 1) = p.2 := by
  refine ⟨Eq.trans ?_ h.1, Eq.trans ?_ h.2⟩
  all_goals
    unfold while0Ops0_6
    simp only [List.drop_succ_cons, List.drop_zero, val, kx0, kx1]
    after_results
    try simp only [TRef.ofBuf_toBuf]
    pointwise
    try rfl

/-- The step's key. -/
theorem key_read {a : BitVec 32} (h : val W (.of main_while0b_v104 : TRef sig ⟨S_, .i32⟩) ix0 = a)
    (h0 : val W (.of main_v27_10 : TRef sig ⟨S2, .i32⟩) (ix1 0) = 0#32)
    (h1 : val W (.of main_v27_10 : TRef sig ⟨S2, .i32⟩) (ix1 1) = 42#32) :
    val (after while0Ops0_6 W) (.of main_while0b_v105 : TRef sig ⟨S2, .i32⟩) (ix1 0) = (stepKey a).1
    ∧ val (after while0Ops0_6 W) (.of main_while0b_v105 : TRef sig ⟨S2, .i32⟩) (ix1 1) = (stepKey a).2 := by
  obtain ⟨W', hW, h'⟩ := through (At' := fun j => KeyAt j _ _ _) (key_group _ _ _) (key_start W h h0 h1)
  rw [hW]
  exact key_end W' h'.2

/-- The first word of an element's pair before group `j`. -/
abbrev nx0 : Fin 6 → TRef sig ⟨S1024x50, .i32⟩
  | 0 => .of main_while0b_call6_call0_call0_v3 | 1 => .of main_while0b_call6_call0_call0_v35 | 2 => .of main_while0b_call6_call0_call0_v69
  | 3 => .of main_while0b_call6_call0_call0_v103 | 4 => .of main_while0b_call6_call0_call0_v137 | 5 => .of main_while0b_call6_call0_v18_0
/-- The second word of an element's pair before group `j`. -/
abbrev nx1 : Fin 6 → TRef sig ⟨S1024x50, .i32⟩
  | 0 => .of main_while0b_call6_call0_call0_v5 | 1 => .of main_while0b_call6_call0_call0_v39 | 2 => .of main_while0b_call6_call0_call0_v73
  | 3 => .of main_while0b_call6_call0_call0_v107 | 4 => .of main_while0b_call6_call0_call0_v141 | 5 => .of main_while0b_call6_call0_v18_1
/-- The uniform number's ends, the step's key and the pair of element `(b, s)` before group `j`. -/
abbrev WordsAt (b : Fin 1024) (s : Fin 50) (u v w : BitVec 32) (j : Fin 6) (p : BitVec 32 × BitVec 32) (W : Valuation τ sig (Elt Ideal)) : Prop :=
  Ends (sc := S1x1) (.of main_while0b_call6_call0_v1) (.of main_while0b_call6_call0_v2) (ix2 0 0) W
  ∧ At (τ := τ) (sig := sig) (sk := S_) (s := S1024x50) (.of main_while0b_call6_call0_v4) (.of main_while0b_call6_call0_v6)
      (.of main_while0b_call6_call0_call0_v1) ix0 (ix2 b s) (nx0 j) (nx1 j) u v w p W

/-- Group `j`'s stretch carries an element's pair through the group. -/
theorem words_group (b : Fin 1024) (s : Fin 50) (u v w : BitVec 32) (j : Fin 5) (p : BitVec 32 × BitVec 32) (W : Valuation τ sig (Elt Ideal))
    (h : WordsAt b s u v w j.castSucc p W) : WordsAt b s u v w j.succ (group u v w j p) (after (block while0Ops0_8 30 j) W) := by
  obtain ⟨a, a'⟩ := p
  obtain ⟨⟨e0, e1⟩, ⟨h0, h1, h2⟩, ha, hb⟩ := h
  refine ⟨⟨Eq.trans ?_ e0, Eq.trans ?_ e1⟩, ⟨Eq.trans ?_ h0, Eq.trans ?_ h1, Eq.trans ?_ h2⟩, ?_, ?_⟩
  all_goals unfold block while0Ops0_8
  all_goals try subst h0 h1 h2 ha hb
  all_goals fin_cases j
  all_goals
    simp only [Nat.reduceMul, Nat.reduceAdd, List.drop_succ_cons, List.drop_zero, List.take_succ_cons, List.take_zero, Fin.zero_eta,
      Fin.reduceFinMk, Fin.reduceSucc, Fin.isValue, nx0, nx1, val]
    after_results
  all_goals
    try simp only [TRef.ofBuf_toBuf]
    pointwise
    rfl

/-- What precedes the groups sets the pair up from the element's number and the key. -/
theorem words_start (b : Fin 1024) (s : Fin 50) {u v : BitVec 32}
    (h0 : val W (.of main_while0b_v105 : TRef sig ⟨S2, .i32⟩) (ix1 0) = u)
    (h1 : val W (.of main_while0b_v105 : TRef sig ⟨S2, .i32⟩) (ix1 1) = v) :
    WordsAt b s u v (third u v) 0 (IntOp.addi ((IntOp.shrui ArithUnit.host (count b s) 32#64).setWidth 32) u,
      IntOp.addi ((count b s).setWidth 32) v) (after (while0Ops0_8.take 30) W) := by
  subst h0 h1
  refine ⟨⟨?_, ?_⟩, ⟨?_, ?_, ?_⟩, ?_, ?_⟩
  all_goals
    unfold while0Ops0_8
    simp only [List.take_succ_cons, List.take_zero, val, nx0, nx1]
    after_results
    try simp only [TRef.ofBuf_toBuf]
    try simp only [id]
    pointwise
  · rfl
  · exact slice_fst _
  · exact slice_snd _
  · exact congrArg₂ third (slice_fst _) (slice_snd _)
  · exact congrArg₂ IntOp.addi rfl (slice_fst _)
  · exact congrArg₂ IntOp.addi rfl (slice_snd _)

/-- What follows the groups turns the pair into noise. -/
theorem words_end {b : Fin 1024} {s : Fin 50} {u v w : BitVec 32} {p : BitVec 32 × BitVec 32} (h : WordsAt b s u v w 5 p W) :
    val (after (while0Ops0_8.drop 245) W) (.of main_while0b_v109 : TRef sig ⟨S1024x50, .f32⟩) (ix2 b s) = gumbel 1 Threefry.tiny p := by
  obtain ⟨a, a'⟩ := p
  obtain ⟨⟨e0, e1⟩, -, ha, hb⟩ := h
  rw [← e0, ← e1]
  subst ha hb
  unfold while0Ops0_8
  simp only [List.drop_succ_cons, List.drop_zero, val, nx0, nx1]
  after_results
  try simp only [TRef.ofBuf_toBuf]
  pointwise
  rfl

/-- The step's noise under its key. -/
theorem words_read (b : Fin 1024) (s : Fin 50) {u v : BitVec 32}
    (h0 : val W (.of main_while0b_v105 : TRef sig ⟨S2, .i32⟩) (ix1 0) = u)
    (h1 : val W (.of main_while0b_v105 : TRef sig ⟨S2, .i32⟩) (ix1 1) = v) :
    val (after while0Ops0_8 W) (.of main_while0b_v109 : TRef sig ⟨S1024x50, .f32⟩) (ix2 b s) = gumbel 1 Threefry.tiny (words u v b s) := by
  obtain ⟨W', hW, h'⟩ := through (At' := WordsAt b s _ _ _) (words_group b s _ _ _) (words_start W b s h0 h1)
  rw [hW]
  exact words_end W' h'

variable (m : (ℓ : Loc nD τ sig) → Buf (Elt Ideal) ℓ) (c : Dev nD)
/-- Trip `k` of the reference adds the generator's noise for step `k`. -/
theorem noise_eq (k : Fin 50) (b : Fin 1024) (s : Fin 50) : noise m c k b s = Threefry.noise (BitVec.ofNat 32 k.val) b s := by
  obtain ⟨H, K, -⟩ := inv m c k.val (Nat.le_of_lt k.isLt)
  have e32 := T_keeps (atK m k.val c) (r := main_while0b_v32) 0 4 (by decide +kernel)
  have e105 := T_keeps (atK m k.val c) (r := main_while0b_v105) 6 1 (by decide +kernel)
  have h32 : (T (atK m k.val c) 4 (Proc.devRef .tc main_while0b_v32) : Vec Ideal S_ .i32) ix0 = BitVec.ofNat 32 k.val :=
    (congrFun e32 ix0).trans (v32_at H K)
  obtain ⟨h0, h1⟩ := key_read (T (atK m k.val c) 5) (a := BitVec.ofNat 32 k.val) (st5_k _ h32)
    ((cAt H K 5 (by omega)).r10 0) ((cAt H K 5 (by omega)).r10 1)
  exact words_read (T (atK m k.val c) 7) b s ((congrFun e105 (ix1 0)).trans h0) ((congrFun e105 (ix1 1)).trans h1)
end Cert.ReferenceIdeal.Value
-- ==== Proof.KernelBody.lean ====
module
public import proofs.«01_k».proof.Proof.Gen.KernelIdeal.Frame
public import Idealize.ShloMosaic.Lib.ValueIdx
public import Idealize.ShloMosaic.Lib.WholeRead
public import Idealize.ShloMosaic.Lib.Pipeline.ValueKit
@[expose] public section
set_option maxHeartbeats 1000000

set_option maxRecDepth 16384
noncomputable section
namespace Cert.KernelIdeal.Value
open Idealize.ShloMosaic Idealize.ShloMosaic.TcCoe Cert.KernelIdeal.Gen
variable {F : FTy → Type} [FloatOps F]
variable (m : (ℓ : Loc nD τ sig) → Buf (Elt F) ℓ)

/-- What the loop carries: the hidden and cell states, the mask's term, the chosen row's product, and the three results
    filled row by row. -/
abbrev Carried (F : FTy → Type) := FVec F S256x32 .f32 × FVec F S256x32 .f32 × FVec F S50x256 .f32 × FVec F S256x128 .f32
  × FVec F S50x256 .f32 × IVec S50x256 32 × FVec F S50x256 .f32

/-- The slot's number, at every slot and column. -/
abbrev v81 : IVec S50x256 32 := iota .tc S50x256 32 [0] iota_S50x256_d0_w32
/-- The slot's number, with a last axis of one. -/
abbrev v82 : IVec S50x256x1 32 := iota .tc S50x256x1 32 [0] iota_S50x256x1_d0_w32

/-- The arrays a trip reads: the staged blocks, and the two products computed before the loop. -/
structure Blocks (F : FTy → Type) where
  g : Vec F S50x50x256 .f32
  wh : Vec F S32x128 .f32
  bg : Vec F S1x128 .f32
  w1 : Vec F S32x256 .f32
  w2 : Vec F S256x128 .f32
  b2 : Vec F S1x128 .f32
  w3 : Vec F S128x8 .f32
  b3 : Vec F S1x1 .f32
  pre : FVec F S7x256x256 .f32
  items : FVec F S50x256x128 .f32

/-- The row of noise trip `k` reads. -/
abbrev row (x : Vec F S50x50x256 .f32) (k : Fin k0_t1_loop.trips) : Vec F S1x50x256 .f32 :=
  View.ld x (Rect.unit (s := S50x50x256) (k0_off1 k) S1x50x256.size (k0_off1_inb k))

/-- The second dense layer of a trip. -/
abbrev kd2 (B : Blocks F) (a : Carried F) : FVec F S1792x128 .f32 :=
  k0_pay11 B.pre k0_pay26 a.1 a.2.1 a.2.2.2.1 B.wh B.bg B.w1 B.w2 B.b2
/-- A trip's probabilities. -/
abbrev kprobs (B : Blocks F) (a : Carried F) : FVec F S50x256 .f32 :=
  k0_pay13 a.2.2.1 (kd2 B a) (k0_pay12 B.w3) (constant S1792x8 .f32 0x00000000#32) B.b3
/-- A trip's choice. -/
abbrev kidx (B : Blocks F) (k : Fin k0_t1_loop.trips) (a : Carried F) : IVec S1x256 32 :=
  k0_pay14 v81 a.2.2.1 (kd2 B a) (k0_pay12 B.w3) (constant S1792x8 .f32 0x00000000#32) B.b3 (row B.g k)
/-- A trip's choice as a column of zeros and a one. -/
abbrev koh (B : Blocks F) (k : Fin k0_t1_loop.trips) (a : Carried F) : FVec F S50x256 .f32 :=
  k0_pay15 v81 a.2.2.1 (kd2 B a) (k0_pay12 B.w3) (constant S1792x8 .f32 0x00000000#32) B.b3 (row B.g k)
/-- What a trip carries on. -/
def kstep (B : Blocks F) (k : Fin k0_t1_loop.trips) (a : Carried F) : Carried F :=
  (k0_pay10 k0_pay26 a.1 a.2.1 a.2.2.2.1 B.wh B.bg, k0_pay9 k0_pay26 a.1 a.2.1 a.2.2.2.1 B.wh B.bg,
   k0_pay16 v81 a.2.2.1 (kd2 B a) (k0_pay12 B.w3) (constant S1792x8 .f32 0x00000000#32) B.b3 (row B.g k),
   k0_pay6 B.items v82 (kidx B k a),
   k0_pay2 a.2.2.2.2.1 (k0_pay17 v81 (Scf.iv 0#32 1#32 k))
     (k0_pay18 v81 a.2.2.1 (kd2 B a) (k0_pay12 B.w3) (constant S1792x8 .f32 0x00000000#32) B.b3 (row B.g k)),
   k0_pay3 v81 a.2.2.2.2.2.1 (Scf.iv 0#32 1#32 k) (kidx B k a),
   k0_pay4 a.2.2.2.2.2.2 (Scf.iv 0#32 1#32 k) (koh B k a))

/-- The arrays the trips of grid point `t` read. -/
def blocks (c : Dev nD) (t : Fin cfg0.N) (v76 : FVec F S7x256x256 .f32) (v80 : FVec F S50x256x128 .f32) : Blocks F :=
  ⟨iblk m c 1 t, iblk m c 7 t, iblk m c 8 t, iblk m c 10 t, iblk m c 12 t, iblk m c 13 t, iblk m c 14 t, iblk m c 15 t, v76, v80⟩

/-- The loop's state before trip `k` at grid point `t`: the carried value and the stored pieces. -/
def kst (c : Dev nD) (t : Fin cfg0.N) (v76 : FVec F S7x256x256 .f32) (v80 : FVec F S50x256x128 .f32) (k : ℕ) :
    Carried F × List (View.Piece (Elt F) S50x50x256 .f32) :=
  st_k0_t1 (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) v76 v80 kernelRun0_A.sl.v81 kernelRun0_A.sl.v82 k0_pay26 ((hs0_1 t).unread (iblk m c 1 t)) ((hs0_7 t).unread (iblk m c 7 t)) ((hs0_8 t).unread (iblk m c 8 t)) ((hs0_10 t).unread (iblk m c 10 t)) ((hs0_12 t).unread (iblk m c 12 t)) ((hs0_13 t).unread (iblk m c 13 t)) ((hs0_14 t).unread (iblk m c 14 t)) ((hs0_15 t).unread (iblk m c 15 t))
    (k0_pay27, k0_pay27, k0_pay28, k0_pay29, k0_pay30, k0_pay31, k0_pay1 kernelRun0_A.sl.cst_54) k

/-- A trip takes the carried value one step on and stores one slab of probabilities. -/
theorem kst_succ (c : Dev nD) (t : Fin cfg0.N) (v76 : FVec F S7x256x256 .f32) (v80 : FVec F S50x256x128 .f32)
    (k : Fin k0_t1_loop.trips) :
    kst m c t v76 v80 (k.val + 1) = (kstep (blocks m c t v76 v80) k (kst m c t v76 v80 k).1,
      [⟨Rect.unit (s := S50x50x256) (k0_off1 k) S1x50x256.size (k0_off1_inb k), k0_pay5 (kprobs (blocks m c t v76 v80) (kst m c t v76 v80 k).1)⟩]
        ++ (kst m c t v76 v80 k).2) := by
  unfold kst
  rw [st_k0_t1_succ]
  generalize st_k0_t1 (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) v76 v80 kernelRun0_A.sl.v81 kernelRun0_A.sl.v82 k0_pay26 ((hs0_1 t).unread (iblk m c 1 t)) ((hs0_7 t).unread (iblk m c 7 t)) ((hs0_8 t).unread (iblk m c 8 t)) ((hs0_10 t).unread (iblk m c 10 t)) ((hs0_12 t).unread (iblk m c 12 t)) ((hs0_13 t).unread (iblk m c 13 t)) ((hs0_14 t).unread (iblk m c 14 t)) ((hs0_15 t).unread (iblk m c 15 t))
    (k0_pay27, k0_pay27, k0_pay28, k0_pay29, k0_pay30, k0_pay31, k0_pay1 kernelRun0_A.sl.cst_54) k.val = S
  unfold tripR_k0_t1 tripL_k0_t1 trip_k0_t1
  dsimp only
  frame_out
  simp only [kstep, kprobs, kidx, koh, kd2, row, blocks, v81, v82]

/-- The first dense layer's part that no trip changes. -/
def kpre (x0 : Vec F S50x256x128 .f32) (x2 : Vec F S128x32 .f32) (x3 : Vec F S1x32 .f32) (x4 : Vec F S32x16 .f32)
    (x5 : Vec F S1x16 .f32) (x9 : Vec F S16x32 .f32) (x11 : Vec F S1x256 .f32) : FVec F S7x256x256 .f32 :=
  k0_pay24 (k0_pay20 x0 x2 x3 x4 x5) (k0_pay21 x0 x2 x3 x4 x5 x9) (k0_pay22 x0 x2 x3 x4 x5 x9) (k0_pay23 x0 x2 x3 x4 x5)
    x9 x9 x9 x9 x9 x9 x11
/-- The items' product with the gates' weights. -/
def kitems (x0 : Vec F S50x256x128 .f32) (x6 : Vec F S128x128 .f32) : FVec F S50x256x128 .f32 := k0_pay25 (k0_pay19 x0) x6

/-- The arrays the trips of grid point `t` read, from the staged blocks alone. -/
def kblocks (c : Dev nD) (t : Fin cfg0.N) : Blocks F :=
  blocks m c t (kpre (iblk m c 0 t) (iblk m c 2 t) (iblk m c 3 t) (iblk m c 4 t) (iblk m c 5 t) (iblk m c 9 t) (iblk m c 11 t))
    (kitems (iblk m c 0 t) (iblk m c 6 t))

/-- The loop's state at point `t`, from the staged blocks alone. -/
def kat (c : Dev nD) (t : Fin cfg0.N) (k : ℕ) : Carried F × List (View.Piece (Elt F) S50x50x256 .f32) :=
  kst m c t (kpre (iblk m c 0 t) (iblk m c 2 t) (iblk m c 3 t) (iblk m c 4 t) (iblk m c 5 t) (iblk m c 9 t) (iblk m c 11 t))
    (kitems (iblk m c 0 t) (iblk m c 6 t)) k

/-- The state the loop starts with. -/
def kinit : Carried F := (k0_pay27, k0_pay27, k0_pay28, k0_pay29, k0_pay30, k0_pay31, k0_pay1 kernelRun0_A.sl.cst_54)

/-- Before the first trip nothing is stored. -/
theorem kat_zero (c : Dev nD) (t : Fin cfg0.N) : kat m c t 0 = (kinit, []) := rfl
/-- Trip `k` steps the carried value and stores slab `k`. -/
theorem kat_succ (c : Dev nD) (t : Fin cfg0.N) (k : Fin 50) : kat m c t (k.val + 1) = (kstep (kblocks m c t) k (kat m c t k.val).1,
    (⟨Rect.unit (s := S50x50x256) (k0_off1 k) S1x50x256.size (k0_off1_inb k), k0_pay5 (kprobs (kblocks m c t) (kat m c t k.val).1)⟩
      :: (kat m c t k.val).2)) := kst_succ m c t _ _ k

/-- The second output block is carried out of the loop. -/
theorem outs17 (c : Dev nD) (t : Fin cfg0.N) : (outsAt0 m c t).2.1 = (kat m c t 50).1.2.2.2.2.1 := by
  unfold outsAt0
  frame_out
  rfl
/-- The first output block is what the trips stored. -/
theorem outs16 (c : Dev nD) (t : Fin cfg0.N) : (outsAt0 m c t).1 = View.canon (kat m c t 50).2 := by
  unfold outsAt0
  frame_out
  rfl
/-- The third output block is carried out of the loop. -/
theorem outs18 (c : Dev nD) (t : Fin cfg0.N) : (outsAt0 m c t).2.2.1 = (kat m c t 50).1.2.2.2.2.2.1 := by
  unfold outsAt0
  frame_out
  rfl
/-- The fourth output block is carried out of the loop. -/
theorem outs19 (c : Dev nD) (t : Fin cfg0.N) : (outsAt0 m c t).2.2.2 = (kat m c t 50).1.2.2.2.2.2.2 := by
  unfold outsAt0
  frame_out
  rfl
end Cert.KernelIdeal.Value
-- ==== Proof.KernelStep.lean ====
module
public import proofs.«01_k».proof.Proof.KernelBody
public import proofs.«01_k».proof.Proof.Model
public import Idealize.ShloMosaic.Lib.Pointwise
@[expose] public section
set_option maxHeartbeats 2000000
set_option maxRecDepth 16384
noncomputable section
/-! One trip of the kernel's loop, at one column of the block, is one step of the model. -/
namespace Cert.KernelIdeal.Value
open Idealize.ShloMosaic Cert.KernelIdeal.Gen Cert.Model

/-- The arrays a trip reads, at column `j`, hold row `P`'s data. -/
structure BlockOf (P : Row) (B : Blocks Ideal) (j : Fin 256) : Prop where
  g : ∀ (k s : Fin 50), B.g (ix3 k s j) = P.noise k s
  wh : ∀ (i : Fin 32) (l : Fin 128), B.wh (ix2 i l) = P.wh i l
  bg : ∀ l : Fin 128, B.bg (ix2 0 l) = P.bg l
  w1 : ∀ (i : Fin 32) (l : Fin 256), B.w1 (ix2 i l) = P.vh i ⟨l.val % 32, Nat.mod_lt _ (by decide)⟩
  w2 : ∀ (i : Fin 256) (l : Fin 128), B.w2 (ix2 i l)
    = if i.val / 32 = l.val / 16 then P.v2 ⟨i.val % 32, Nat.mod_lt _ (by decide)⟩ ⟨l.val % 16, Nat.mod_lt _ (by decide)⟩ else 0
  b2 : ∀ l : Fin 128, B.b2 (ix2 0 l) = P.c2 ⟨l.val % 16, Nat.mod_lt _ (by decide)⟩
  w3 : ∀ (i : Fin 128) (l : Fin 8), B.w3 (ix2 i l) = if i.val / 16 = l.val then P.v3 ⟨i.val % 16, Nat.mod_lt _ (by decide)⟩ else 0
  b3 : B.b3 (ix2 0 0) = P.c3
  pre : ∀ (s : Fin 50) (l : Fin 32), B.pre (ix3 ⟨s.val / 8, by omega⟩ j ⟨s.val % 8 * 32 + l.val, by omega⟩)
    = ∑ e, P.enc s e * P.vx e l + P.c1 l
  items : ∀ (s : Fin 50) (l : Fin 128), B.items (ix3 s j l) = ∑ f, P.item s f * P.wx f l

/-- What the loop carries, at column `j`, holds the state. -/
structure CarriedOf (P : Row) (S : State) (a : Carried Ideal) (j : Fin 256) : Prop where
  h : ∀ i : Fin 32, a.1 (ix2 j i) = S.h i
  c : ∀ i : Fin 32, a.2.1 (ix2 j i) = S.c i
  mb : ∀ s : Fin 50, a.2.2.1 (ix2 s j) = ((S.n s : ℝ) : EReal) * neg
  gx : ∀ l : Fin 128, a.2.2.2.1 (ix2 j l) = ∑ f, S.x f * P.wx f l
  sa : ∀ s : Fin 50, a.2.2.2.2.2.2 (ix2 s j) = S.sc s

/-- The trip number as a word. -/
theorem iv_eq (k : ℕ) : Scf.iv 0#32 1#32 k = BitVec.ofNat 32 k := by
  unfold Scf.iv; simp
/-- Trip `k` reads and writes row `k`. -/
theorem off1_eq (k : Fin k0_t1_loop.trips) : k0_off1 k = ![k.val, 0, 0] := by
  have hk : k.val < 50 := k.isLt
  unfold k0_off1
  have : (Scalar.indexCast (Scf.iv 0#32 1#32 k.val) : Index).toNat = k.val := by
    rw [iv_eq]; unfold Scalar.indexCast; simp; omega
  simp only [this]

/-- The row of one: one on the third group of thirty-two lanes, zero elsewhere. -/
theorem pay26_apply (l : Fin 128) : k0_pay26 (F := Ideal) (ix2 0 l) = if l.val / 32 = 2 then 1 else 0 := by
  pointwise [k0_pay26]
  have : ∀ l : Fin 128, (IntOp.cmpi CmpIPredicate.eq
        (Scalar.select
          (IntOp.andi
            (IntOp.cmpi CmpIPredicate.ne
              (IntOp.subi (BitVec.setWidth 32 (IntOp.cmpi CmpIPredicate.sgt (BitVec.ofNat 32 ↑l) 0#32))
                (BitVec.setWidth 32 (IntOp.cmpi CmpIPredicate.slt (BitVec.ofNat 32 ↑l) 0#32)))
              (Scalar.subi (Scalar.extui (Scalar.cmpi CmpIPredicate.sgt 32#32 0#32))
                (Scalar.extui (Scalar.cmpi CmpIPredicate.slt 32#32 0#32))))
            (IntOp.cmpi CmpIPredicate.ne (IntOp.remsi ArithUnit.vector (BitVec.ofNat 32 ↑l) 32#32) 0#32))
          (IntOp.subi (IntOp.divsi ArithUnit.vector (BitVec.ofNat 32 ↑l) 32#32) 1#32)
          (IntOp.divsi ArithUnit.vector (BitVec.ofNat 32 ↑l) 32#32))
        2#32) = if l.val / 32 = 2 then 1#1 else 0#1 := by decide +kernel
  rw [this l]
  split <;> rfl

section step
variable {P : Row} {S : State} {B : Blocks Ideal} {a : Carried Ideal} {j : Fin 256}

/-- The gates before their nonlinearities. -/
theorem pay7_eq (hB : BlockOf P B j) (ha : CarriedOf P S a j) (l : Fin 128) :
    k0_pay7 a.1 a.2.2.2.1 B.wh B.bg (ix2 j l) = P.gate S l := by
  pointwise [k0_pay7]
  simp only [ha.gx, ha.h, hB.wh, hB.bg, Row.gate]

/-- The new cell state. -/
theorem pay9_eq (hB : BlockOf P B j) (ha : CarriedOf P S a j) (l : Fin 32) :
    k0_pay9 k0_pay26 a.1 a.2.1 a.2.2.2.1 B.wh B.bg (ix2 j l) = P.cell S l := by
  pointwise [k0_pay9, k0_pay8]
  have h1 : (64 + l.val) / 32 = 2 := by omega
  have h2 : ¬ l.val / 32 = 2 := by omega
  simp only [pay7_eq hB ha, ha.c, pay26_apply, h1, h2, if_true, if_false, add_zero, Row.cell]

/-- The new hidden state. -/
theorem pay10_eq (hB : BlockOf P B j) (ha : CarriedOf P S a j) (l : Fin 32) :
    k0_pay10 k0_pay26 a.1 a.2.1 a.2.2.2.1 B.wh B.bg (ix2 j l) = P.hid S l := by
  pointwise [k0_pay10, k0_pay8]
  have h2 : ¬ (96 + l.val) / 32 = 2 := by omega
  simp only [pay7_eq hB ha, pay9_eq hB ha, pay26_apply, h2, if_false, add_zero, Row.hid]

/-- The second decoder layer. Slot `s` lies in block `s / 8` of rows and lane group `s % 8`, where the block-diagonal weights keep the groups apart. -/
theorem kd2_eq (hB : BlockOf P B j) (ha : CarriedOf P S a j) (s : Fin 50) (e : Fin 16) :
    kd2 B a (ix2 ⟨s.val / 8 * 256 + j.val, by omega⟩ ⟨s.val % 8 * 16 + e.val, by omega⟩) = P.d2 S s e := by
  unfold kd2
  pointwise [k0_pay11]
  have e1 : (s.val / 8 * 256 + j.val) / 256 = s.val / 8 := by omega
  have e2 : (s.val / 8 * 256 + j.val) % 256 = j.val := by omega
  have e3 : (s.val % 8 * 16 + e.val) / 16 = s.val % 8 := by omega
  have e4 : (s.val % 8 * 16 + e.val) % 16 = e.val := by omega
  simp only [e1, e2, pay10_eq hB ha, hB.w2, hB.b2, e3, e4]
  have := sum_block (A := 8) (B := 32) (fun x : Fin 256 => max (B.pre (ix3 ⟨s.val / 8, by omega⟩ j x) + ∑ i, P.hid S i * B.w1 (ix2 i x)) 0)
    ⟨s.val % 8, by omega⟩ (fun i => P.v2 i e)
  refine congrArg (max · 0) (congrArg (· + P.c2 e) (this.trans (Finset.sum_congr rfl fun m _ => ?_)))
  have e5 : (s.val % 8 * 32 + m.val) % 32 = m.val := by omega
  simp only [hB.pre, hB.w1, e5, Row.d1]
  rw [add_right_comm]

/-- The probability of slot `s`. -/
theorem pay13_eq (hB : BlockOf P B j) (ha : CarriedOf P S a j) (s : Fin 50) :
    kprobs B a (ix2 s j) = P.prob S s := by
  have key : ∀ s : Fin 50, a.2.2.1 (ix2 s j) + (0 + ∑ x : Fin 128, kd2 B a (ix2 ⟨s.val / 8 * 256 + j.val, by omega⟩ x) *
      B.w3 (ix2 x ⟨s.val % 8, by omega⟩) + B.b3 (ix2 0 0)) = P.logit S s := by
    intro s
    simp only [ha.mb, hB.w3, hB.b3, zero_add, Row.logit]
    have := sum_block (A := 8) (B := 16) (fun x : Fin 128 => kd2 B a (ix2 ⟨s.val / 8 * 256 + j.val, by omega⟩ x))
      ⟨s.val % 8, by omega⟩ (fun i => P.v3 i)
    refine congrArg (_ + ·) (congrArg (· + P.c3) (this.trans (Finset.sum_congr rfl fun m _ => ?_)))
    simp only [kd2_eq hB ha]
  unfold kprobs
  generalize hd : kd2 B a = d at key
  pointwise [k0_pay13, k0_pay12]
  simp only [zero_add] at key
  simp only [key, ofBits_bot, Row.prob]

/-- The noise of trip `k`, at one slot and column. -/
theorem row_apply (x : Vec Ideal S50x50x256 .f32) (k : Fin k0_t1_loop.trips) (s : Fin 50) (j : Fin 256) :
    row x k (ix3 0 s j) = x (ix3 (n0 := 50) k s j) := by
  unfold row
  pointwise
  have h0 : k0_off1 k 0 = k.val := by rw [off1_eq]; rfl
  have h1 : k0_off1 k 1 = 0 := by rw [off1_eq]; rfl
  have h2 : k0_off1 k 2 = 0 := by rw [off1_eq]; rfl
  congr 1
  simp only [h0, h1, h2, zero_add]
  rfl

/-- The chosen slot: the least at which the noisy logarithm is greatest. -/
theorem pay14_eq (hB : BlockOf P B j) (ha : CarriedOf P S a j) (k : Fin 50) :
    kidx B k a (ix2 0 j) = BitVec.ofNat 32 (P.choice S k).val := by
  have key : ∀ s : Fin 50, Ideal.log (kprobs B a (ix2 s j) + tiny) + row B.g k (ix3 0 s j) = P.noisy S k s := by
    intro s
    rw [pay13_eq hB ha, Row.noisy]
    exact congrArg (_ + ·) ((row_apply B.g k s j).trans (hB.g k s))
  rw [Row.choice, ← fold_min_eq]
  unfold kidx
  pointwise [k0_pay14, v81]
  rw [ofBits_bot]
  simp only [← key]
  rfl

/-- The chosen slot's indicator. -/
theorem pay15_eq (hB : BlockOf P B j) (ha : CarriedOf P S a j) (k s : Fin 50) :
    koh B k a (ix2 s j) = if s = P.choice S k then 1 else 0 := by
  have key := pay14_eq hB ha k
  unfold koh
  unfold kidx at key
  pointwise [k0_pay15]
  rw [key]
  pointwise [v81]
  show (((BitVec.setWidth 32 (IntOp.cmpi CmpIPredicate.eq (BitVec.ofNat 32 s.val) (BitVec.ofNat 32 (P.choice S k).val))).toInt : ℝ) : EReal) = _
  by_cases h : s = P.choice S k
  · rw [if_pos h, h]; simp [IntOp.cmpi]
  · rw [if_neg h]
    have : (BitVec.ofNat 32 s.val == BitVec.ofNat 32 (P.choice S k).val) = false := beq_eq_false_iff_ne.2 <| by
      rw [ne_eq, ofNat_inj (by omega) (by omega)]; exact fun e => h (Fin.ext e)
    simp [IntOp.cmpi, this]

/-- The chosen slot's probability. -/
theorem pay18_eq (hB : BlockOf P B j) (ha : CarriedOf P S a j) (k : Fin 50) :
    k0_pay18 v81 a.2.2.1 (kd2 B a) (k0_pay12 B.w3) (constant S1792x8 .f32 0x00000000#32) B.b3 (row B.g k) (ix2 0 j)
      = P.prob S (P.choice S k) := by
  have k1 := fun s => pay13_eq hB ha s
  have k2 := fun s => pay15_eq hB ha k s
  unfold kprobs at k1
  unfold koh at k2
  generalize hv : v81 = v at k2 ⊢
  pointwise [k0_pay18]
  simp only [k1, k2]
  rw [Finset.sum_eq_single (P.choice S k)]
  · simp
  · intro s _ hs; simp [hs]
  · intro h; exact absurd (Finset.mem_univ _) h

/-- A trip carries the state on. -/
theorem kstep_of (hB : BlockOf P B j) (ha : CarriedOf P S a j) (k : Fin 50) : CarriedOf P (P.step S k) (kstep B k a) j where
  h i := pay10_eq hB ha i
  c i := pay9_eq hB ha i
  mb s := by
    have k2 := pay15_eq hB ha k s
    unfold koh at k2
    show k0_pay16 v81 a.2.2.1 (kd2 B a) (k0_pay12 B.w3) (constant S1792x8 .f32 0x00000000#32) B.b3 (row B.g k) (ix2 s j) = _
    generalize hv : v81 = v at k2 ⊢
    pointwise [k0_pay16]
    rw [k2, ha.mb, Row.step]
    show _ + _ * neg = _
    obtain ⟨r, hr⟩ := neg_real
    simp only [hr]
    by_cases h : s = P.choice S k
    · simp only [if_pos h]; rw [one_mul, ← EReal.coe_mul, ← EReal.coe_add, ← EReal.coe_mul]; exact EReal.coe_eq_coe_iff.2 (by push_cast; ring)
    · simp only [if_neg h, zero_mul, add_zero]
  gx l := by
    have k1 := pay14_eq hB ha k
    show k0_pay6 B.items v82 (kidx B k a) (ix2 j l) = _
    pointwise [k0_pay6, v82]
    rw [k1, Finset.sum_eq_single (P.choice S k)]
    · simp [IntOp.cmpi, Scalar.select, hB.items, Row.step]
    · intro s _ hs
      have : (BitVec.ofNat 32 s.val == BitVec.ofNat 32 (P.choice S k).val) = false := beq_eq_false_iff_ne.2 <| by
        rw [ne_eq, ofNat_inj (by omega) (by omega)]; exact fun e => hs (Fin.ext e)
      simp [IntOp.cmpi, Scalar.select, this]
    · intro h; exact absurd (Finset.mem_univ _) h
  sa s := by
    have k2 := pay15_eq hB ha k s
    show k0_pay4 a.2.2.2.2.2.2 (Scf.iv 0#32 1#32 k) (koh B k a) (ix2 s j) = _
    pointwise [k0_pay4]
    rw [k2, ha.sa, iv_eq, toInt_small _ (by omega), Row.step]
    simp [decay]

/-- The select on the trip's own slot. -/
theorem sel_eq {α : Type} (s k : Fin 50) (x y : α) :
    Scalar.select (IntOp.cmpi CmpIPredicate.eq (BitVec.ofNat 32 s.val) (Scf.iv 0#32 1#32 k.val)) x y = if s = k then x else y := by
  rw [iv_eq]
  by_cases h : s = k
  · rw [if_pos h, h]; simp [IntOp.cmpi, Scalar.select]
  · rw [if_neg h]
    have : (BitVec.ofNat 32 s.val == BitVec.ofNat 32 k.val) = false := beq_eq_false_iff_ne.2 <| by
      rw [ne_eq, ofNat_inj (by omega) (by omega)]; exact fun e => h (Fin.ext e)
    simp [IntOp.cmpi, Scalar.select, this]

/-- A trip fills its row of the second result with the chosen slot's probability. -/
theorem kstep_p1 (hB : BlockOf P B j) (ha : CarriedOf P S a j) (k s : Fin 50) :
    (kstep B k a).2.2.2.2.1 (ix2 s j) = if s = k then P.prob S (P.choice S k) else a.2.2.2.2.1 (ix2 s j) := by
  have k1 := pay18_eq hB ha k
  show k0_pay2 _ _ _ (ix2 s j) = _
  pointwise [k0_pay2, k0_pay17]
  rw [k1]
  pointwise [v81]
  exact sel_eq s k _ _
/-- A trip fills its row of the third result with the chosen slot. -/
theorem kstep_ia (hB : BlockOf P B j) (ha : CarriedOf P S a j) (k s : Fin 50) :
    (kstep B k a).2.2.2.2.2.1 (ix2 s j) = if s = k then BitVec.ofNat 32 (P.choice S k).val else a.2.2.2.2.2.1 (ix2 s j) := by
  have k1 := pay14_eq hB ha k
  show k0_pay3 _ _ _ _ (ix2 s j) = _
  pointwise [k0_pay3, v81]
  rw [k1]
  exact sel_eq s k _ _
end step
end Cert.KernelIdeal.Value
-- ==== Proof.KernelPre.lean ====
module
public import proofs.«01_k».proof.Proof.KernelStep
@[expose] public section
set_option maxHeartbeats 2000000
set_option maxRecDepth 16384
noncomputable section
/-! What the kernel computes before its loop: the items' codes and the two products that no trip changes. -/
namespace Cert.KernelIdeal.Value
open Idealize.ShloMosaic Cert.KernelIdeal.Gen Cert.Model

/-- The codes of the items, laid out by groups of eight slots. -/
theorem pay20_eq {P : Row} {x0 : Vec Ideal S50x256x128 .f32} {x2 x3 x4 x5} {j : Fin 256}
    (h0 : ∀ (s : Fin 50) (f : Fin 128), x0 (ix3 s j f) = P.item s f)
    (he : ∀ (s : Fin 50) (e : Fin 16), P.enc s e = max (∑ i : Fin 32, max (∑ f : Fin 128, P.item s f * x2 (ix2 f i) + x3 (ix2 0 i)) 0
      * x4 (ix2 i e) + x5 (ix2 0 e)) 0) (s : Fin 50) (q : Fin 7) (r : Fin 8) (hq : q.val = s.val / 8) (hr : r.val = s.val % 8) (e : Fin 16) :
    k0_pay20 (F := Ideal) x0 x2 x3 x4 x5 (ix4 q r j e) = P.enc s e := by
  pointwise [k0_pay20]
  have e1 : q.val * 8 + r.val = s.val := by omega
  simp only [e1, s.isLt, dif_pos, he]
  refine congrArg (max · 0) (congrArg (· + x5 (ix2 0 e)) (Finset.sum_congr rfl fun i _ => congrArg (· * x4 (ix2 i e))
    (congrArg (max · 0) (congrArg (· + x3 (ix2 0 i)) (Finset.sum_congr rfl fun f _ => ?_)))))
  pointwise [k0_pay19]
  have e2 : (s.val * 256 + j.val) / 256 = s.val := by omega
  have e3 : (s.val * 256 + j.val) % 256 = j.val := by omega
  simp only [e2, e3, h0]

/-- The unchanging part of the first dense layer. -/
theorem kpre_eq {P : Row} {x0 : Vec Ideal S50x256x128 .f32} {x2 x3 x4 x5 x9 x11} {j : Fin 256}
    (h0 : ∀ (s : Fin 50) (f : Fin 128), x0 (ix3 s j f) = P.item s f)
    (he : ∀ (s : Fin 50) (e : Fin 16), P.enc s e = max (∑ i : Fin 32, max (∑ f : Fin 128, P.item s f * x2 (ix2 f i) + x3 (ix2 0 i)) 0
      * x4 (ix2 i e) + x5 (ix2 0 e)) 0)
    (h9 : ∀ (e : Fin 16) (l : Fin 32), x9 (ix2 e l) = P.vx e l)
    (h11 : ∀ l : Fin 256, x11 (ix2 0 l) = P.c1 ⟨l.val % 32, Nat.mod_lt _ (by decide)⟩) (s : Fin 50) (l : Fin 32) :
    kpre (F := Ideal) x0 x2 x3 x4 x5 x9 x11 (ix3 ⟨s.val / 8, by omega⟩ j ⟨s.val % 8 * 32 + l.val, by omega⟩)
      = ∑ e, P.enc s e * P.vx e l + P.c1 l := by
  have hc : (s.val % 8 * 32 + l.val) % 32 = l.val := by omega
  have key := pay20_eq (j := j) h0 he s ⟨s.val / 8, by omega⟩
  have e2 : (s.val / 8 * 256 + j.val) / 256 = s.val / 8 := by omega
  have e3 : (s.val / 8 * 256 + j.val) % 256 = j.val := by omega
  have hr : s.val % 8 = 0 ∨ s.val % 8 = 1 ∨ s.val % 8 = 2 ∨ s.val % 8 = 3 ∨ s.val % 8 = 4 ∨ s.val % 8 = 5 ∨ s.val % 8 = 6
    ∨ s.val % 8 = 7 := by omega
  pointwise [kpre, k0_pay24, k0_pay21, k0_pay22, k0_pay23]
  simp only [h11, hc, e2, e3]
  refine congrArg (· + P.c1 l) ?_
  rcases hr with h | h | h | h | h | h | h | h
  · rw [dif_pos (by omega)]
    have el : s.val % 8 * 32 + l.val = l.val := by omega
    simp only [el, h9, key 0 rfl (by rw [h]; rfl)]
  · rw [dif_neg (by omega), dif_pos (by omega)]
    have el : s.val % 8 * 32 + l.val - 32 = l.val := by omega
    simp only [el, h9, key 1 rfl (by rw [h]; rfl)]
  · rw [dif_neg (by omega), dif_neg (by omega), dif_pos (by omega)]
    have el : s.val % 8 * 32 + l.val - 32 - 32 = l.val := by omega
    simp only [el, h9, key 2 rfl (by rw [h]; rfl)]
  · rw [dif_neg (by omega), dif_neg (by omega), dif_neg (by omega), dif_pos (by omega)]
    have el : s.val % 8 * 32 + l.val - 32 - 32 - 32 = l.val := by omega
    simp only [el, h9, key 3 rfl (by rw [h]; rfl)]
  · rw [dif_neg (by omega), dif_neg (by omega), dif_neg (by omega), dif_neg (by omega), dif_pos (by omega)]
    have el : s.val % 8 * 32 + l.val - 32 - 32 - 32 - 32 = l.val := by omega
    simp only [el, h9, key 4 rfl (by rw [h]; rfl)]
  · rw [dif_neg (by omega), dif_neg (by omega), dif_neg (by omega), dif_neg (by omega), dif_neg (by omega), dif_pos (by omega)]
    have el : s.val % 8 * 32 + l.val - 32 - 32 - 32 - 32 - 32 = l.val := by omega
    simp only [el, h9, key 5 rfl (by rw [h]; rfl)]
  · rw [dif_neg (by omega), dif_neg (by omega), dif_neg (by omega), dif_neg (by omega), dif_neg (by omega), dif_neg (by omega), dif_pos (by omega)]
    have el : s.val % 8 * 32 + l.val - 32 - 32 - 32 - 32 - 32 - 32 = l.val := by omega
    simp only [el, h9, key 6 rfl (by rw [h]; rfl)]
  · rw [dif_neg (by omega), dif_neg (by omega), dif_neg (by omega), dif_neg (by omega), dif_neg (by omega), dif_neg (by omega), dif_neg (by omega)]
    have el : s.val % 8 * 32 + l.val - 32 - 32 - 32 - 32 - 32 - 32 - 32 = l.val := by omega
    simp only [el, h9, key 7 rfl (by rw [h]; rfl)]
end Cert.KernelIdeal.Value
-- ==== Proof.KernelLoop.lean ====
module
public import proofs.«01_k».proof.Proof.KernelPre
@[expose] public section
set_option maxHeartbeats 2000000
set_option maxRecDepth 16384
noncomputable section
/-! The kernel's loop from its staged blocks: what each column's outputs hold at the end. -/
namespace Cert.KernelIdeal.Value
open Idealize.ShloMosaic Cert.KernelIdeal.Gen Cert.Model

variable (m : (ℓ : Loc nD τ sig) → Buf (Elt Ideal) ℓ)

/-- Operand 0 as staged at grid point `t`. -/
abbrev blk0 (c : Dev nD) (t : Fin cfg0.N) : Vec Ideal S50x256x128 .f32 := iblk m c 0 t
/-- Operand 1 as staged at grid point `t`. -/
abbrev blk1 (c : Dev nD) (t : Fin cfg0.N) : Vec Ideal S50x50x256 .f32 := iblk m c 1 t
/-- Operand 2 as staged at grid point `t`. -/
abbrev blk2 (c : Dev nD) (t : Fin cfg0.N) : Vec Ideal S128x32 .f32 := iblk m c 2 t
/-- Operand 3 as staged at grid point `t`. -/
abbrev blk3 (c : Dev nD) (t : Fin cfg0.N) : Vec Ideal S1x32 .f32 := iblk m c 3 t
/-- Operand 4 as staged at grid point `t`. -/
abbrev blk4 (c : Dev nD) (t : Fin cfg0.N) : Vec Ideal S32x16 .f32 := iblk m c 4 t
/-- Operand 5 as staged at grid point `t`. -/
abbrev blk5 (c : Dev nD) (t : Fin cfg0.N) : Vec Ideal S1x16 .f32 := iblk m c 5 t
/-- Operand 6 as staged at grid point `t`. -/
abbrev blk6 (c : Dev nD) (t : Fin cfg0.N) : Vec Ideal S128x128 .f32 := iblk m c 6 t
/-- Operand 7 as staged at grid point `t`. -/
abbrev blk7 (c : Dev nD) (t : Fin cfg0.N) : Vec Ideal S32x128 .f32 := iblk m c 7 t
/-- Operand 8 as staged at grid point `t`. -/
abbrev blk8 (c : Dev nD) (t : Fin cfg0.N) : Vec Ideal S1x128 .f32 := iblk m c 8 t
/-- Operand 9 as staged at grid point `t`. -/
abbrev blk9 (c : Dev nD) (t : Fin cfg0.N) : Vec Ideal S16x32 .f32 := iblk m c 9 t
/-- Operand 10 as staged at grid point `t`. -/
abbrev blk10 (c : Dev nD) (t : Fin cfg0.N) : Vec Ideal S32x256 .f32 := iblk m c 10 t
/-- Operand 11 as staged at grid point `t`. -/
abbrev blk11 (c : Dev nD) (t : Fin cfg0.N) : Vec Ideal S1x256 .f32 := iblk m c 11 t
/-- Operand 12 as staged at grid point `t`. -/
abbrev blk12 (c : Dev nD) (t : Fin cfg0.N) : Vec Ideal S256x128 .f32 := iblk m c 12 t
/-- Operand 13 as staged at grid point `t`. -/
abbrev blk13 (c : Dev nD) (t : Fin cfg0.N) : Vec Ideal S1x128 .f32 := iblk m c 13 t
/-- Operand 14 as staged at grid point `t`. -/
abbrev blk14 (c : Dev nD) (t : Fin cfg0.N) : Vec Ideal S128x8 .f32 := iblk m c 14 t
/-- Operand 15 as staged at grid point `t`. -/
abbrev blk15 (c : Dev nD) (t : Fin cfg0.N) : Vec Ideal S1x1 .f32 := iblk m c 15 t

/-- The staged blocks of grid point `t`, at column `j`, hold row `P`'s data. -/
structure StagedOf (P : Row) (c : Dev nD) (t : Fin cfg0.N) (j : Fin 256) : Prop where
  item : ∀ (s : Fin 50) (f : Fin 128), blk0 m c t (ix3 s j f) = P.item s f
  enc : ∀ (s : Fin 50) (e : Fin 16), P.enc s e = max (∑ i : Fin 32,
    max (∑ f : Fin 128, P.item s f * blk2 m c t (ix2 f i) + blk3 m c t (ix2 0 i)) 0
      * blk4 m c t (ix2 i e) + blk5 m c t (ix2 0 e)) 0
  wx : ∀ (f : Fin 128) (l : Fin 128), blk6 m c t (ix2 f l) = P.wx f l
  vx : ∀ (e : Fin 16) (l : Fin 32), blk9 m c t (ix2 e l) = P.vx e l
  c1 : ∀ l : Fin 256, blk11 m c t (ix2 0 l) = P.c1 ⟨l.val % 32, Nat.mod_lt _ (by decide)⟩
  g : ∀ (k s : Fin 50), blk1 m c t (ix3 k s j) = P.noise k s
  wh : ∀ (i : Fin 32) (l : Fin 128), blk7 m c t (ix2 i l) = P.wh i l
  bg : ∀ l : Fin 128, blk8 m c t (ix2 0 l) = P.bg l
  w1 : ∀ (i : Fin 32) (l : Fin 256), blk10 m c t (ix2 i l) = P.vh i ⟨l.val % 32, Nat.mod_lt _ (by decide)⟩
  w2 : ∀ (i : Fin 256) (l : Fin 128), blk12 m c t (ix2 i l)
    = if i.val / 32 = l.val / 16 then P.v2 ⟨i.val % 32, Nat.mod_lt _ (by decide)⟩ ⟨l.val % 16, Nat.mod_lt _ (by decide)⟩ else 0
  b2 : ∀ l : Fin 128, blk13 m c t (ix2 0 l) = P.c2 ⟨l.val % 16, Nat.mod_lt _ (by decide)⟩
  w3 : ∀ (i : Fin 128) (l : Fin 8), blk14 m c t (ix2 i l)
    = if i.val / 16 = l.val then P.v3 ⟨i.val % 16, Nat.mod_lt _ (by decide)⟩ else 0
  b3 : blk15 m c t (ix2 0 0) = P.c3

variable {m} {P : Row} {c : Dev nD} {t : Fin cfg0.N} {j : Fin 256}

/-- What the trips read, from what is staged. -/
theorem kblocks_of (h : StagedOf m P c t j) : BlockOf P (kblocks m c t) j where
  g := h.g
  wh := h.wh
  bg := h.bg
  w1 := h.w1
  w2 := h.w2
  b2 := h.b2
  w3 := h.w3
  b3 := h.b3
  pre s l := kpre_eq h.item h.enc h.vx h.c1 s l
  items s l := by
    show kitems _ _ (ix3 s j l) = _
    pointwise [kitems, k0_pay25, k0_pay19]
    exact Finset.sum_congr rfl fun f _ => by
      have h1 := h.item s f
      have h2 := h.wx f l
      unfold blk0 at h1; unfold blk6 at h2
      rw [h1, h2]

/-- A stored row is read back at its row. -/
theorem canon_hit (k : Fin k0_t1_loop.trips) (w : FVec Ideal S1x50x256 .f32) (L) (s : Fin 50) (j : Fin 256) :
    View.canon (Val := Elt Ideal) (s := S50x50x256) (e := .f32) (⟨Rect.unit (s := S50x50x256) (k0_off1 k) S1x50x256.size (k0_off1_inb k), w⟩ :: L) (ix3 (n0 := 50) k s j)
      = w (ix3 0 s j) := by
  have e : (ix3 (n0 := 50) k s j : S50x50x256.Idx)
      = (Rect.unit (s := S50x50x256) (k0_off1 k) S1x50x256.size (k0_off1_inb k)).emb (ix3 (n0 := 1) 0 s j) := by
    have h0 : k0_off1 k 0 = k.val := by rw [off1_eq]; rfl
    have h1 : k0_off1 k 1 = 0 := by rw [off1_eq]; rfl
    have h2 : k0_off1 k 2 = 0 := by rw [off1_eq]; rfl
    funext a
    apply Fin.ext
    rw [Rect.emb_apply]
    fin_cases a
    · show k.val = k0_off1 k 0 + 1 * 0
      rw [h0]; rfl
    · show s.val = k0_off1 k 1 + 1 * s.val
      rw [h1]; omega
    · show j.val = k0_off1 k 2 + 1 * j.val
      rw [h2]; omega
  rw [e]
  exact View.canon_cons_emb _ _ _ _
/-- A stored row leaves the other rows. -/
theorem canon_miss (k : Fin k0_t1_loop.trips) (w : FVec Ideal S1x50x256 .f32) (L) (i s : Fin 50) (j : Fin 256) (h : i.val ≠ k.val) :
    View.canon (Val := Elt Ideal) (s := S50x50x256) (e := .f32) (⟨Rect.unit (s := S50x50x256) (k0_off1 k) S1x50x256.size (k0_off1_inb k), w⟩ :: L) (ix3 i s j)
      = View.canon L (ix3 i s j) := by
  refine View.canon_cons_of_not_mem _ _ fun hm => h ?_
  have h0 : k0_off1 k 0 = k.val := by rw [off1_eq]; rfl
  have h1 := (Rect.mem_set_unit (inb := k0_off1_inb k)).1 hm (0 : Fin 3)
  have h2 : k0_off1 k 0 ≤ i.val ∧ i.val < k0_off1 k 0 + 1 := h1
  omega

/-- Before trip `n` the carried values hold the model's state, and the rows below `n` of the results are filled. -/
theorem kat_of (h : StagedOf m P c t j) (n : ℕ) (hn : n ≤ 50) :
    CarriedOf P (P.at_ n) (kat m c t n).1 j
    ∧ (∀ s : Fin 50, (kat m c t n).1.2.2.2.2.1 (ix2 s j) = if s.val < n then P.prob (P.at_ s) (P.choice (P.at_ s) s) else 0)
    ∧ (∀ s : Fin 50, (kat m c t n).1.2.2.2.2.2.1 (ix2 s j) = if s.val < n then BitVec.ofNat 32 (P.choice (P.at_ s) s).val else 0#32)
    ∧ (∀ i s : Fin 50, i.val < n → View.canon (Val := Elt Ideal) (s := S50x50x256) (e := .f32) (kat m c t n).2 (ix3 i s j) = P.prob (P.at_ i) s) := by
  induction n with
  | zero =>
    rw [kat_zero]
    refine ⟨⟨fun i => ?_, fun i => ?_, fun s => ?_, fun l => ?_, fun s => ?_⟩, fun s => ?_, fun s => ?_, fun i s hi => by omega⟩
    · pointwise [kinit, k0_pay27]; rfl
    · pointwise [kinit, k0_pay27]; rfl
    · pointwise [kinit, k0_pay28]; simp [Row.at_, Row.init]
    · pointwise [kinit, k0_pay29]; simp [Row.at_, Row.init]
    · pointwise [kinit, k0_pay1, kernelRun0_A.sl.cst_54]; simp [Row.at_, Row.init]
    · pointwise [kinit, k0_pay30]; simp
    · pointwise [kinit, k0_pay31]; simp
  | succ n ih =>
    obtain ⟨hc, hp, hi, hr⟩ := ih (by omega)
    have hB := kblocks_of h
    rw [kat_succ m c t ⟨n, hn⟩]
    refine ⟨?_, fun s => ?_, fun s => ?_, fun i s hi => ?_⟩
    · rw [Row.at_succ P (⟨n, hn⟩ : Fin 50)]; exact kstep_of hB hc _
    · refine (kstep_p1 hB hc ⟨n, hn⟩ s).trans ?_
      by_cases hs : s = ⟨n, hn⟩
      · subst hs; simp
      · have : s.val ≠ n := fun e => hs (Fin.ext e)
        rw [if_neg hs, hp]
        have : s.val < n ↔ s.val < n + 1 := by omega
        simp only [this]
    · refine (kstep_ia hB hc ⟨n, hn⟩ s).trans ?_
      by_cases hs : s = ⟨n, hn⟩
      · subst hs; simp
      · have : s.val ≠ n := fun e => hs (Fin.ext e)
        rw [if_neg hs, hi]
        have : s.val < n ↔ s.val < n + 1 := by omega
        simp only [this]
    · by_cases hs : i = ⟨n, hn⟩
      · subst hs
        refine (canon_hit _ _ _ s j).trans ?_
        pointwise [k0_pay5]
        exact pay13_eq hB hc s
      · have : i.val ≠ n := fun e => hs (Fin.ext e)
        exact (canon_miss _ _ _ i s j this).trans (hr i s (by omega))

/-- The first output: slot `s`'s probability at step `i`. -/
theorem out16 (h : StagedOf m P c t j) (i s : Fin 50) : (outsAt0 m c t).1 (ix3 i s j) = P.prob (P.at_ i) s := by
  rw [outs16]; exact (kat_of h 50 le_rfl).2.2.2 i s i.isLt
/-- The second output: the chosen slot's probability at step `s`. -/
theorem out17 (h : StagedOf m P c t j) (s : Fin 50) : (outsAt0 m c t).2.1 (ix2 s j) = P.prob (P.at_ s) (P.choice (P.at_ s) s) := by
  rw [outs17]; exact ((kat_of h 50 le_rfl).2.1 s).trans (if_pos s.isLt)
/-- The third output: the slot chosen at step `s`. -/
theorem out18 (h : StagedOf m P c t j) (s : Fin 50) :
    (outsAt0 m c t).2.2.1 (ix2 s j) = BitVec.ofNat 32 (P.choice (P.at_ s) s).val := by
  rw [outs18]; exact ((kat_of h 50 le_rfl).2.2.1 s).trans (if_pos s.isLt)
/-- The fourth output: slot `s`'s final score. -/
theorem out19 (h : StagedOf m P c t j) (s : Fin 50) : (outsAt0 m c t).2.2.2 (ix2 s j) = (P.at_ 50).sc s := by
  rw [outs19]; exact (kat_of h 50 le_rfl).1.sa s
end Cert.KernelIdeal.Value
-- ==== Proof.KernelBlocks.lean ====
module
public import proofs.«01_k».proof.Proof.KernelLoop
@[expose] public section
set_option maxHeartbeats 1000000
noncomputable section
/-! Where each grid point's blocks lie in the launch's arrays, and the whole result arrays. -/
namespace Cert.KernelIdeal.Value
open Idealize.ShloMosaic Cert.KernelIdeal.Gen Idealize.ShloMosaic.StableHlo
open Cert.Model (Row)
variable (m : (ℓ : Loc nD τ sig) → Buf (Elt Ideal) ℓ) (c : Dev nD) (t : Fin cfg0.N)

/-- Column `j` of grid point `t` is a batch row. -/
theorem colLt (t : Fin cfg0.N) (j : Fin 256) : 256 * t.val + j.val < 1024 := by
  have := t.isLt; have : cfg0.N = 4 := by decide
  omega
/-- The batch row that column `j` of grid point `t` holds. -/
def col (t : Fin cfg0.N) (j : Fin 256) : Fin 1024 := ⟨256 * t.val + j.val, colLt t j⟩

/-- An embedding that shifts each of two axes by a multiple that is zero is the identity. -/
theorem whole2 {n0 n1 : ℕ} {e : (⟨2, ![n0, n1]⟩ : Shape).Idx → (⟨2, ![n0, n1]⟩ : Shape).Idx} {i0 i1 : ℕ}
    (h0 : ∀ y, (e y 0).val = i0 * n0 + 1 * (y 0).val) (h1 : ∀ y, (e y 1).val = i1 * n1 + 1 * (y 1).val)
    (hi : i0 = 0 ∧ i1 = 0) (y) : e y = y := by
  obtain ⟨rfl, rfl⟩ := hi
  funext a; apply Fin.ext
  fin_cases a
  · exact (h0 y).trans (by show 0 * n0 + 1 * (y 0).val = (y 0).val; omega)
  · exact (h1 y).trans (by show 0 * n1 + 1 * (y 1).val = (y 1).val; omega)
/-- An embedding that shifts only the second of two axes. -/
theorem shift2 {n0 n1 N1 : ℕ} {e : (⟨2, ![n0, n1]⟩ : Shape).Idx → (⟨2, ![n0, N1]⟩ : Shape).Idx} {i0 i1 : ℕ}
    (h0 : ∀ y, (e y 0).val = i0 * n0 + 1 * (y 0).val) (h1 : ∀ y, (e y 1).val = i1 * n1 + 1 * (y 1).val)
    (k : ℕ) (hi : i0 = 0 ∧ i1 = k) (a : Fin n0) (b : Fin n1) (b' : Fin N1) (hb : b'.val = n1 * k + b.val) : e (ix2 a b) = ix2 a b' := by
  obtain ⟨rfl, rfl⟩ := hi
  funext x; apply Fin.ext
  fin_cases x
  · exact (h0 _).trans (by show 0 * n0 + 1 * a.val = a.val; omega)
  · exact (h1 _).trans (by show i1 * n1 + 1 * b.val = b'.val; rw [hb, Nat.mul_comm]; omega)
/-- An embedding that shifts only the middle of three axes. -/
theorem shift3m {n0 n1 n2 N1 : ℕ} {e : (⟨3, ![n0, n1, n2]⟩ : Shape).Idx → (⟨3, ![n0, N1, n2]⟩ : Shape).Idx} {i0 i1 i2 : ℕ}
    (h0 : ∀ y, (e y 0).val = i0 * n0 + 1 * (y 0).val) (h1 : ∀ y, (e y 1).val = i1 * n1 + 1 * (y 1).val)
    (h2 : ∀ y, (e y 2).val = i2 * n2 + 1 * (y 2).val)
    (k : ℕ) (hi : i0 = 0 ∧ i1 = k ∧ i2 = 0) (a : Fin n0) (b : Fin n1) (d : Fin n2) (b' : Fin N1) (hb : b'.val = n1 * k + b.val) :
    e (ix3 a b d) = ix3 a b' d := by
  obtain ⟨rfl, rfl, rfl⟩ := hi
  funext x; apply Fin.ext
  fin_cases x
  · exact (h0 _).trans (by show 0 * n0 + 1 * a.val = a.val; omega)
  · exact (h1 _).trans (by show i1 * n1 + 1 * b.val = b'.val; rw [hb, Nat.mul_comm]; omega)
  · exact (h2 _).trans (by show 0 * n2 + 1 * d.val = d.val; omega)
/-- An embedding that shifts only the last of three axes. -/
theorem shift3l {n0 n1 n2 N2 : ℕ} {e : (⟨3, ![n0, n1, n2]⟩ : Shape).Idx → (⟨3, ![n0, n1, N2]⟩ : Shape).Idx} {i0 i1 i2 : ℕ}
    (h0 : ∀ y, (e y 0).val = i0 * n0 + 1 * (y 0).val) (h1 : ∀ y, (e y 1).val = i1 * n1 + 1 * (y 1).val)
    (h2 : ∀ y, (e y 2).val = i2 * n2 + 1 * (y 2).val)
    (k : ℕ) (hi : i0 = 0 ∧ i1 = 0 ∧ i2 = k) (a : Fin n0) (b : Fin n1) (d : Fin n2) (d' : Fin N2) (hd : d'.val = n2 * k + d.val) :
    e (ix3 a b d) = ix3 a b d' := by
  obtain ⟨rfl, rfl, rfl⟩ := hi
  funext x; apply Fin.ext
  fin_cases x
  · exact (h0 _).trans (by show 0 * n0 + 1 * a.val = a.val; omega)
  · exact (h1 _).trans (by show 0 * n1 + 1 * b.val = b.val; omega)
  · exact (h2 _).trans (by show i2 * n2 + 1 * d.val = d'.val; rw [hd, Nat.mul_comm]; omega)

/-- Block 0 at grid point `t` is its columns of the transposed items. -/
theorem blk0_at (s : Fin 50) (j : Fin 256) (f : Fin 128) : blk0 m c t (ix3 s j f) = V m c main_v12 (ix3 (n0 := 50) s (col t j) f) :=
  congrArg (V m c main_v12) (shift3m (fun _ => rfl) (fun _ => rfl) (fun _ => rfl) t.val
    ((by decide +kernel : ∀ t : Fin cfg0.N, win0_0.index t 0 = 0 ∧ win0_0.index t 1 = t.val ∧ win0_0.index t 2 = 0) t) s j f (col t j) rfl)
/-- Block 1 at grid point `t` is its columns of the transposed noise. -/
theorem blk1_at (k s : Fin 50) (j : Fin 256) : blk1 m c t (ix3 k s j) = V m c main_v11 (ix3 (n0 := 50) k s (col t j)) :=
  congrArg (V m c main_v11) (shift3l (fun _ => rfl) (fun _ => rfl) (fun _ => rfl) t.val
    ((by decide +kernel : ∀ t : Fin cfg0.N, win0_1.index t 0 = 0 ∧ win0_1.index t 1 = 0 ∧ win0_1.index t 2 = t.val) t) k s j (col t j) rfl)

variable {m c}
/-- Every slot's probability at every step, for rows `P`. -/
def res0 (P : Fin 1024 → Row) : Vec Ideal S50x50x1024 .f32 := fun y => (P (y 2)).prob ((P (y 2)).at_ (y 0).val) (y 1)
/-- The chosen slot's probability at every step. -/
def res1 (P : Fin 1024 → Row) : Vec Ideal S50x1024 .f32 :=
  fun y => (P (y 1)).prob ((P (y 1)).at_ (y 0).val) ((P (y 1)).choice ((P (y 1)).at_ (y 0).val) (y 0))
/-- The slot chosen at every step. -/
def res2 (P : Fin 1024 → Row) : Vec Ideal S50x1024 .i32 :=
  fun y => BitVec.ofNat 32 ((P (y 1)).choice ((P (y 1)).at_ (y 0).val) (y 0)).val
/-- The final scores. -/
def res3 (P : Fin 1024 → Row) : Vec Ideal S50x1024 .f32 := fun y => ((P (y 1)).at_ 50).sc (y 0)

variable {P : Fin 1024 → Row}
/-- The first result array. -/
theorem arr16 (h : ∀ t j, StagedOf m (P (col t j)) c t j) : (dats m 0 c).arrAt 16 cfg0.N = res0 P := by
  refine (dats m 0 c).arrAt_eq_of_covers 16 _ (by decide +kernel) fun t hf y => ?_
  blk_simp
  rw [after0_16]
  obtain ⟨i, s, j, rfl⟩ : ∃ i s j, y = (ix3 i s j : S50x50x256.Idx) := ⟨y 0, y 1, y 2, eq_ix3 y⟩
  have e : (win0_16.blk t).view.emb (ix3 i s j) = (ix3 i s (col t j) : S50x50x1024.Idx) :=
    shift3l (fun _ => rfl) (fun _ => rfl) (fun _ => rfl) t.val
      ((by decide +kernel : ∀ t : Fin cfg0.N, win0_16.index t 0 = 0 ∧ win0_16.index t 1 = 0 ∧ win0_16.index t 2 = t.val) t) i s j (col t j) rfl
  exact (out16 (h t j) i s).trans (congrArg (res0 P) e).symm
/-- The second result array. -/
theorem arr17 (h : ∀ t j, StagedOf m (P (col t j)) c t j) : (dats m 0 c).arrAt 17 cfg0.N = res1 P := by
  refine (dats m 0 c).arrAt_eq_of_covers 17 _ (by decide +kernel) fun t hf y => ?_
  blk_simp
  rw [after0_17]
  obtain ⟨s, j, rfl⟩ : ∃ s j, y = (ix2 s j : S50x256.Idx) := ⟨y 0, y 1, eq_ix2 y⟩
  have e : (win0_17.blk t).view.emb (ix2 s j) = (ix2 s (col t j) : S50x1024.Idx) :=
    shift2 (fun _ => rfl) (fun _ => rfl) t.val
      ((by decide +kernel : ∀ t : Fin cfg0.N, win0_17.index t 0 = 0 ∧ win0_17.index t 1 = t.val) t) s j (col t j) rfl
  exact (out17 (h t j) s).trans (congrArg (res1 P) e).symm
/-- The third result array. -/
theorem arr18 (h : ∀ t j, StagedOf m (P (col t j)) c t j) : (dats m 0 c).arrAt 18 cfg0.N = res2 P := by
  refine (dats m 0 c).arrAt_eq_of_covers 18 _ (by decide +kernel) fun t hf y => ?_
  blk_simp
  rw [after0_18]
  obtain ⟨s, j, rfl⟩ : ∃ s j, y = (ix2 s j : S50x256.Idx) := ⟨y 0, y 1, eq_ix2 y⟩
  have e : (win0_18.blk t).view.emb (ix2 s j) = (ix2 s (col t j) : S50x1024.Idx) :=
    shift2 (fun _ => rfl) (fun _ => rfl) t.val
      ((by decide +kernel : ∀ t : Fin cfg0.N, win0_18.index t 0 = 0 ∧ win0_18.index t 1 = t.val) t) s j (col t j) rfl
  exact (out18 (h t j) s).trans (congrArg (res2 P) e).symm
/-- The fourth result array. -/
theorem arr19 (h : ∀ t j, StagedOf m (P (col t j)) c t j) : (dats m 0 c).arrAt 19 cfg0.N = res3 P := by
  refine (dats m 0 c).arrAt_eq_of_covers 19 _ (by decide +kernel) fun t hf y => ?_
  blk_simp
  rw [after0_19]
  obtain ⟨s, j, rfl⟩ : ∃ s j, y = (ix2 s j : S50x256.Idx) := ⟨y 0, y 1, eq_ix2 y⟩
  have e : (win0_19.blk t).view.emb (ix2 s j) = (ix2 s (col t j) : S50x1024.Idx) :=
    shift2 (fun _ => rfl) (fun _ => rfl) t.val
      ((by decide +kernel : ∀ t : Fin cfg0.N, win0_19.index t 0 = 0 ∧ win0_19.index t 1 = t.val) t) s j (col t j) rfl
  exact (out19 (h t j) s).trans (congrArg (res3 P) e).symm
end Cert.KernelIdeal.Value
-- ==== Proof.KernelHost.lean ====
module
public import proofs.«01_k».proof.Proof.KernelBlocks
public import proofs.«01_k».proof.Proof.Rows
public import Idealize.ShloMosaic.Lib.StableHlo.RunRead
@[expose] public section
set_option maxHeartbeats 1000000
noncomputable section
/-! The arrays the host hands to the kernel, read entry by entry from the arguments. -/
namespace Cert.KernelIdeal.Value
open Idealize.ShloMosaic Cert.KernelIdeal.Gen Idealize.ShloMosaic.StableHlo
open Cert.Model (Row Args)
variable (m : (ℓ : Loc nD τ sig) → Buf (Elt Ideal) ℓ) (c : Dev nD) (t : Fin cfg0.N)

/-- Block 2 is its whole array. -/
theorem blk2_at (y : S128x32.Idx) : blk2 m c t y = V m c main_arg1 y := by
  have e : (win0_2.blk t).view.emb y = y := whole2 (fun _ => rfl) (fun _ => rfl)
    ((by decide +kernel : ∀ t : Fin cfg0.N, win0_2.index t 0 = 0 ∧ win0_2.index t 1 = 0) t) y
  unfold blk2 iblk View.read
  generalize V m c = v
  exact congrArg (v main_arg1) e
/-- Block 3 is its whole array. -/
theorem blk3_at (y : S1x32.Idx) : blk3 m c t y = V m c main_v42 y := by
  have e : (win0_3.blk t).view.emb y = y := whole2 (fun _ => rfl) (fun _ => rfl)
    ((by decide +kernel : ∀ t : Fin cfg0.N, win0_3.index t 0 = 0 ∧ win0_3.index t 1 = 0) t) y
  unfold blk3 iblk View.read
  generalize V m c = v
  exact congrArg (v main_v42) e
/-- Block 4 is its whole array. -/
theorem blk4_at (y : S32x16.Idx) : blk4 m c t y = V m c main_arg3 y := by
  have e : (win0_4.blk t).view.emb y = y := whole2 (fun _ => rfl) (fun _ => rfl)
    ((by decide +kernel : ∀ t : Fin cfg0.N, win0_4.index t 0 = 0 ∧ win0_4.index t 1 = 0) t) y
  unfold blk4 iblk View.read
  generalize V m c = v
  exact congrArg (v main_arg3) e
/-- Block 5 is its whole array. -/
theorem blk5_at (y : S1x16.Idx) : blk5 m c t y = V m c main_v43 y := by
  have e : (win0_5.blk t).view.emb y = y := whole2 (fun _ => rfl) (fun _ => rfl)
    ((by decide +kernel : ∀ t : Fin cfg0.N, win0_5.index t 0 = 0 ∧ win0_5.index t 1 = 0) t) y
  unfold blk5 iblk View.read
  generalize V m c = v
  exact congrArg (v main_v43) e
/-- Block 6 is its whole array. -/
theorem blk6_at (y : S128x128.Idx) : blk6 m c t y = V m c main_v13 y := by
  have e : (win0_6.blk t).view.emb y = y := whole2 (fun _ => rfl) (fun _ => rfl)
    ((by decide +kernel : ∀ t : Fin cfg0.N, win0_6.index t 0 = 0 ∧ win0_6.index t 1 = 0) t) y
  unfold blk6 iblk View.read
  generalize V m c = v
  exact congrArg (v main_v13) e
/-- Block 7 is its whole array. -/
theorem blk7_at (y : S32x128.Idx) : blk7 m c t y = V m c main_v14 y := by
  have e : (win0_7.blk t).view.emb y = y := whole2 (fun _ => rfl) (fun _ => rfl)
    ((by decide +kernel : ∀ t : Fin cfg0.N, win0_7.index t 0 = 0 ∧ win0_7.index t 1 = 0) t) y
  unfold blk7 iblk View.read
  generalize V m c = v
  exact congrArg (v main_v14) e
/-- Block 8 is its whole array. -/
theorem blk8_at (y : S1x128.Idx) : blk8 m c t y = V m c main_v44 y := by
  have e : (win0_8.blk t).view.emb y = y := whole2 (fun _ => rfl) (fun _ => rfl)
    ((by decide +kernel : ∀ t : Fin cfg0.N, win0_8.index t 0 = 0 ∧ win0_8.index t 1 = 0) t) y
  unfold blk8 iblk View.read
  generalize V m c = v
  exact congrArg (v main_v44) e
/-- Block 9 is its whole array. -/
theorem blk9_at (y : S16x32.Idx) : blk9 m c t y = V m c main_v15 y := by
  have e : (win0_9.blk t).view.emb y = y := whole2 (fun _ => rfl) (fun _ => rfl)
    ((by decide +kernel : ∀ t : Fin cfg0.N, win0_9.index t 0 = 0 ∧ win0_9.index t 1 = 0) t) y
  unfold blk9 iblk View.read
  generalize V m c = v
  exact congrArg (v main_v15) e
/-- Block 10 is its whole array. -/
theorem blk10_at (y : S32x256.Idx) : blk10 m c t y = V m c main_v19 y := by
  have e : (win0_10.blk t).view.emb y = y := whole2 (fun _ => rfl) (fun _ => rfl)
    ((by decide +kernel : ∀ t : Fin cfg0.N, win0_10.index t 0 = 0 ∧ win0_10.index t 1 = 0) t) y
  unfold blk10 iblk View.read
  generalize V m c = v
  exact congrArg (v main_v19) e
/-- Block 11 is its whole array. -/
theorem blk11_at (y : S1x256.Idx) : blk11 m c t y = V m c main_v23 y := by
  have e : (win0_11.blk t).view.emb y = y := whole2 (fun _ => rfl) (fun _ => rfl)
    ((by decide +kernel : ∀ t : Fin cfg0.N, win0_11.index t 0 = 0 ∧ win0_11.index t 1 = 0) t) y
  unfold blk11 iblk View.read
  generalize V m c = v
  exact congrArg (v main_v23) e
/-- Block 12 is its whole array. -/
theorem blk12_at (y : S256x128.Idx) : blk12 m c t y = V m c main_v30 y := by
  have e : (win0_12.blk t).view.emb y = y := whole2 (fun _ => rfl) (fun _ => rfl)
    ((by decide +kernel : ∀ t : Fin cfg0.N, win0_12.index t 0 = 0 ∧ win0_12.index t 1 = 0) t) y
  unfold blk12 iblk View.read
  generalize V m c = v
  exact congrArg (v main_v30) e
/-- Block 13 is its whole array. -/
theorem blk13_at (y : S1x128.Idx) : blk13 m c t y = V m c main_v34 y := by
  have e : (win0_13.blk t).view.emb y = y := whole2 (fun _ => rfl) (fun _ => rfl)
    ((by decide +kernel : ∀ t : Fin cfg0.N, win0_13.index t 0 = 0 ∧ win0_13.index t 1 = 0) t) y
  unfold blk13 iblk View.read
  generalize V m c = v
  exact congrArg (v main_v34) e
/-- Block 14 is its whole array. -/
theorem blk14_at (y : S128x8.Idx) : blk14 m c t y = V m c main_v41 y := by
  have e : (win0_14.blk t).view.emb y = y := whole2 (fun _ => rfl) (fun _ => rfl)
    ((by decide +kernel : ∀ t : Fin cfg0.N, win0_14.index t 0 = 0 ∧ win0_14.index t 1 = 0) t) y
  unfold blk14 iblk View.read
  generalize V m c = v
  exact congrArg (v main_v41) e
/-- Block 15 is its whole array. -/
theorem blk15_at (y : S1x1.Idx) : blk15 m c t y = V m c main_v45 y := by
  have e : (win0_15.blk t).view.emb y = y := whole2 (fun _ => rfl) (fun _ => rfl)
    ((by decide +kernel : ∀ t : Fin cfg0.N, win0_15.index t 0 = 0 ∧ win0_15.index t 1 = 0) t) y
  unfold blk15 iblk View.read
  generalize V m c = v
  exact congrArg (v main_v45) e

/-- The host's operations after the noise. -/
abbrev opsTail : List (HloOp τ sig (Elt Ideal)) := List.flatten [hostOps0_3, hostOps0_4, hostOps0_5, hostOps0_6, hostOps0_7]
/-- The host's operations up to and including the noise. -/
abbrev opsHead : List (HloOp τ sig (Elt Ideal)) := List.flatten [hostOps0, hostOps0_1, hostOps0_2]
/-- The memory once the noise is made. -/
def U : Valuation τ sig (Elt Ideal) := after opsHead (fun b => m (c, b))
/-- The launch's arrays are those that the operations after the noise leave. -/
theorem V0_eq : V0 m c = after opsTail (U m c) := by
  unfold U; rw [← after_append]; rfl

variable (W : Valuation τ sig (Elt Ideal))
/-- The comparison of two block numbers, as a one or a zero. -/
theorem eye_entry {a b : ℕ} (ha : a < 100) (hb : b < 100) : (FloatOps.uitofp (F := Ideal) FTy.f32
    (IntOp.cmpi CmpIPredicate.eq (IntOp.addi (BitVec.ofNat 32 a) 0#32) (BitVec.ofNat 32 b)) : EReal) = if a = b then 1 else 0 := by
  have e : IntOp.addi (BitVec.ofNat 32 a) 0#32 = BitVec.ofNat 32 a := by simp [IntOp.addi]
  rw [e]
  by_cases h : a = b
  · subst h
    simp [IntOp.cmpi, FloatOps.uitofp]
  · have : (BitVec.ofNat 32 a == BitVec.ofNat 32 b) = false :=
      beq_eq_false_iff_ne.2 fun e => h ((Cert.Model.ofNat_inj ha hb).1 e)
    simp [IntOp.cmpi, FloatOps.uitofp, h, this]
/-- An entry of the block-diagonal second weight before it is flattened. -/
theorem kron2 (w : Vec Ideal S32x16 .f32) (a b : Fin 8) (i : Fin 32) (l : Fin 16) :
    (mulf (broadcastInDim S8x32x8x16 ![0, 1, 2, 3] bcast_S8x1x8x1_S8x32x8x16_0_1_2_3
          (broadcastInDim S8x1x8x1 ![0, 2] bcast_S8x8_S8x1x8x1_0_2 (uitofp FTy.f32
                (cmpi CmpIPredicate.eq
                  (addi (iotaInDim S8x8 32 0) (broadcastInDim S8x8 ![] bcast_S_S8x8 (constantI S_ 32 0#32)))
                  (iotaInDim S8x8 32 1)))))
        (broadcastInDim S8x32x8x16 ![0, 1, 2, 3] bcast_S1x32x1x16_S8x32x8x16_0_1_2_3
          (broadcastInDim S1x32x1x16 ![1, 3] bcast_S32x16_S1x32x1x16_1_3 w)) : FVec Ideal S8x32x8x16 .f32) (ix4 a i b l)
      = if a.val = b.val then w (ix2 i l) else 0 := by
  pointwise
  refine (congrArg (· * _) (eye_entry (by omega) (by omega))).trans ?_
  by_cases h : a.val = b.val
  · rw [if_pos h, if_pos h, one_mul]
  · rw [if_neg h, if_neg h, zero_mul]
/-- An entry of the block-diagonal third weight before it is flattened. -/
theorem kron3 (w : Vec Ideal S16x1 .f32) (a b : Fin 8) (i : Fin 16) :
    (mulf (broadcastInDim S8x16x8x1 ![0, 1, 2, 3] bcast_S8x1x8x1_S8x16x8x1_0_1_2_3
          (broadcastInDim S8x1x8x1 ![0, 2] bcast_S8x8_S8x1x8x1_0_2 (uitofp FTy.f32
                (cmpi CmpIPredicate.eq
                  (addi (iotaInDim S8x8 32 0) (broadcastInDim S8x8 ![] bcast_S_S8x8 (constantI S_ 32 0#32)))
                  (iotaInDim S8x8 32 1)))))
        (broadcastInDim S8x16x8x1 ![0, 1, 2, 3] bcast_S1x16x1x1_S8x16x8x1_0_1_2_3
          (broadcastInDim S1x16x1x1 ![1, 3] bcast_S16x1_S1x16x1x1_1_3 w)) : FVec Ideal S8x16x8x1 .f32) (ix4 a i b 0)
      = if a.val = b.val then w (ix2 i 0) else 0 := by
  pointwise
  refine (congrArg (· * _) (eye_entry (by omega) (by omega))).trans ?_
  by_cases h : a.val = b.val
  · rw [if_pos h, if_pos h, one_mul]
  · rw [if_neg h, if_neg h, zero_mul]
/-- The host's `v11`, entry by entry. -/
theorem tail_v11 (t : Fin 50) (s : Fin 50) (j : Fin 1024) : (after opsTail W (Proc.devRef .tc main_v11) : Vec Ideal S50x50x1024 .f32) (ix3 t s j)
    = (W (Proc.devRef .tc main_v10) : Vec Ideal S50x1024x50 .f32) (ix3 t j s) := by
  simp only [opsTail, hostOps0_3, hostOps0_4, hostOps0_5, hostOps0_6, hostOps0_7, List.flatten_cons, List.flatten_nil, List.append_nil, List.cons_append, List.nil_append]
  after_results
  try simp only [TRef.ofBuf_toBuf]
  pointwise
/-- The host's `v12`, entry by entry. -/
theorem tail_v12 (s : Fin 50) (j : Fin 1024) (f : Fin 128) : (after opsTail W (Proc.devRef .tc main_v12) : Vec Ideal S50x1024x128 .f32) (ix3 s j f)
    = (W (Proc.devRef .tc main_arg0) : Vec Ideal S1024x50x128 .f32) (ix3 j s f) := by
  simp only [opsTail, hostOps0_3, hostOps0_4, hostOps0_5, hostOps0_6, hostOps0_7, List.flatten_cons, List.flatten_nil, List.append_nil, List.cons_append, List.nil_append]
  after_results
  try simp only [TRef.ofBuf_toBuf]
  pointwise
/-- The host's `v13`, entry by entry. -/
theorem tail_v13 (i : Fin 128) (l : Fin 128) : (after opsTail W (Proc.devRef .tc main_v13) : Vec Ideal S128x128 .f32) (ix2 i l)
    = (W (Proc.devRef .tc main_arg5) : Vec Ideal S160x128 .f32) (ix2 ⟨i.val, by omega⟩ l) := by
  simp only [opsTail, hostOps0_3, hostOps0_4, hostOps0_5, hostOps0_6, hostOps0_7, List.flatten_cons, List.flatten_nil, List.append_nil, List.cons_append, List.nil_append]
  after_results
  try simp only [TRef.ofBuf_toBuf]
  pointwise
/-- The host's `v14`, entry by entry. -/
theorem tail_v14 (i : Fin 32) (l : Fin 128) : (after opsTail W (Proc.devRef .tc main_v14) : Vec Ideal S32x128 .f32) (ix2 i l)
    = (W (Proc.devRef .tc main_arg5) : Vec Ideal S160x128 .f32) (ix2 ⟨128 + i.val, by omega⟩ l) := by
  simp only [opsTail, hostOps0_3, hostOps0_4, hostOps0_5, hostOps0_6, hostOps0_7, List.flatten_cons, List.flatten_nil, List.append_nil, List.cons_append, List.nil_append]
  after_results
  try simp only [TRef.ofBuf_toBuf]
  pointwise
/-- The host's `v15`, entry by entry. -/
theorem tail_v15 (i : Fin 16) (l : Fin 32) : (after opsTail W (Proc.devRef .tc main_v15) : Vec Ideal S16x32 .f32) (ix2 i l)
    = (W (Proc.devRef .tc main_arg7) : Vec Ideal S48x32 .f32) (ix2 ⟨i.val, by omega⟩ l) := by
  simp only [opsTail, hostOps0_3, hostOps0_4, hostOps0_5, hostOps0_6, hostOps0_7, List.flatten_cons, List.flatten_nil, List.append_nil, List.cons_append, List.nil_append]
  after_results
  try simp only [TRef.ofBuf_toBuf]
  pointwise
/-- The host's `v19`, entry by entry. -/
theorem tail_v19 (i : Fin 32) (l : Fin 256) : (after opsTail W (Proc.devRef .tc main_v19) : Vec Ideal S32x256 .f32) (ix2 i l)
    = (W (Proc.devRef .tc main_arg7) : Vec Ideal S48x32 .f32) (ix2 ⟨16 + i.val, by omega⟩ ⟨l.val % 32, Nat.mod_lt _ (by decide)⟩) := by
  simp only [opsTail, hostOps0_3, hostOps0_4, hostOps0_5, hostOps0_6, hostOps0_7, List.flatten_cons, List.flatten_nil, List.append_nil, List.cons_append, List.nil_append]
  after_results
  try simp only [TRef.ofBuf_toBuf]
  pointwise
/-- The host's `v23`, entry by entry. -/
theorem tail_v23 (l : Fin 256) : (after opsTail W (Proc.devRef .tc main_v23) : Vec Ideal S1x256 .f32) (ix2 0 l)
    = (W (Proc.devRef .tc main_arg8) : Vec Ideal S32 .f32) (ix1 ⟨l.val % 32, Nat.mod_lt _ (by decide)⟩) := by
  simp only [opsTail, hostOps0_3, hostOps0_4, hostOps0_5, hostOps0_6, hostOps0_7, List.flatten_cons, List.flatten_nil, List.append_nil, List.cons_append, List.nil_append]
  after_results
  try simp only [TRef.ofBuf_toBuf]
  pointwise
/-- The host's `v30`, entry by entry. -/
theorem tail_v30 (i : Fin 256) (l : Fin 128) : (after opsTail W (Proc.devRef .tc main_v30) : Vec Ideal S256x128 .f32) (ix2 i l)
    = (if i.val / 32 = l.val / 16 then (W (Proc.devRef .tc main_arg9) : Vec Ideal S32x16 .f32) (ix2 ⟨i.val % 32, Nat.mod_lt _ (by decide)⟩ ⟨l.val % 16, Nat.mod_lt _ (by decide)⟩) else 0 : EReal) := by
  simp only [opsTail, hostOps0_3, hostOps0_4, hostOps0_5, hostOps0_6, hostOps0_7, List.flatten_cons, List.flatten_nil, List.append_nil, List.cons_append, List.nil_append]
  after_results
  try simp only [TRef.ofBuf_toBuf]
  pointwise
  exact kron2 (W (Proc.tc.devRef main_arg9)) _ _ _ _
/-- The host's `v34`, entry by entry. -/
theorem tail_v34 (l : Fin 128) : (after opsTail W (Proc.devRef .tc main_v34) : Vec Ideal S1x128 .f32) (ix2 0 l)
    = (W (Proc.devRef .tc main_arg10) : Vec Ideal S16 .f32) (ix1 ⟨l.val % 16, Nat.mod_lt _ (by decide)⟩) := by
  simp only [opsTail, hostOps0_3, hostOps0_4, hostOps0_5, hostOps0_6, hostOps0_7, List.flatten_cons, List.flatten_nil, List.append_nil, List.cons_append, List.nil_append]
  after_results
  try simp only [TRef.ofBuf_toBuf]
  pointwise
/-- The host's `v41`, entry by entry. -/
theorem tail_v41 (i : Fin 128) (l : Fin 8) : (after opsTail W (Proc.devRef .tc main_v41) : Vec Ideal S128x8 .f32) (ix2 i l)
    = (if i.val / 16 = l.val then (W (Proc.devRef .tc main_arg11) : Vec Ideal S16x1 .f32) (ix2 ⟨i.val % 16, Nat.mod_lt _ (by decide)⟩ 0) else 0 : EReal) := by
  simp only [opsTail, hostOps0_3, hostOps0_4, hostOps0_5, hostOps0_6, hostOps0_7, List.flatten_cons, List.flatten_nil, List.append_nil, List.cons_append, List.nil_append]
  after_results
  try simp only [TRef.ofBuf_toBuf]
  pointwise
  exact kron3 (W (Proc.tc.devRef main_arg11)) _ _ _
/-- The host's `v42`, entry by entry. -/
theorem tail_v42 (l : Fin 32) : (after opsTail W (Proc.devRef .tc main_v42) : Vec Ideal S1x32 .f32) (ix2 0 l)
    = (W (Proc.devRef .tc main_arg2) : Vec Ideal S32 .f32) (ix1 l) := by
  simp only [opsTail, hostOps0_3, hostOps0_4, hostOps0_5, hostOps0_6, hostOps0_7, List.flatten_cons, List.flatten_nil, List.append_nil, List.cons_append, List.nil_append]
  after_results
  try simp only [TRef.ofBuf_toBuf]
  pointwise
/-- The host's `v43`, entry by entry. -/
theorem tail_v43 (l : Fin 16) : (after opsTail W (Proc.devRef .tc main_v43) : Vec Ideal S1x16 .f32) (ix2 0 l)
    = (W (Proc.devRef .tc main_arg4) : Vec Ideal S16 .f32) (ix1 l) := by
  simp only [opsTail, hostOps0_3, hostOps0_4, hostOps0_5, hostOps0_6, hostOps0_7, List.flatten_cons, List.flatten_nil, List.append_nil, List.cons_append, List.nil_append]
  after_results
  try simp only [TRef.ofBuf_toBuf]
  pointwise
/-- The host's `v44`, entry by entry. -/
theorem tail_v44 (l : Fin 128) : (after opsTail W (Proc.devRef .tc main_v44) : Vec Ideal S1x128 .f32) (ix2 0 l)
    = (W (Proc.devRef .tc main_arg6) : Vec Ideal S128 .f32) (ix1 l) := by
  simp only [opsTail, hostOps0_3, hostOps0_4, hostOps0_5, hostOps0_6, hostOps0_7, List.flatten_cons, List.flatten_nil, List.append_nil, List.cons_append, List.nil_append]
  after_results
  try simp only [TRef.ofBuf_toBuf]
  pointwise
/-- The host's `v45`, entry by entry. -/
theorem tail_v45  : (after opsTail W (Proc.devRef .tc main_v45) : Vec Ideal S1x1 .f32) (ix2 0 0)
    = (W (Proc.devRef .tc main_arg12) : Vec Ideal S1 .f32) (ix1 0) := by
  simp only [opsTail, hostOps0_3, hostOps0_4, hostOps0_5, hostOps0_6, hostOps0_7, List.flatten_cons, List.flatten_nil, List.append_nil, List.cons_append, List.nil_append]
  after_results
  try simp only [TRef.ofBuf_toBuf]
  pointwise

/-- What the host's operations after the noise write. -/
abbrev tailW : List (Ref sig .tc) :=
  [main_v11, main_v12, main_v13, main_v14, main_v15, main_v16, main_v17, main_v18, main_v19, main_v20, main_v21,
   main_v22, main_v23, main_v24, main_v25, main_c_2, main_v26, main_v27, main_v28, main_v29, main_call2_v0,
   main_call2_v1, main_call2_v2, main_call2_v3, main_call2_v4, main_v30, main_v31, main_v32, main_v33, main_v34,
   main_v35, main_v36, main_c_3, main_v37, main_v38, main_v39, main_v40, main_call3_v0, main_call3_v1, main_call3_v2,
   main_call3_v3, main_call3_v4, main_v41, main_v42, main_v43, main_v44, main_v45]
/-- They write no argument, so before them an argument that the launch keeps is as launched. -/
theorem U_arg {r : Ref sig .tc} (h : r ∉ tailW) (h0 : V m c r = m (c.tc.loc r)) : U m c (Proc.devRef .tc r) = m (c.tc.loc r) := by
  rw [← h0]
  show _ = V0 m c (Proc.devRef .tc r)
  rw [V0_eq]
  exact (after_unwritten tailW rfl h (U m c)).symm

/-- The arguments as the memory holds them. -/
def args : Args where
  a0 := m (c.tc.loc main_arg0)
  a1 := m (c.tc.loc main_arg1)
  a2 := m (c.tc.loc main_arg2)
  a3 := m (c.tc.loc main_arg3)
  a4 := m (c.tc.loc main_arg4)
  a5 := m (c.tc.loc main_arg5)
  a6 := m (c.tc.loc main_arg6)
  a7 := m (c.tc.loc main_arg7)
  a8 := m (c.tc.loc main_arg8)
  a9 := m (c.tc.loc main_arg9)
  a10 := m (c.tc.loc main_arg10)
  a11 := m (c.tc.loc main_arg11)
  a12 := m (c.tc.loc main_arg12)
/-- The noise the host makes: step, batch row, slot. -/
def noise (k : Fin 50) (b : Fin 1024) (s : Fin 50) : EReal := (U m c (Proc.devRef .tc main_v10) : Vec Ideal S50x1024x50 .f32) (ix3 k b s)
/-- Argument 0 is untouched when the noise is made. -/
theorem U_arg0 : U m c (Proc.devRef .tc main_arg0) = m (c.tc.loc main_arg0) := U_arg m c (by decide) (V_main_arg0 m c)
/-- Argument 5 is untouched when the noise is made. -/
theorem U_arg5 : U m c (Proc.devRef .tc main_arg5) = m (c.tc.loc main_arg5) := U_arg m c (by decide) (V_main_arg5 m c)
/-- Argument 6 is untouched when the noise is made. -/
theorem U_arg6 : U m c (Proc.devRef .tc main_arg6) = m (c.tc.loc main_arg6) := U_arg m c (by decide) (V_main_arg6 m c)
/-- Argument 7 is untouched when the noise is made. -/
theorem U_arg7 : U m c (Proc.devRef .tc main_arg7) = m (c.tc.loc main_arg7) := U_arg m c (by decide) (V_main_arg7 m c)
/-- Argument 8 is untouched when the noise is made. -/
theorem U_arg8 : U m c (Proc.devRef .tc main_arg8) = m (c.tc.loc main_arg8) := U_arg m c (by decide) (V_main_arg8 m c)
/-- Argument 9 is untouched when the noise is made. -/
theorem U_arg9 : U m c (Proc.devRef .tc main_arg9) = m (c.tc.loc main_arg9) := U_arg m c (by decide) (V_main_arg9 m c)
/-- Argument 10 is untouched when the noise is made. -/
theorem U_arg10 : U m c (Proc.devRef .tc main_arg10) = m (c.tc.loc main_arg10) := U_arg m c (by decide) (V_main_arg10 m c)
/-- Argument 11 is untouched when the noise is made. -/
theorem U_arg11 : U m c (Proc.devRef .tc main_arg11) = m (c.tc.loc main_arg11) := U_arg m c (by decide) (V_main_arg11 m c)
/-- Argument 12 is untouched when the noise is made. -/
theorem U_arg12 : U m c (Proc.devRef .tc main_arg12) = m (c.tc.loc main_arg12) := U_arg m c (by decide) (V_main_arg12 m c)
/-- Argument 2 is untouched when the noise is made. -/
theorem U_arg2 : U m c (Proc.devRef .tc main_arg2) = m (c.tc.loc main_arg2) := U_arg m c (by decide) (V_main_arg2 m c)
/-- Argument 4 is untouched when the noise is made. -/
theorem U_arg4 : U m c (Proc.devRef .tc main_arg4) = m (c.tc.loc main_arg4) := U_arg m c (by decide) (V_main_arg4 m c)

/-- The staged blocks hold the rows of the arguments. -/
theorem stagedOf (j : Fin 256) : StagedOf m ((args m c).row (noise m c) (col t j)) c t j where
  item s f := by
    rw [blk0_at]; show V0 m c _ _ = _; rw [V0_eq]
    exact (tail_v12 (U m c) s (col t j) f).trans (congrFun (U_arg0 m c) _)
  enc s e := by
    have h2 (f i) : blk2 m c t (ix2 f i) = (args m c).a1 (ix2 f i) := (blk2_at m c t _).trans (congrFun (V_main_arg1 m c) _)
    have h3 (i) : blk3 m c t (ix2 0 i) = (args m c).a2 (ix1 i) := by
      rw [blk3_at]; show V0 m c _ _ = _; rw [V0_eq]
      exact (tail_v42 (U m c) i).trans (congrFun (U_arg2 m c) _)
    have h4 (f i) : blk4 m c t (ix2 f i) = (args m c).a3 (ix2 f i) := (blk4_at m c t _).trans (congrFun (V_main_arg3 m c) _)
    have h5 (i) : blk5 m c t (ix2 0 i) = (args m c).a4 (ix1 i) := by
      rw [blk5_at]; show V0 m c _ _ = _; rw [V0_eq]
      exact (tail_v43 (U m c) i).trans (congrFun (U_arg4 m c) _)
    simp only [h2, h3, h4, h5]
    rfl
  wx f l := by
    rw [blk6_at]; show V0 m c _ _ = _; rw [V0_eq]
    exact (tail_v13 (U m c) f l).trans (congrFun (U_arg5 m c) _)
  vx e l := by
    rw [blk9_at]; show V0 m c _ _ = _; rw [V0_eq]
    exact (tail_v15 (U m c) e l).trans (congrFun (U_arg7 m c) _)
  c1 l := by
    rw [blk11_at]; show V0 m c _ _ = _; rw [V0_eq]
    exact (tail_v23 (U m c) l).trans (congrFun (U_arg8 m c) _)
  g k s := by
    rw [blk1_at]; show V0 m c _ _ = _; rw [V0_eq]
    exact tail_v11 (U m c) k s (col t j)
  wh i l := by
    rw [blk7_at]; show V0 m c _ _ = _; rw [V0_eq]
    exact (tail_v14 (U m c) i l).trans (congrFun (U_arg5 m c) _)
  bg l := by
    rw [blk8_at]; show V0 m c _ _ = _; rw [V0_eq]
    exact (tail_v44 (U m c) l).trans (congrFun (U_arg6 m c) _)
  w1 i l := by
    rw [blk10_at]; show V0 m c _ _ = _; rw [V0_eq]
    exact (tail_v19 (U m c) i l).trans (congrFun (U_arg7 m c) _)
  w2 i l := by
    rw [blk12_at]; show V0 m c _ _ = _; rw [V0_eq]
    exact (tail_v30 (U m c) i l).trans (by rw [U_arg9]; rfl)
  b2 l := by
    rw [blk13_at]; show V0 m c _ _ = _; rw [V0_eq]
    exact (tail_v34 (U m c) l).trans (congrFun (U_arg10 m c) _)
  w3 i l := by
    rw [blk14_at]; show V0 m c _ _ = _; rw [V0_eq]
    exact (tail_v41 (U m c) i l).trans (by rw [U_arg11]; rfl)
  b3 := by
    rw [blk15_at]; show V0 m c _ _ = _; rw [V0_eq]
    exact (tail_v45 (U m c)).trans (congrFun (U_arg12 m c) _)
end Cert.KernelIdeal.Value
-- ==== Proof.KernelNoise.lean ====
module
public import proofs.«01_k».proof.Proof.KernelHost
public import proofs.«01_k».proof.Proof.Threefry
@[expose] public section
set_option maxHeartbeats 4000000
noncomputable section
/-! The kernel's noise. Its host derives every step's key from the step's number, and draws all the steps' arrays at once. -/
namespace Cert.KernelIdeal.Value
open Cert.KernelIdeal.Gen Idealize.ShloMosaic Idealize.ShloMosaic.TcCoe Idealize.ShloMosaic.StableHlo
open Cert.Threefry (At Ends val block group gen third through count words stepKey gumbel)
variable (W : Valuation τ sig (Elt Ideal))

/-- The first word of the key's pair before group `j`. -/
abbrev kx0 : Fin 6 → TRef sig ⟨S50x1, .i32⟩
  | 0 => .of main_call0_call0_v3 | 1 => .of main_call0_call0_v35 | 2 => .of main_call0_call0_v69
  | 3 => .of main_call0_call0_v103 | 4 => .of main_call0_call0_v137 | 5 => .of main_call0_v13_0
/-- The second word of the key's pair before group `j`. -/
abbrev kx1 : Fin 6 → TRef sig ⟨S50x1, .i32⟩
  | 0 => .of main_call0_call0_v5 | 1 => .of main_call0_call0_v39 | 2 => .of main_call0_call0_v73
  | 3 => .of main_call0_call0_v107 | 4 => .of main_call0_call0_v141 | 5 => .of main_call0_v13_1
/-- The key's keys and its pair before group `j`. -/
abbrev KeyAt (k : Fin 50) (j : Fin 6) := At (τ := τ) (sig := sig) (sk := S_) (s := S50x1)
  (.of main_call0_v8) (.of main_call0_v10) (.of main_call0_call0_v1) ix0 (ix2 k 0) (kx0 j) (kx1 j)

/-- Group `j`'s stretch carries the key's pair through the group. -/
theorem key_group (k : Fin 50) (u v w : BitVec 32) (j : Fin 5) (p : BitVec 32 × BitVec 32) (W : Valuation τ sig (Elt Ideal))
    (h : KeyAt k j.castSucc u v w p W) : KeyAt k j.succ u v w (group u v w j p) (after (block hostOps0_1 22 j) W) := by
  obtain ⟨a, b⟩ := p
  obtain ⟨⟨h0, h1, h2⟩, ha, hb⟩ := h
  refine ⟨⟨Eq.trans ?_ h0, Eq.trans ?_ h1, Eq.trans ?_ h2⟩, ?_, ?_⟩
  all_goals unfold block hostOps0_1
  all_goals try subst h0 h1 h2 ha hb
  all_goals fin_cases j
  all_goals
    simp only [Nat.reduceMul, Nat.reduceAdd, List.drop_succ_cons, List.drop_zero, List.take_succ_cons, List.take_zero, Fin.zero_eta,
      Fin.reduceFinMk, Fin.reduceSucc, Fin.isValue, kx0, kx1, val]
    after_results
  all_goals
    try simp only [TRef.ofBuf_toBuf]
    pointwise
    rfl

/-- The one-entry slice at 0 is entry 0. -/
theorem slice_fst (x : Vec Ideal S2 .i32) : extractStridedSlice S1 ![0] x slices_S2_S1_0 (ix1 0) = x (ix1 0) := by pointwise
/-- The one-entry slice at 1 is entry 1. -/
theorem slice_snd (x : Vec Ideal S2 .i32) : extractStridedSlice S1 ![1] x slices_S2_S1_1 (ix1 0) = x (ix1 1) := by pointwise

/-- What precedes the groups sets the pair up from the number and the key. -/
theorem key_start (k : Fin 50) {a u v : BitVec 32} (h : val W (.of main_v8 : TRef sig ⟨S50, .i32⟩) (ix1 k) = a)
    (h0 : val W (.of main_v6 : TRef sig ⟨S2, .i32⟩) (ix1 0) = u)
    (h1 : val W (.of main_v6 : TRef sig ⟨S2, .i32⟩) (ix1 1) = v) :
    KeyAt k 0 u v (third u v) (IntOp.addi (IntOp.shrui ArithUnit.host a 32#32) u, IntOp.addi (IntOp.andi a 4294967295#32) v)
      (after (hostOps0_1.take 22) W) := by
  subst h h0 h1
  refine ⟨⟨?_, ?_, ?_⟩, ?_, ?_⟩
  all_goals
    unfold hostOps0_1
    simp only [List.take_succ_cons, List.take_zero, val, kx0, kx1]
    after_results
    try simp only [TRef.ofBuf_toBuf]
    pointwise
  · exact slice_fst _
  · exact slice_snd _
  · exact congrArg₂ third (slice_fst _) (slice_snd _)
  · exact congrArg₂ IntOp.addi rfl (slice_fst _)
  · refine congrArg₂ IntOp.addi ?_ (slice_snd _)
    simp only [TRef.ofBuf_toBuf]
    pointwise

/-- What follows the groups sets the two words side by side. -/
theorem key_end {k : Fin 50} {p : BitVec 32 × BitVec 32} (h : val W (kx0 5) (ix2 k 0) = p.1 ∧ val W (kx1 5) (ix2 k 0) = p.2) :
    val (after (hostOps0_1.drop 237) W) (.of main_v9 : TRef sig ⟨S50x2, .i32⟩) (ix2 k 0) = p.1
    ∧ val (after (hostOps0_1.drop 237) W) (.of main_v9 : TRef sig ⟨S50x2, .i32⟩) (ix2 k 1) = p.2 := by
  refine ⟨Eq.trans ?_ h.1, Eq.trans ?_ h.2⟩
  all_goals
    unfold hostOps0_1
    simp only [List.drop_succ_cons, List.drop_zero, val, kx0, kx1]
    after_results
    try simp only [TRef.ofBuf_toBuf]
    pointwise
    try rfl

/-- The step's key. -/
theorem key_read (k : Fin 50) {a : BitVec 32} (h : val W (.of main_v8 : TRef sig ⟨S50, .i32⟩) (ix1 k) = a)
    (h0 : val W (.of main_v6 : TRef sig ⟨S2, .i32⟩) (ix1 0) = 0#32)
    (h1 : val W (.of main_v6 : TRef sig ⟨S2, .i32⟩) (ix1 1) = 42#32) :
    val (after hostOps0_1 W) (.of main_v9 : TRef sig ⟨S50x2, .i32⟩) (ix2 k 0) = (stepKey a).1
    ∧ val (after hostOps0_1 W) (.of main_v9 : TRef sig ⟨S50x2, .i32⟩) (ix2 k 1) = (stepKey a).2 := by
  obtain ⟨W', hW, h'⟩ := through (At' := fun j => KeyAt k j _ _ _) (key_group k _ _ _) (key_start W k h h0 h1)
  rw [hW]
  exact key_end W' h'.2

/-- The first word of an element's pair before group `j`. -/
abbrev nx0 : Fin 6 → TRef sig ⟨S50x1024x50, .i32⟩
  | 0 => .of main_call1_call0_call0_v5 | 1 => .of main_call1_call0_call0_v38 | 2 => .of main_call1_call0_call0_v72
  | 3 => .of main_call1_call0_call0_v106 | 4 => .of main_call1_call0_call0_v140 | 5 => .of main_call1_call0_v22_0
/-- The second word of an element's pair before group `j`. -/
abbrev nx1 : Fin 6 → TRef sig ⟨S50x1024x50, .i32⟩
  | 0 => .of main_call1_call0_call0_v8 | 1 => .of main_call1_call0_call0_v42 | 2 => .of main_call1_call0_call0_v76
  | 3 => .of main_call1_call0_call0_v110 | 4 => .of main_call1_call0_call0_v144 | 5 => .of main_call1_call0_v22_1
/-- The uniform number's ends, the step's key and the pair of element `(b, s)` before group `j`. -/
abbrev WordsAt (k : Fin 50) (b : Fin 1024) (s : Fin 50) (u v w : BitVec 32) (j : Fin 6) (p : BitVec 32 × BitVec 32) (W : Valuation τ sig (Elt Ideal)) : Prop :=
  Ends (sc := S1x1) (.of main_call1_call0_v1) (.of main_call1_call0_v2) (ix2 0 0) W
  ∧ At (τ := τ) (sig := sig) (sk := S50x1x1) (s := S50x1024x50) (.of main_call1_call0_v20) (.of main_call1_call0_v21)
      (.of main_call1_call0_call0_v2) (ix3 k 0 0) (ix3 k b s) (nx0 j) (nx1 j) u v w p W

/-- Group `j`'s stretch carries an element's pair through the group. -/
theorem words_group (k : Fin 50) (b : Fin 1024) (s : Fin 50) (u v w : BitVec 32) (j : Fin 5) (p : BitVec 32 × BitVec 32) (W : Valuation τ sig (Elt Ideal))
    (h : WordsAt k b s u v w j.castSucc p W) : WordsAt k b s u v w j.succ (group u v w j p) (after (block hostOps0_2 37 j) W) := by
  obtain ⟨a, a'⟩ := p
  obtain ⟨⟨e0, e1⟩, ⟨h0, h1, h2⟩, ha, hb⟩ := h
  refine ⟨⟨Eq.trans ?_ e0, Eq.trans ?_ e1⟩, ⟨Eq.trans ?_ h0, Eq.trans ?_ h1, Eq.trans ?_ h2⟩, ?_, ?_⟩
  all_goals unfold block hostOps0_2
  all_goals try subst h0 h1 h2 ha hb
  all_goals fin_cases j
  all_goals
    simp only [Nat.reduceMul, Nat.reduceAdd, List.drop_succ_cons, List.drop_zero, List.take_succ_cons, List.take_zero, Fin.zero_eta,
      Fin.reduceFinMk, Fin.reduceSucc, Fin.isValue, nx0, nx1, val]
    after_results
  all_goals
    try simp only [TRef.ofBuf_toBuf]
    pointwise
    rfl

/-- The one-column slice at 0 is column 0. -/
theorem column_fst (x : Vec Ideal S50x2 .i32) (k : Fin 50) : extractStridedSlice S50x1 ![0, 0] x slices_S50x2_S50x1_0_0 (ix2 k 0) = x (ix2 k 0) := by
  pointwise
/-- The one-column slice at 1 is column 1. -/
theorem column_snd (x : Vec Ideal S50x2 .i32) (k : Fin 50) : extractStridedSlice S50x1 ![0, 1] x slices_S50x2_S50x1_0_1 (ix2 k 0) = x (ix2 k 1) := by
  pointwise

/-- What precedes the groups sets the pair up from the element's number and the key. -/
theorem words_start (k : Fin 50) (b : Fin 1024) (s : Fin 50) {u v : BitVec 32}
    (h0 : val W (.of main_v9 : TRef sig ⟨S50x2, .i32⟩) (ix2 k 0) = u)
    (h1 : val W (.of main_v9 : TRef sig ⟨S50x2, .i32⟩) (ix2 k 1) = v) :
    WordsAt k b s u v (third u v) 0 (IntOp.addi ((IntOp.shrui ArithUnit.host (count b s) 32#64).setWidth 32) u,
      IntOp.addi ((count b s).setWidth 32) v) (after (hostOps0_2.take 37) W) := by
  subst h0 h1
  refine ⟨⟨?_, ?_⟩, ⟨?_, ?_, ?_⟩, ?_, ?_⟩
  all_goals
    unfold hostOps0_2
    simp only [List.take_succ_cons, List.take_zero, val, nx0, nx1]
    after_results
    try simp only [TRef.ofBuf_toBuf]
    try simp only [id]
    pointwise
  · rfl
  · exact column_fst _ k
  · exact column_snd _ k
  · exact congrArg₂ third (column_fst _ k) (column_snd _ k)
  · exact congrArg₂ IntOp.addi rfl (column_fst _ k)
  · exact congrArg₂ IntOp.addi rfl (column_snd _ k)

/-- What follows the groups turns the pair into noise. -/
theorem words_end {k : Fin 50} {b : Fin 1024} {s : Fin 50} {u v w : BitVec 32} {p : BitVec 32 × BitVec 32} (h : WordsAt k b s u v w 5 p W) :
    val (after (hostOps0_2.drop 252) W) (.of main_v10 : TRef sig ⟨S50x1024x50, .f32⟩) (ix3 k b s) = gumbel 1 Threefry.tiny p := by
  obtain ⟨a, a'⟩ := p
  obtain ⟨⟨e0, e1⟩, -, ha, hb⟩ := h
  rw [← e0, ← e1]
  subst ha hb
  unfold hostOps0_2
  simp only [List.drop_succ_cons, List.drop_zero, val, nx0, nx1]
  after_results
  try simp only [TRef.ofBuf_toBuf]
  pointwise
  rfl

/-- The step's noise under its key. -/
theorem words_read (k : Fin 50) (b : Fin 1024) (s : Fin 50) {u v : BitVec 32}
    (h0 : val W (.of main_v9 : TRef sig ⟨S50x2, .i32⟩) (ix2 k 0) = u)
    (h1 : val W (.of main_v9 : TRef sig ⟨S50x2, .i32⟩) (ix2 k 1) = v) :
    val (after hostOps0_2 W) (.of main_v10 : TRef sig ⟨S50x1024x50, .f32⟩) (ix3 k b s) = gumbel 1 Threefry.tiny (words u v b s) := by
  obtain ⟨W', hW, h'⟩ := through (At' := WordsAt k b s _ _ _) (words_group k b s _ _ _) (words_start W k b s h0 h1)
  rw [hW]
  exact words_end W' h'
/-- The first stretch makes the root key `(0, 42)` and the steps' numbers. -/
theorem root_read (k : Fin 50) : val (after hostOps0 W) (.of main_v6 : TRef sig ⟨S2, .i32⟩) (ix1 0) = 0#32
    ∧ val (after hostOps0 W) (.of main_v6 : TRef sig ⟨S2, .i32⟩) (ix1 1) = 42#32
    ∧ val (after hostOps0 W) (.of main_v8 : TRef sig ⟨S50, .i32⟩) (ix1 k) = BitVec.ofNat 32 k.val := by
  refine ⟨?_, ?_, ?_⟩
  all_goals
    unfold hostOps0
    simp only [val]
    after_results
    try simp only [TRef.ofBuf_toBuf]
    try simp only [id]
    pointwise
    try rfl

variable (m : (ℓ : Loc nD τ sig) → Buf (Elt Ideal) ℓ) (c : Dev nD)
/-- The host makes the generator's noise. -/
theorem noise_eq (k : Fin 50) (b : Fin 1024) (s : Fin 50) : noise m c k b s = Threefry.noise (BitVec.ofNat 32 k.val) b s := by
  have hU : U m c = after hostOps0_2 (after hostOps0_1 (after hostOps0 fun b => m (c, b))) := by
    unfold U opsHead
    simp only [List.flatten_cons, List.flatten_nil, List.append_nil, after_append]
  obtain ⟨h0, h1, h⟩ := root_read (fun b => m (c, b)) k
  obtain ⟨e0, e1⟩ := key_read _ k h h0 h1
  exact (congrArg (fun U : Valuation τ sig (Elt Ideal) => (U (Proc.devRef .tc main_v10) : Vec Ideal S50x1024x50 .f32) (ix3 k b s)) hU).trans
    (words_read _ k b s e0 e1)
end Cert.KernelIdeal.Value
-- ==== Proof.Equal.lean ====
module
public import proofs.«01_k».proof.Defs
public import proofs.«01_k».proof.Proof.RefNoise
public import proofs.«01_k».proof.Proof.KernelNoise
public import proofs.«01_k».proof.Proof.Gen.KernelIdeal.Run
@[expose] public section
set_option maxHeartbeats 1000000
noncomputable section
/-! From equal arguments the kernel and the reference end with equal results. -/
namespace Cert.KernelIdeal.Value
open Cert.KernelIdeal.Gen Idealize.ShloMosaic
open Cert.Model (Row)
open Cert.ReferenceIdeal.Value (out0 out1 out2 out3)

/-- The probabilities, batch row first. -/
theorem turn0 (P : Fin 1024 → Row) : transpose S1024x50x50 [2, 0, 1] (res0 P) transposes_S50x50x1024_S1024x50x50_2_0_1 = out0 P := by
  funext y
  obtain ⟨b, i, s, rfl⟩ : ∃ b i s, y = ix3 b i s := ⟨y 0, y 1, y 2, ValueIdx.eq_ix3 y⟩
  pointwise
  rfl
/-- A step-by-batch array, batch row first. -/
theorem turn {e : EltTy} (x : Vec Ideal S50x1024 e) (y : S1024x50.Idx) :
    transpose S1024x50 [1, 0] x transposes_S50x1024_S1024x50_1_0 y = x (ix2 (y 1) (y 0)) := by
  obtain ⟨b, i, rfl⟩ : ∃ b i, y = ix2 b i := ⟨y 0, y 1, ValueIdx.eq_ix2 y⟩
  pointwise

variable (m : (ℓ : Loc nD τ sig) → Buf (Elt Ideal) ℓ) (c : Dev nD)
/-- The rows of the kernel's arguments, with the noise its host makes. -/
abbrev rows : Fin 1024 → Row := (args m c).row (noise m c)
/-- The kernel ends with the model's values in its four results. -/
theorem final_eq : transpose S1024x50x50 [2, 0, 1] (reg_main_v46_0 m c) transposes_S50x50x1024_S1024x50x50_2_0_1 = out0 (rows m c)
    ∧ transpose S1024x50 [1, 0] (reg_main_v46_1 m c) transposes_S50x1024_S1024x50_1_0 = out1 (rows m c)
    ∧ transpose S1024x50 [1, 0] (reg_main_v46_2 m c) transposes_S50x1024_S1024x50_1_0 = out2 (rows m c)
    ∧ shapeCast S51200x1 (transpose S1024x50 [1, 0] (reg_main_v46_3 m c) transposes_S50x1024_S1024x50_1_0) shapeCasts_S1024x50_S51200x1
      = out3 (rows m c) := by
  have h t j := stagedOf m c t j
  have e0 : reg_main_v46_0 m c = res0 (rows m c) := arr16 (P := rows m c) h
  have e1 : reg_main_v46_1 m c = res1 (rows m c) := arr17 (P := rows m c) h
  have e2 : reg_main_v46_2 m c = res2 (rows m c) := arr18 (P := rows m c) h
  have e3 : reg_main_v46_3 m c = res3 (rows m c) := arr19 (P := rows m c) h
  rw [e0, e1, e2, e3]
  have e : transpose S1024x50 [1, 0] (res3 (rows m c)) transposes_S50x1024_S1024x50_1_0
      = (fun y => ((rows m c (y 0)).at_ 50).sc (y 1) : Vec Ideal S1024x50 .f32) := funext (turn _)
  exact ⟨turn0 _, funext (turn _), funext (turn _), congrArg (fun x => shapeCast S51200x1 x shapeCasts_S1024x50_S51200x1) e⟩
end Cert.KernelIdeal.Value

namespace Cert.Equal
open Idealize.ShloMosaic

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
/-- Both programs draw the same noise. -/
theorem noise_eq : ReferenceIdeal.Value.noise m' c = KernelIdeal.Value.noise m c := by
  funext k b s
  exact (ReferenceIdeal.Value.noise_eq m' c k b s).trans (KernelIdeal.Value.noise_eq m c k b s).symm
end Cert.Equal

namespace Cert
open Idealize.ShloMosaic Idealize.SL.Sem

/-- The kernel and the reference, from memories that agree on the arguments, end with equal results and the arguments unchanged. -/
theorem equal : algebraic_KernelIdeal_ReferenceIdeal (hKernelIdeal := KernelIdeal.Gen.facts) (hReferenceIdeal := ReferenceIdeal.Gen.facts) := by
  intro m g m' g' _ hargs
  have hrows (c : Dev KernelIdeal.nD) : (ReferenceIdeal.Value.args m' c).row (ReferenceIdeal.Value.noise m' c) = KernelIdeal.Value.rows m c := by
    obtain ⟨h0, h1, h2, h3, h4, h5, h6, h7, h8, h9, h10, h11, h12⟩ := hargs c
    have e : ReferenceIdeal.Value.args m' c = KernelIdeal.Value.args m c := by
      unfold ReferenceIdeal.Value.args KernelIdeal.Value.args
      congr 1
    rw [e, Equal.noise_eq m m' c]
  refine ⟨fun c => ReferenceIdeal.Value.out0 (KernelIdeal.Value.rows m c), fun c => ReferenceIdeal.Value.out1 (KernelIdeal.Value.rows m c),
    fun c => ReferenceIdeal.Value.out2 (KernelIdeal.Value.rows m c), fun c => ReferenceIdeal.Value.out3 (KernelIdeal.Value.rows m c), ?_, ?_⟩
  · refine (θ_run _ _ _).mono (fun r h c => ?_) (KernelIdeal.Value.run m g)
    obtain ⟨r0, r1, r2, r3, ha⟩ := h c
    obtain ⟨e0, e1, e2, e3⟩ := KernelIdeal.Value.final_eq m c
    exact ⟨r0.trans e0, r1.trans e1, r2.trans e2, r3.trans e3, ha⟩
  · refine (θ_run _ _ _).mono (fun r h c => ?_) (ReferenceIdeal.Value.run m' g')
    obtain ⟨r0, r1, r2, r3, ha⟩ := h c
    obtain ⟨e0, e1, e2, e3⟩ := ReferenceIdeal.Value.final_eq m' c
    rw [hrows c] at e0 e1 e2 e3
    exact ⟨r0.trans e0, r1.trans e1, r2.trans e2, r3.trans e3, ha⟩
end Cert
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.ReferenceFrame
public import proofs.«01_k».proof.Proof.Gen.KernelIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => Cert.ReferenceIdeal.Value.frame m g, trivial, Cert.equal⟩

end Cert.Proof

end
